-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_v220_0) = v1 c
          ∧ r.2.mem ((c.tc : Thread Cert.ReferenceIdeal.nD Cert.ReferenceIdeal.τ).loc Cert.ReferenceIdeal.main_v208) = v2 c
          ∧ r.2.mem ((c.tc : Thread Cert.ReferenceIdeal.nD Cert.ReferenceIdeal.τ).loc Cert.ReferenceIdeal.main_v220_1) = v3 c
          ∧ r.2.mem ((c.tc : Thread Cert.ReferenceIdeal.nD Cert.ReferenceIdeal.τ).loc Cert.ReferenceIdeal.main_v212) = v4 c
          ∧ r.2.mem ((c.tc : Thread Cert.ReferenceIdeal.nD Cert.ReferenceIdeal.τ).loc Cert.ReferenceIdeal.main_v220_2) = v5 c
          ∧ r.2.mem ((c.tc : Thread Cert.ReferenceIdeal.nD Cert.ReferenceIdeal.τ).loc Cert.ReferenceIdeal.main_v216) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x2048x4096 : Shape := ⟨3, ![8, 2048, 4096]⟩
abbrev S8x2048x1024 : Shape := ⟨3, ![8, 2048, 1024]⟩
abbrev S_ : Shape := ⟨0, ![]⟩

class Facts : Prop where
  bitsLt_bf16_f32 : FTy.bits .bf16 < FTy.bits .f32
  bcast_S_S8x2048x4096 : S_.BroadcastsInDim S8x2048x4096 (![] : Fin 0 → Fin S8x2048x4096.rank)
  bcast_S_S8x2048x1024 : S_.BroadcastsInDim S8x2048x1024 (![] : Fin 0 → Fin S8x2048x1024.rank)

variable [Facts]

def fn {F : FTy → Type} [FloatOps F] (main_arg0 : FVec F S8x2048x4096 .bf16) (main_arg1 : FVec F S8x2048x1024 .bf16) (main_arg2 : FVec F S8x2048x1024 .bf16) : IVec S8x2048x4096 1 × IVec S8x2048x1024 1 × IVec S8x2048x1024 1 :=
  let main_v0 : FVec F S8x2048x4096 .f32 := (extf .f32 · bitsLt_bf16_f32) main_arg0
  let main_v1 : FVec F S8x2048x4096 .f32 := Host.absf main_v0
  let main_cst : FVec F S_ .f32 := constant S_ .f32 0x7F7F0000#32
  let main_v2 : FVec F S8x2048x4096 .f32 := broadcastInDim S8x2048x4096 ![] bcast_S_S8x2048x4096 main_cst
  let main_v3 : IVec S8x2048x4096 1 := cmpf .ole main_v1 main_v2
  let main_v4 : FVec F S8x2048x1024 .f32 := (extf .f32 · bitsLt_bf16_f32) main_arg1
  let main_v5 : FVec F S8x2048x1024 .f32 := Host.absf main_v4
  let main_cst_0 : FVec F S_ .f32 := constant S_ .f32 0x7F7F0000#32
  let main_v6 : FVec F S8x2048x1024 .f32 := broadcastInDim S8x2048x1024 ![] bcast_S_S8x2048x1024 main_cst_0
  let main_v7 : IVec S8x2048x1024 1 := cmpf .ole main_v5 main_v6
  let main_v8 : FVec F S8x2048x1024 .f32 := (extf .f32 · bitsLt_bf16_f32) main_arg2
  let main_v9 : FVec F S8x2048x1024 .f32 := Host.absf main_v8
  let main_cst_1 : FVec F S_ .f32 := constant S_ .f32 0x7F7F0000#32
  let main_v10 : FVec F S8x2048x1024 .f32 := broadcastInDim S8x2048x1024 ![] bcast_S_S8x2048x1024 main_cst_1
  let main_v11 : IVec S8x2048x1024 1 := cmpf .ole main_v9 main_v10
  (main_v3, main_v7, main_v11)
-- ==== Kernel.lean ====
abbrev S8x2048x4096 : Shape := ⟨3, ![8, 2048, 4096]⟩
abbrev S8x2048x1024 : Shape := ⟨3, ![8, 2048, 1024]⟩
abbrev S8x8x16x1024 : Shape := ⟨4, ![8, 8, 16, 1024]⟩
abbrev S8x8x16x128 : Shape := ⟨4, ![8, 8, 16, 128]⟩
abbrev S1x2048x512 : Shape := ⟨3, ![1, 2048, 512]⟩
abbrev S1x2048x128 : Shape := ⟨3, ![1, 2048, 128]⟩
abbrev S1x1x16x1024 : Shape := ⟨4, ![1, 1, 16, 1024]⟩
abbrev S1x1x16x128 : Shape := ⟨4, ![1, 1, 16, 128]⟩
abbrev S16x4x256x128 : Shape := ⟨4, ![16, 4, 256, 128]⟩
abbrev S2x2048x128 : Shape := ⟨3, ![2, 2048, 128]⟩
abbrev S128x2048 : Shape := ⟨2, ![128, 2048]⟩
abbrev S16x512 : Shape := ⟨2, ![16, 512]⟩
abbrev S2x16x256 : Shape := ⟨3, ![2, 16, 256]⟩
abbrev S2x2048x256 : Shape := ⟨3, ![2, 2048, 256]⟩
abbrev S2x2x128x128 : Shape := ⟨4, ![2, 2, 128, 128]⟩
abbrev S2x4x16x256 : Shape := ⟨4, ![2, 4, 16, 256]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩
abbrev S16x128 : Shape := ⟨2, ![16, 128]⟩
abbrev S16 : Shape := ⟨1, ![16]⟩
abbrev S16x1 : Shape := ⟨2, ![16, 1]⟩
abbrev S16x256 : Shape := ⟨2, ![16, 256]⟩
abbrev S1x16x256 : Shape := ⟨3, ![1, 16, 256]⟩
abbrev S1x128x512 : Shape := ⟨3, ![1, 128, 512]⟩
abbrev S128x512 : Shape := ⟨2, ![128, 512]⟩
abbrev S512 : Shape := ⟨1, ![512]⟩
abbrev S1x512 : Shape := ⟨2, ![1, 512]⟩
abbrev S1x1x128x128 : Shape := ⟨4, ![1, 1, 128, 128]⟩
abbrev S1x1x256x128 : Shape := ⟨4, ![1, 1, 256, 128]⟩
abbrev S256x128 : Shape := ⟨2, ![256, 128]⟩
abbrev S128x256 : Shape := ⟨2, ![128, 256]⟩
abbrev S1x128x256 : Shape := ⟨3, ![1, 128, 256]⟩
abbrev S16x8x256 : Shape := ⟨3, ![16, 8, 256]⟩
abbrev S8x256 : Shape := ⟨2, ![8, 256]⟩
abbrev S8x128 : Shape := ⟨2, ![8, 128]⟩
abbrev S1x1x8x128 : Shape := ⟨4, ![1, 1, 8, 128]⟩
abbrev S1x1x1x256 : Shape := ⟨4, ![1, 1, 1, 256]⟩
abbrev S1x256 : Shape := ⟨2, ![1, 256]⟩
abbrev S256 : Shape := ⟨1, ![256]⟩
abbrev S1x1x16x256 : Shape := ⟨4, ![1, 1, 16, 256]⟩
abbrev S64x256 : Shape := ⟨2, ![64, 256]⟩
abbrev S64x128 : Shape := ⟨2, ![64, 128]⟩

abbrev nBuf : Space → Nat
  | .hbm => 10
  | .vmem => 30
  | .smem => 0
  | _ => 0

abbrev bufTy : (tb : Table) → Fin (tcTables nBuf tb) → BufTy
  | .hbm, ⟨0, _⟩ => ⟨S8x2048x4096, .bf16⟩
  | .hbm, ⟨1, _⟩ => ⟨S8x2048x1024, .bf16⟩
  | .hbm, ⟨2, _⟩ => ⟨S8x2048x1024, .bf16⟩
  | .hbm, ⟨3, _⟩ => ⟨S8x2048x4096, .bf16⟩
  | .hbm, ⟨4, _⟩ => ⟨S8x2048x4096, .fp8e4m3⟩
  | .hbm, ⟨5, _⟩ => ⟨S8x8x16x1024, .f32⟩
  | .hbm, ⟨6, _⟩ => ⟨S8x2048x1024, .fp8e4m3⟩
  | .hbm, ⟨7, _⟩ => ⟨S8x8x16x128, .f32⟩
  | .hbm, ⟨8, _⟩ => ⟨S8x2048x1024, .fp8e4m3⟩
  | .hbm, ⟨9, _⟩ => ⟨S8x8x16x128, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .fp8e4m3⟩
  | .local _ .vmem, ⟨9, _⟩ => ⟨S1x2048x512, .fp8e4m3⟩
  | .local _ .vmem, ⟨10, _⟩ => ⟨S1x1x16x1024, .f32⟩
  | .local _ .vmem, ⟨11, _⟩ => ⟨S1x1x16x1024, .f32⟩
  | .local _ .vmem, ⟨12, _⟩ => ⟨S1x2048x128, .fp8e4m3⟩
  | .local _ .vmem, ⟨13, _⟩ => ⟨S1x2048x128, .fp8e4m3⟩
  | .local _ .vmem, ⟨14, _⟩ => ⟨S1x1x16x128, .f32⟩
  | .local _ .vmem, ⟨15, _⟩ => ⟨S1x1x16x128, .f32⟩
  | .local _ .vmem, ⟨16, _⟩ => ⟨S1x2048x128, .fp8e4m3⟩
  | .local _ .vmem, ⟨17, _⟩ => ⟨S1x2048x128, .fp8e4m3⟩
  | .local _ .vmem, ⟨18, _⟩ => ⟨S1x1x16x128, .f32⟩
  | .local _ .vmem, ⟨19, _⟩ => ⟨S1x1x16x128, .f32⟩
  | .local _ .vmem, ⟨20, _⟩ => ⟨S16x4x256x128, .fp8e4m3⟩
  | .local _ .vmem, ⟨21, _⟩ => ⟨S2x2048x128, .fp8e4m3⟩
  | .local _ .vmem, ⟨22, _⟩ => ⟨S128x2048, .fp8e4m3⟩
  | .local _ .vmem, ⟨23, _⟩ => ⟨S16x512, .f32⟩
  | .local _ .vmem, ⟨24, _⟩ => ⟨S16x512, .f32⟩
  | .local _ .vmem, ⟨25, _⟩ => ⟨S2x16x256, .f32⟩
  | .local _ .vmem, ⟨26, _⟩ => ⟨S2x16x256, .f32⟩
  | .local _ .vmem, ⟨27, _⟩ => ⟨S2x2048x256, .f32⟩
  | .local _ .vmem, ⟨28, _⟩ => ⟨S2x2x128x128, .f32⟩
  | .local _ .vmem, ⟨29, _⟩ => ⟨S2x4x16x256, .f32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_736 : BitVec 32 := 0#32
  let c16_i32_737 : BitVec 32 := 16#32
  let v1601 : BitVec 32 := Scalar.addi c0_i32_736 c16_i32_737
  let c1_i32_738 : BitVec 32 := 1#32
  ⟨c0_i32_736, v1601, c1_i32_738⟩
def k0_off1 (k0_t1 : Fin k0_t1_loop.trips) : Fin 3 → Nat :=
  let c0_1225 : Index := 0#32
  let c0_i32_736 : BitVec 32 := 0#32
  let c1_i32_738 : BitVec 32 := 1#32
  let arg22 : BitVec 32 := Scf.iv c0_i32_736 c1_i32_738 k0_t1
  let c128_i32_1224 : BitVec 32 := 128#32
  let v2860 : BitVec 32 := Scalar.muli arg22 c128_i32_1224
  let v2861 : Index := Scalar.indexCast v2860
  let c0_1226 : Index := 0#32
  ![0, v2861.toNat, 0]
def k0_off2 (k0_t1 : Fin k0_t1_loop.trips) : Fin 2 → Nat :=
  let c0_i32_736 : BitVec 32 := 0#32
  let c1_i32_738 : BitVec 32 := 1#32
  let arg22 : BitVec 32 := Scf.iv c0_i32_736 c1_i32_738 k0_t1
  let v2868 : Index := Scalar.indexCast arg22
  let c0_1228 : Index := 0#32
  ![v2868.toNat, 0]
@[reducible] def k0_t2_loop : Scf.Loop 32 :=
  let c0_i32_1216 : BitVec 32 := 0#32
  let c16_i32_1217 : BitVec 32 := 16#32
  let v2858 : BitVec 32 := Scalar.addi c0_i32_1216 c16_i32_1217
  let c1_i32_1218 : BitVec 32 := 1#32
  ⟨c0_i32_1216, v2858, c1_i32_1218⟩
def k0_off3 (k0_t2 : Fin k0_t2_loop.trips) : Fin 3 → Nat :=
  let c0_1225 : Index := 0#32
  let c0_i32_1216 : BitVec 32 := 0#32
  let c1_i32_1218 : BitVec 32 := 1#32
  let arg22 : BitVec 32 := Scf.iv c0_i32_1216 c1_i32_1218 k0_t2
  let c128_i32_1224 : BitVec 32 := 128#32
  let v2860 : BitVec 32 := Scalar.muli arg22 c128_i32_1224
  let v2861 : Index := Scalar.indexCast v2860
  let c0_1226 : Index := 0#32
  ![0, v2861.toNat, 0]
def k0_off4 (k0_t2 : Fin k0_t2_loop.trips) : Fin 2 → Nat :=
  let c0_i32_1216 : BitVec 32 := 0#32
  let c1_i32_1218 : BitVec 32 := 1#32
  let arg22 : BitVec 32 := Scf.iv c0_i32_1216 c1_i32_1218 k0_t2
  let v2865 : Index := Scalar.indexCast arg22
  let c0_1227 : Index := 0#32
  ![v2865.toNat, 0]
def k0_off5 (k0_t2 : Fin k0_t2_loop.trips) : Fin 4 → Nat :=
  let c0_i32_1216 : BitVec 32 := 0#32
  let c1_i32_1218 : BitVec 32 := 1#32
  let arg22 : BitVec 32 := Scf.iv c0_i32_1216 c1_i32_1218 k0_t2
  let v2884 : Index := Scalar.indexCast arg22
  let c0_1233 : Index := 0#32
  let c0_1234 : Index := 0#32
  let c0_1235 : Index := 0#32
  ![v2884.toNat, 0, 0, 0]
def k0_off6 (k0_t2 : Fin k0_t2_loop.trips) : Fin 4 → Nat :=
  let c0_i32_1216 : BitVec 32 := 0#32
  let c1_i32_1218 : BitVec 32 := 1#32
  let arg22 : BitVec 32 := Scf.iv c0_i32_1216 c1_i32_1218 k0_t2
  let v2893 : Index := Scalar.indexCast arg22
  let c0_1237 : Index := 0#32
  let c128_1238 : Index := 128#32
  let c0_1239 : Index := 0#32
  ![v2893.toNat, 0, 128, 0]
def k0_off7 (k0_t2 : Fin k0_t2_loop.trips) : Fin 4 → Nat :=
  let c0_i32_1216 : BitVec 32 := 0#32
  let c1_i32_1218 : BitVec 32 := 1#32
  let arg22 : BitVec 32 := Scf.iv c0_i32_1216 c1_i32_1218 k0_t2
  let v2903 : Index := Scalar.indexCast arg22
  let c1_1241 : Index := 1#32
  let c0_1242 : Index := 0#32
  let c0_1243 : Index := 0#32
  ![v2903.toNat, 1, 0, 0]
def k0_off8 (k0_t2 : Fin k0_t2_loop.trips) : Fin 4 → Nat :=
  let c0_i32_1216 : BitVec 32 := 0#32
  let c1_i32_1218 : BitVec 32 := 1#32
  let arg22 : BitVec 32 := Scf.iv c0_i32_1216 c1_i32_1218 k0_t2
  let v2912 : Index := Scalar.indexCast arg22
  let c1_1245 : Index := 1#32
  let c128_1246 : Index := 128#32
  let c0_1247 : Index := 0#32
  ![v2912.toNat, 1, 128, 0]
def k0_off9 (k0_t2 : Fin k0_t2_loop.trips) : Fin 4 → Nat :=
  let c0_i32_1216 : BitVec 32 := 0#32
  let c1_i32_1218 : BitVec 32 := 1#32
  let arg22 : BitVec 32 := Scf.iv c0_i32_1216 c1_i32_1218 k0_t2
  let v2922 : Index := Scalar.indexCast arg22
  let c2 : Index := 2#32
  let c0_1249 : Index := 0#32
  let c0_1250 : Index := 0#32
  ![v2922.toNat, 2, 0, 0]
def k0_off10 (k0_t2 : Fin k0_t2_loop.trips) : Fin 4 → Nat :=
  let c0_i32_1216 : BitVec 32 := 0#32
  let c1_i32_1218 : BitVec 32 := 1#32
  let arg22 : BitVec 32 := Scf.iv c0_i32_1216 c1_i32_1218 k0_t2
  let v2931 : Index := Scalar.indexCast arg22
  let c2_1252 : Index := 2#32
  let c128_1253 : Index := 128#32
  let c0_1254 : Index := 0#32
  ![v2931.toNat, 2, 128, 0]
def k0_off11 (k0_t2 : Fin k0_t2_loop.trips) : Fin 4 → Nat :=
  let c0_i32_1216 : BitVec 32 := 0#32
  let c1_i32_1218 : BitVec 32 := 1#32
  let arg22 : BitVec 32 := Scf.iv c0_i32_1216 c1_i32_1218 k0_t2
  let v2941 : Index := Scalar.indexCast arg22
  let c3 : Index := 3#32
  let c0_1256 : Index := 0#32
  let c0_1257 : Index := 0#32
  ![v2941.toNat, 3, 0, 0]
def k0_off12 (k0_t2 : Fin k0_t2_loop.trips) : Fin 4 → Nat :=
  let c0_i32_1216 : BitVec 32 := 0#32
  let c1_i32_1218 : BitVec 32 := 1#32
  let arg22 : BitVec 32 := Scf.iv c0_i32_1216 c1_i32_1218 k0_t2
  let v2950 : Index := Scalar.indexCast arg22
  let c3_1259 : Index := 3#32
  let c128_1260 : Index := 128#32
  let c0_1261 : Index := 0#32
  ![v2950.toNat, 3, 128, 0]
@[reducible] def k0_t3_loop : Scf.Loop 32 :=
  let c0_i32_1220 : BitVec 32 := 0#32
  let c16_i32_1221 : BitVec 32 := 16#32
  let v2859 : BitVec 32 := Scalar.addi c0_i32_1220 c16_i32_1221
  let c1_i32_1222 : BitVec 32 := 1#32
  ⟨c0_i32_1220, v2859, c1_i32_1222⟩
def k0_off13 (k0_t3 : Fin k0_t3_loop.trips) : Fin 4 → Nat :=
  let c0_i32_1220 : BitVec 32 := 0#32
  let c1_i32_1222 : BitVec 32 := 1#32
  let arg22 : BitVec 32 := Scf.iv c0_i32_1220 c1_i32_1222 k0_t3
  let v2860 : Index := Scalar.indexCast arg22
  let c0_1224 : Index := 0#32
  let c0_1225 : Index := 0#32
  let c0_1226 : Index := 0#32
  ![v2860.toNat, 0, 0, 0]
def k0_off14 (k0_t3 : Fin k0_t3_loop.trips) : Fin 4 → Nat :=
  let c0_1526 : Index := 0#32
  let c0_1527 : Index := 0#32
  let c0_i32_1220 : BitVec 32 := 0#32
  let c1_i32_1222 : BitVec 32 := 1#32
  let arg22 : BitVec 32 := Scf.iv c0_i32_1220 c1_i32_1222 k0_t3
  let v3166 : Index := Scalar.indexCast arg22
  let c0_1528 : Index := 0#32
  ![0, 0, v3166.toNat, 0]
def k0_off15 (k0_t3 : Fin k0_t3_loop.trips) : Fin 3 → Nat :=
  let c0_1986 : Index := 0#32
  let c0_i32_1220 : BitVec 32 := 0#32
  let c1_i32_1222 : BitVec 32 := 1#32
  let arg22 : BitVec 32 := Scf.iv c0_i32_1220 c1_i32_1222 k0_t3
  let c128_i32_1985 : BitVec 32 := 128#32
  let v3787 : BitVec 32 := Scalar.muli arg22 c128_i32_1985
  let v3788 : Index := Scalar.indexCast v3787
  let c0_1987 : Index := 0#32
  ![0, v3788.toNat, 0]
def k0_off16 (k0_t3 : Fin k0_t3_loop.trips) : Fin 4 → Nat :=
  let c0_i32_1220 : BitVec 32 := 0#32
  let c1_i32_1222 : BitVec 32 := 1#32
  let arg22 : BitVec 32 := Scf.iv c0_i32_1220 c1_i32_1222 k0_t3
  let v3792 : Index := Scalar.indexCast arg22
  let c1_1988 : Index := 1#32
  let c0_1989 : Index := 0#32
  let c0_1990 : Index := 0#32
  ![v3792.toNat, 1, 0, 0]
def k0_off17 (k0_t3 : Fin k0_t3_loop.trips) : Fin 4 → Nat :=
  let c0_2311 : Index := 0#32
  let c0_2312 : Index := 0#32
  let c0_i32_1220 : BitVec 32 := 0#32
  let c1_i32_1222 : BitVec 32 := 1#32
  let arg22 : BitVec 32 := Scf.iv c0_i32_1220 c1_i32_1222 k0_t3
  let v4098 : Index := Scalar.indexCast arg22
  let c256_2313 : Index := 256#32
  ![0, 0, v4098.toNat, 256]
def k0_off18 (k0_t3 : Fin k0_t3_loop.trips) : Fin 3 → Nat :=
  let c0_2778 : Index := 0#32
  let c0_i32_1220 : BitVec 32 := 0#32
  let c1_i32_1222 : BitVec 32 := 1#32
  let arg22 : BitVec 32 := Scf.iv c0_i32_1220 c1_i32_1222 k0_t3
  let c128_i32_2777 : BitVec 32 := 128#32
  let v4719 : BitVec 32 := Scalar.muli arg22 c128_i32_2777
  let v4720 : Index := Scalar.indexCast v4719
  let c128_2779 : Index := 128#32
  ![0, v4720.toNat, 128]
def k0_off19 (k0_t3 : Fin k0_t3_loop.trips) : Fin 4 → Nat :=
  let c0_i32_1220 : BitVec 32 := 0#32
  let c1_i32_1222 : BitVec 32 := 1#32
  let arg22 : BitVec 32 := Scf.iv c0_i32_1220 c1_i32_1222 k0_t3
  let v4724 : Index := Scalar.indexCast arg22
  let c2_2780 : Index := 2#32
  let c0_2781 : Index := 0#32
  let c0_2782 : Index := 0#32
  ![v4724.toNat, 2, 0, 0]
def k0_off20 (k0_t3 : Fin k0_t3_loop.trips) : Fin 4 → Nat :=
  let c0_3103 : Index := 0#32
  let c0_3104 : Index := 0#32
  let c0_i32_1220 : BitVec 32 := 0#32
  let c1_i32_1222 : BitVec 32 := 1#32
  let arg22 : BitVec 32 := Scf.iv c0_i32_1220 c1_i32_1222 k0_t3
  let v5030 : Index := Scalar.indexCast arg22
  let c512_3105 : Index := 512#32
  ![0, 0, v5030.toNat, 512]
def k0_off21 (k0_t3 : Fin k0_t3_loop.trips) : Fin 3 → Nat :=
  let c0_3570 : Index := 0#32
  let c0_i32_1220 : BitVec 32 := 0#32
  let c1_i32_1222 : BitVec 32 := 1#32
  let arg22 : BitVec 32 := Scf.iv c0_i32_1220 c1_i32_1222 k0_t3
  let c128_i32_3569 : BitVec 32 := 128#32
  let v5651 : BitVec 32 := Scalar.muli arg22 c128_i32_3569
  let v5652 : Index := Scalar.indexCast v5651
  let c256_3571 : Index := 256#32
  ![0, v5652.toNat, 256]
def k0_off22 (k0_t3 : Fin k0_t3_loop.trips) : Fin 4 → Nat :=
  let c0_i32_1220 : BitVec 32 := 0#32
  let c1_i32_1222 : BitVec 32 := 1#32
  let arg22 : BitVec 32 := Scf.iv c0_i32_1220 c1_i32_1222 k0_t3
  let v5656 : Index := Scalar.indexCast arg22
  let c3_3572 : Index := 3#32
  let c0_3573 : Index := 0#32
  let c0_3574 : Index := 0#32
  ![v5656.toNat, 3, 0, 0]
def k0_off23 (k0_t3 : Fin k0_t3_loop.trips) : Fin 4 → Nat :=
  let c0_3895 : Index := 0#32
  let c0_3896 : Index := 0#32
  let c0_i32_1220 : BitVec 32 := 0#32
  let c1_i32_1222 : BitVec 32 := 1#32
  let arg22 : BitVec 32 := Scf.iv c0_i32_1220 c1_i32_1222 k0_t3
  let v5962 : Index := Scalar.indexCast arg22
  let c768_3897 : Index := 768#32
  ![0, 0, v5962.toNat, 768]
def k0_off24 (k0_t3 : Fin k0_t3_loop.trips) : Fin 3 → Nat :=
  let c0_4362 : Index := 0#32
  let c0_i32_1220 : BitVec 32 := 0#32
  let c1_i32_1222 : BitVec 32 := 1#32
  let arg22 : BitVec 32 := Scf.iv c0_i32_1220 c1_i32_1222 k0_t3
  let c128_i32_4361 : BitVec 32 := 128#32
  let v6583 : BitVec 32 := Scalar.muli arg22 c128_i32_4361
  let v6584 : Index := Scalar.indexCast v6583
  let c384_4363 : Index := 384#32
  ![0, v6584.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S8x2048x4096 : Shape := ⟨3, ![8, 2048, 4096]⟩
abbrev S8x2048x1024 : Shape := ⟨3, ![8, 2048, 1024]⟩
abbrev S8x16x128x64x64 : Shape := ⟨5, ![8, 16, 128, 64, 64]⟩
abbrev S_ : Shape := ⟨0, ![]⟩
abbrev S8x16x64 : Shape := ⟨3, ![8, 16, 64]⟩
abbrev S8x16x1x64x1 : Shape := ⟨5, ![8, 16, 1, 64, 1]⟩
abbrev S254 : Shape := ⟨1, ![254]⟩
abbrev S8x16x1x64x1x1 : Shape := ⟨6, ![8, 16, 1, 64, 1, 1]⟩
abbrev S1x1x1x1x1x254 : Shape := ⟨6, ![1, 1, 1, 1, 1, 254]⟩
abbrev S8x16x1x64x1x254 : Shape := ⟨6, ![8, 16, 1, 64, 1, 254]⟩
abbrev S8x16x128x16x64 : Shape := ⟨5, ![8, 16, 128, 16, 64]⟩
abbrev S8x16x16 : Shape := ⟨3, ![8, 16, 16]⟩
abbrev S8x16x1x16x1 : Shape := ⟨5, ![8, 16, 1, 16, 1]⟩
abbrev S8x16x1x16x1x1 : Shape := ⟨6, ![8, 16, 1, 16, 1, 1]⟩
abbrev S8x16x1x16x1x254 : Shape := ⟨6, ![8, 16, 1, 16, 1, 254]⟩
abbrev S8x16x128x16x4x64 : Shape := ⟨6, ![8, 16, 128, 16, 4, 64]⟩
abbrev S8x16x16x4 : Shape := ⟨4, ![8, 16, 16, 4]⟩
abbrev S8x16x4x16 : Shape := ⟨4, ![8, 16, 4, 16]⟩
abbrev S8x16x4x16x1x1x1 : Shape := ⟨7, ![8, 16, 4, 16, 1, 1, 1]⟩
abbrev S8x16x1x1x1x16x1 : Shape := ⟨7, ![8, 16, 1, 1, 1, 16, 1]⟩
abbrev S8x16x16x128x16x128x4 : Shape := ⟨7, ![8, 16, 16, 128, 16, 128, 4]⟩
abbrev S8x16x4x16x128x16x128 : Shape := ⟨7, ![8, 16, 4, 16, 128, 16, 128]⟩
abbrev S8x16x4x16x1x16x1 : Shape := ⟨7, ![8, 16, 4, 16, 1, 16, 1]⟩
abbrev S8x16x4x16x128 : Shape := ⟨5, ![8, 16, 4, 16, 128]⟩
abbrev S8x16x4x16x128x1x1 : Shape := ⟨7, ![8, 16, 4, 16, 128, 1, 1]⟩
abbrev S8x16x4x16x128x16 : Shape := ⟨6, ![8, 16, 4, 16, 128, 16]⟩
abbrev S8x16x4x16x128x16x1 : Shape := ⟨7, ![8, 16, 4, 16, 128, 16, 1]⟩
abbrev S8x16x4x16x128x16x1x1 : Shape := ⟨8, ![8, 16, 4, 16, 128, 16, 1, 1]⟩
abbrev S1x1x1x1x1x1x1x254 : Shape := ⟨8, ![1, 1, 1, 1, 1, 1, 1, 254]⟩
abbrev S8x16x4x16x128x16x1x254 : Shape := ⟨8, ![8, 16, 4, 16, 128, 16, 1, 254]⟩
abbrev S8x16x16x64x4x16x128 : Shape := ⟨7, ![8, 16, 16, 64, 4, 16, 128]⟩
abbrev S8x16x4x16x128x16x64 : Shape := ⟨7, ![8, 16, 4, 16, 128, 16, 64]⟩
abbrev S8x16x4x16x128x64 : Shape := ⟨6, ![8, 16, 4, 16, 128, 64]⟩
abbrev S8x16x4x16x128x1 : Shape := ⟨6, ![8, 16, 4, 16, 128, 1]⟩
abbrev S8x16x8x8 : Shape := ⟨4, ![8, 16, 8, 8]⟩
abbrev S8x8x16x8 : Shape := ⟨4, ![8, 8, 16, 8]⟩
abbrev S8x8x16x8x128 : Shape := ⟨5, ![8, 8, 16, 8, 128]⟩
abbrev S8x8x16x1024 : Shape := ⟨4, ![8, 8, 16, 1024]⟩
abbrev S8x16x8x2 : Shape := ⟨4, ![8, 16, 8, 2]⟩
abbrev S8x8x16x2 : Shape := ⟨4, ![8, 8, 16, 2]⟩
abbrev S8x8x16x2x64 : Shape := ⟨5, ![8, 8, 16, 2, 64]⟩
abbrev S8x8x16x128 : Shape := ⟨4, ![8, 8, 16, 128]⟩

abbrev nBuf : Space → Nat
  | .hbm => 286
  | .vmem => 6
  | .smem => 0
  | _ => 0

abbrev hbmTy0_0 (i : Nat) : BufTy := match i % 128 with
  | 0 => ⟨S8x2048x4096, .bf16⟩
  | 1 => ⟨S8x2048x1024, .bf16⟩
  | 2 => ⟨S8x2048x1024, .bf16⟩
  | 3 => ⟨S8x16x128x64x64, .bf16⟩
  | 4 => ⟨S8x16x128x64x64, .f32⟩
  | 5 => ⟨S8x16x128x64x64, .f32⟩
  | 6 => ⟨S_, .f32⟩
  | 7 => ⟨S8x16x64, .f32⟩
  | 8 => ⟨S8x16x1x64x1, .f32⟩
  | 9 => ⟨S_, .f32⟩
  | 10 => ⟨S8x16x1x64x1, .f32⟩
  | 11 => ⟨S8x16x1x64x1, .f32⟩
  | 12 => ⟨S254, .i32⟩
  | 13 => ⟨S_, .i32⟩
  | 14 => ⟨S254, .i32⟩
  | 15 => ⟨S254, .i32⟩
  | 16 => ⟨S254, .f32⟩
  | 17 => ⟨S_, .f32⟩
  | 18 => ⟨S254, .f32⟩
  | 19 => ⟨S254, .f32⟩
  | 20 => ⟨S8x16x1x64x1x1, .f32⟩
  | 21 => ⟨S1x1x1x1x1x254, .f32⟩
  | 22 => ⟨S8x16x1x64x1x254, .f32⟩
  | 23 => ⟨S8x16x1x64x1x254, .f32⟩
  | 24 => ⟨S8x16x1x64x1x254, .i1⟩
  | 25 => ⟨S8x16x1x64x1x254, .i32⟩
  | 26 => ⟨S_, .i32⟩
  | 27 => ⟨S8x16x1x64x1, .i32⟩
  | 28 => ⟨S_, .i32⟩
  | 29 => ⟨S8x16x1x64x1, .i32⟩
  | 30 => ⟨S8x16x1x64x1, .i1⟩
  | 31 => ⟨S_, .i32⟩
  | 32 => ⟨S8x16x1x64x1, .i32⟩
  | 33 => ⟨S_, .i32⟩
  | 34 => ⟨S8x16x1x64x1, .i32⟩
  | 35 => ⟨S8x16x1x64x1, .i32⟩
  | 36 => ⟨S8x16x1x64x1, .i32⟩
  | 37 => ⟨S_, .f32⟩
  | 38 => ⟨S8x16x1x64x1, .f32⟩
  | 39 => ⟨S8x16x1x64x1, .i1⟩
  | 40 => ⟨S_, .i32⟩
  | 41 => ⟨S8x16x1x64x1, .i32⟩
  | 42 => ⟨S8x16x1x64x1, .i32⟩
  | 43 => ⟨S8x16x1x64x1, .f32⟩
  | 44 => ⟨S_, .f32⟩
  | 45 => ⟨S8x16x1x64x1, .f32⟩
  | 46 => ⟨S8x16x1x64x1, .f32⟩
  | 47 => ⟨S8x16x1x64x1, .f32⟩
  | 48 => ⟨S_, .f32⟩
  | 49 => ⟨S8x16x1x64x1, .f32⟩
  | 50 => ⟨S8x16x1x64x1, .f32⟩
  | 51 => ⟨S8x16x128x64x64, .f32⟩
  | 52 => ⟨S8x16x128x64x64, .f32⟩
  | 53 => ⟨S_, .f32⟩
  | 54 => ⟨S8x16x128x64x64, .f32⟩
  | 55 => ⟨S8x16x128x64x64, .f32⟩
  | 56 => ⟨S_, .f32⟩
  | 57 => ⟨S8x16x128x64x64, .f32⟩
  | 58 => ⟨S8x16x128x64x64, .f32⟩
  | 59 => ⟨S8x16x128x16x64, .bf16⟩
  | 60 => ⟨S8x16x128x16x64, .f32⟩
  | 61 => ⟨S8x16x128x16x64, .f32⟩
  | 62 => ⟨S_, .f32⟩
  | 63 => ⟨S8x16x16, .f32⟩
  | 64 => ⟨S8x16x1x16x1, .f32⟩
  | 65 => ⟨S_, .f32⟩
  | 66 => ⟨S8x16x1x16x1, .f32⟩
  | 67 => ⟨S8x16x1x16x1, .f32⟩
  | 68 => ⟨S254, .i32⟩
  | 69 => ⟨S_, .i32⟩
  | 70 => ⟨S254, .i32⟩
  | 71 => ⟨S254, .i32⟩
  | 72 => ⟨S254, .f32⟩
  | 73 => ⟨S_, .f32⟩
  | 74 => ⟨S254, .f32⟩
  | 75 => ⟨S254, .f32⟩
  | 76 => ⟨S8x16x1x16x1x1, .f32⟩
  | 77 => ⟨S1x1x1x1x1x254, .f32⟩
  | 78 => ⟨S8x16x1x16x1x254, .f32⟩
  | 79 => ⟨S8x16x1x16x1x254, .f32⟩
  | 80 => ⟨S8x16x1x16x1x254, .i1⟩
  | 81 => ⟨S8x16x1x16x1x254, .i32⟩
  | 82 => ⟨S_, .i32⟩
  | 83 => ⟨S8x16x1x16x1, .i32⟩
  | 84 => ⟨S_, .i32⟩
  | 85 => ⟨S8x16x1x16x1, .i32⟩
  | 86 => ⟨S8x16x1x16x1, .i1⟩
  | 87 => ⟨S_, .i32⟩
  | 88 => ⟨S8x16x1x16x1, .i32⟩
  | 89 => ⟨S_, .i32⟩
  | 90 => ⟨S8x16x1x16x1, .i32⟩
  | 91 => ⟨S8x16x1x16x1, .i32⟩
  | 92 => ⟨S8x16x1x16x1, .i32⟩
  | 93 => ⟨S_, .f32⟩
  | 94 => ⟨S8x16x1x16x1, .f32⟩
  | 95 => ⟨S8x16x1x16x1, .i1⟩
  | 96 => ⟨S_, .i32⟩
  | 97 => ⟨S8x16x1x16x1, .i32⟩
  | 98 => ⟨S8x16x1x16x1, .i32⟩
  | 99 => ⟨S8x16x1x16x1, .f32⟩
  | 100 => ⟨S_, .f32⟩
  | 101 => ⟨S8x16x1x16x1, .f32⟩
  | 102 => ⟨S8x16x1x16x1, .f32⟩
  | 103 => ⟨S8x16x1x16x1, .f32⟩
  | 104 => ⟨S_, .f32⟩
  | 105 => ⟨S8x16x1x16x1, .f32⟩
  | 106 => ⟨S8x16x1x16x1, .f32⟩
  | 107 => ⟨S8x16x128x16x64, .f32⟩
  | 108 => ⟨S8x16x128x16x64, .f32⟩
  | 109 => ⟨S_, .f32⟩
  | 110 => ⟨S8x16x128x16x64, .f32⟩
  | 111 => ⟨S8x16x128x16x64, .f32⟩
  | 112 => ⟨S_, .f32⟩
  | 113 => ⟨S8x16x128x16x64, .f32⟩
  | 114 => ⟨S8x16x128x16x64, .f32⟩
  | 115 => ⟨S8x16x128x16x64, .bf16⟩
  | 116 => ⟨S8x16x128x16x64, .f32⟩
  | 117 => ⟨S8x16x128x16x64, .f32⟩
  | 118 => ⟨S_, .f32⟩
  | 119 => ⟨S8x16x16, .f32⟩
  | 120 => ⟨S8x16x1x16x1, .f32⟩
  | 121 => ⟨S_, .f32⟩
  | 122 => ⟨S8x16x1x16x1, .f32⟩
  | 123 => ⟨S8x16x1x16x1, .f32⟩
  | 124 => ⟨S254, .i32⟩
  | 125 => ⟨S_, .i32⟩
  | 126 => ⟨S254, .i32⟩
  | 127 => ⟨S254, .i32⟩
  | _ => ⟨S8x2048x4096, .bf16⟩

abbrev hbmTy0_1 (i : Nat) : BufTy := match i % 128 with
  | 0 => ⟨S254, .f32⟩
  | 1 => ⟨S_, .f32⟩
  | 2 => ⟨S254, .f32⟩
  | 3 => ⟨S254, .f32⟩
  | 4 => ⟨S8x16x1x16x1x1, .f32⟩
  | 5 => ⟨S1x1x1x1x1x254, .f32⟩
  | 6 => ⟨S8x16x1x16x1x254, .f32⟩
  | 7 => ⟨S8x16x1x16x1x254, .f32⟩
  | 8 => ⟨S8x16x1x16x1x254, .i1⟩
  | 9 => ⟨S8x16x1x16x1x254, .i32⟩
  | 10 => ⟨S_, .i32⟩
  | 11 => ⟨S8x16x1x16x1, .i32⟩
  | 12 => ⟨S_, .i32⟩
  | 13 => ⟨S8x16x1x16x1, .i32⟩
  | 14 => ⟨S8x16x1x16x1, .i1⟩
  | 15 => ⟨S_, .i32⟩
  | 16 => ⟨S8x16x1x16x1, .i32⟩
  | 17 => ⟨S_, .i32⟩
  | 18 => ⟨S8x16x1x16x1, .i32⟩
  | 19 => ⟨S8x16x1x16x1, .i32⟩
  | 20 => ⟨S8x16x1x16x1, .i32⟩
  | 21 => ⟨S_, .f32⟩
  | 22 => ⟨S8x16x1x16x1, .f32⟩
  | 23 => ⟨S8x16x1x16x1, .i1⟩
  | 24 => ⟨S_, .i32⟩
  | 25 => ⟨S8x16x1x16x1, .i32⟩
  | 26 => ⟨S8x16x1x16x1, .i32⟩
  | 27 => ⟨S8x16x1x16x1, .f32⟩
  | 28 => ⟨S_, .f32⟩
  | 29 => ⟨S8x16x1x16x1, .f32⟩
  | 30 => ⟨S8x16x1x16x1, .f32⟩
  | 31 => ⟨S8x16x1x16x1, .f32⟩
  | 32 => ⟨S_, .f32⟩
  | 33 => ⟨S8x16x1x16x1, .f32⟩
  | 34 => ⟨S8x16x1x16x1, .f32⟩
  | 35 => ⟨S8x16x128x16x64, .f32⟩
  | 36 => ⟨S8x16x128x16x64, .f32⟩
  | 37 => ⟨S_, .f32⟩
  | 38 => ⟨S8x16x128x16x64, .f32⟩
  | 39 => ⟨S8x16x128x16x64, .f32⟩
  | 40 => ⟨S_, .f32⟩
  | 41 => ⟨S8x16x128x16x64, .f32⟩
  | 42 => ⟨S8x16x128x16x64, .f32⟩
  | 43 => ⟨S8x16x64, .f32⟩
  | 44 => ⟨S8x16x16, .f32⟩
  | 45 => ⟨S8x16x16, .f32⟩
  | 46 => ⟨S8x16x128x16x4x64, .f32⟩
  | 47 => ⟨S8x16x16x4, .f32⟩
  | 48 => ⟨S8x16x16, .f32⟩
  | 49 => ⟨S8x16x16, .f32⟩
  | 50 => ⟨S8x16x4x16, .f32⟩
  | 51 => ⟨S8x16x4x16x1x1x1, .f32⟩
  | 52 => ⟨S8x16x1x1x1x16x1, .f32⟩
  | 53 => ⟨S8x16x1x1x1x16x1, .f32⟩
  | 54 => ⟨S8x16x16x128x16x128x4, .f32⟩
  | 55 => ⟨S8x16x4x16x128x16x128, .f32⟩
  | 56 => ⟨S_, .f32⟩
  | 57 => ⟨S8x16x4x16x1x1x1, .f32⟩
  | 58 => ⟨S8x16x4x16x1x1x1, .f32⟩
  | 59 => ⟨S8x16x4x16x1x16x1, .f32⟩
  | 60 => ⟨S8x16x4x16x1x16x1, .f32⟩
  | 61 => ⟨S8x16x4x16x1x16x1, .f32⟩
  | 62 => ⟨S8x16x4x16x128x16x128, .f32⟩
  | 63 => ⟨S8x16x4x16x128x16x128, .f32⟩
  | 64 => ⟨S_, .f32⟩
  | 65 => ⟨S8x16x4x16x128, .f32⟩
  | 66 => ⟨S8x16x4x16x128x1x1, .f32⟩
  | 67 => ⟨S8x16x4x16x128x16x128, .f32⟩
  | 68 => ⟨S8x16x4x16x128x16x128, .f32⟩
  | 69 => ⟨S8x16x4x16x128x16x128, .f32⟩
  | 70 => ⟨S_, .f32⟩
  | 71 => ⟨S8x16x4x16x128, .f32⟩
  | 72 => ⟨S8x16x4x16x128x16x128, .f32⟩
  | 73 => ⟨S_, .f32⟩
  | 74 => ⟨S8x16x4x16x128x16, .f32⟩
  | 75 => ⟨S8x16x4x16x128x16x1, .f32⟩
  | 76 => ⟨S_, .f32⟩
  | 77 => ⟨S8x16x4x16x128x16x1, .f32⟩
  | 78 => ⟨S8x16x4x16x128x16x1, .f32⟩
  | 79 => ⟨S254, .i32⟩
  | 80 => ⟨S_, .i32⟩
  | 81 => ⟨S254, .i32⟩
  | 82 => ⟨S254, .i32⟩
  | 83 => ⟨S254, .f32⟩
  | 84 => ⟨S_, .f32⟩
  | 85 => ⟨S254, .f32⟩
  | 86 => ⟨S254, .f32⟩
  | 87 => ⟨S8x16x4x16x128x16x1x1, .f32⟩
  | 88 => ⟨S1x1x1x1x1x1x1x254, .f32⟩
  | 89 => ⟨S8x16x4x16x128x16x1x254, .f32⟩
  | 90 => ⟨S8x16x4x16x128x16x1x254, .f32⟩
  | 91 => ⟨S8x16x4x16x128x16x1x254, .i1⟩
  | 92 => ⟨S8x16x4x16x128x16x1x254, .i32⟩
  | 93 => ⟨S_, .i32⟩
  | 94 => ⟨S8x16x4x16x128x16x1, .i32⟩
  | 95 => ⟨S_, .i32⟩
  | 96 => ⟨S8x16x4x16x128x16x1, .i32⟩
  | 97 => ⟨S8x16x4x16x128x16x1, .i1⟩
  | 98 => ⟨S_, .i32⟩
  | 99 => ⟨S8x16x4x16x128x16x1, .i32⟩
  | 100 => ⟨S_, .i32⟩
  | 101 => ⟨S8x16x4x16x128x16x1, .i32⟩
  | 102 => ⟨S8x16x4x16x128x16x1, .i32⟩
  | 103 => ⟨S8x16x4x16x128x16x1, .i32⟩
  | 104 => ⟨S_, .f32⟩
  | 105 => ⟨S8x16x4x16x128x16x1, .f32⟩
  | 106 => ⟨S8x16x4x16x128x16x1, .i1⟩
  | 107 => ⟨S_, .i32⟩
  | 108 => ⟨S8x16x4x16x128x16x1, .i32⟩
  | 109 => ⟨S8x16x4x16x128x16x1, .i32⟩
  | 110 => ⟨S8x16x4x16x128x16x1, .f32⟩
  | 111 => ⟨S_, .f32⟩
  | 112 => ⟨S8x16x4x16x128x16x1, .f32⟩
  | 113 => ⟨S8x16x4x16x128x16x1, .f32⟩
  | 114 => ⟨S8x16x4x16x128x16x1, .f32⟩
  | 115 => ⟨S_, .f32⟩
  | 116 => ⟨S8x16x4x16x128x16x1, .f32⟩
  | 117 => ⟨S8x16x4x16x128x16x1, .f32⟩
  | 118 => ⟨S8x16x4x16x128x16x128, .f32⟩
  | 119 => ⟨S8x16x4x16x128x16x128, .f32⟩
  | 120 => ⟨S_, .f32⟩
  | 121 => ⟨S8x16x4x16x128x16x128, .f32⟩
  | 122 => ⟨S8x16x4x16x128x16x128, .f32⟩
  | 123 => ⟨S_, .f32⟩
  | 124 => ⟨S8x16x4x16x128x16x128, .f32⟩
  | 125 => ⟨S8x16x4x16x128x16x128, .f32⟩
  | 126 => ⟨S8x16x16x64x4x16x128, .f32⟩
  | 127 => ⟨S8x16x4x16x128x16x64, .f32⟩
  | _ => ⟨S8x2048x4096, .bf16⟩

abbrev hbmTy0_2 (i : Nat) : BufTy := match i % 128 with
  | 0 => ⟨S8x16x4x16x128x16x1, .f32⟩
  | 1 => ⟨S8x16x4x16x128x16x1, .f32⟩
  | 2 => ⟨S8x16x4x16x128x16x64, .f32⟩
  | 3 => ⟨S8x16x4x16x128x16x64, .f32⟩
  | 4 => ⟨S_, .f32⟩
  | 5 => ⟨S8x16x4x16x128x64, .f32⟩
  | 6 => ⟨S8x16x4x16x128x1, .f32⟩
  | 7 => ⟨S8x16x4x16x128x64, .f32⟩
  | 8 => ⟨S8x16x4x16x128x64, .f32⟩
  | 9 => ⟨S8x16x128x16x4x64, .f32⟩
  | 10 => ⟨S8x2048x4096, .f32⟩
  | 11 => ⟨S8x2048x4096, .bf16⟩
  | 12 => ⟨S8x16x8x8, .f32⟩
  | 13 => ⟨S8x8x16x8, .f32⟩
  | 14 => ⟨S8x8x16x8x128, .f32⟩
  | 15 => ⟨S8x8x16x1024, .f32⟩
  | 16 => ⟨S8x16x8x2, .f32⟩
  | 17 => ⟨S8x8x16x2, .f32⟩
  | 18 => ⟨S8x8x16x2x64, .f32⟩
  | 19 => ⟨S8x8x16x128, .f32⟩
  | 20 => ⟨S8x16x8x2, .f32⟩
  | 21 => ⟨S8x8x16x2, .f32⟩
  | 22 => ⟨S8x8x16x2x64, .f32⟩
  | 23 => ⟨S8x8x16x128, .f32⟩
  | 24 => ⟨S8x2048x4096, .f32⟩
  | 25 => ⟨S8x2048x1024, .f32⟩
  | 26 => ⟨S8x2048x1024, .f32⟩
  | 27 => ⟨S8x2048x4096, .fp8e4m3⟩
  | 28 => ⟨S8x2048x1024, .fp8e4m3⟩
  | 29 => ⟨S8x2048x1024, .fp8e4m3⟩
  | _ => ⟨S8x2048x4096, .bf16⟩

abbrev hbmTy (i : Nat) : BufTy := match i / 128 with
  | 0 => hbmTy0_0 i
  | 1 => hbmTy0_1 i
  | 2 => hbmTy0_2 i
  | _ => ⟨S8x2048x4096, .bf16⟩

abbrev bufTy : (tb : Table) → Fin (tcTables nBuf tb) → BufTy
  | .hbm, ⟨i, _⟩ => hbmTy i
  | .local _ .vmem, ⟨0, _⟩ => ⟨S8x2048x4096, .f32⟩
  | .local _ .vmem, ⟨1, _⟩ => ⟨S8x2048x1024, .f32⟩
  | .local _ .vmem, ⟨2, _⟩ => ⟨S8x2048x1024, .f32⟩
  | .local _ .vmem, ⟨3, _⟩ => ⟨S8x2048x4096, .fp8e4m3⟩
  | .local _ .vmem, ⟨4, _⟩ => ⟨S8x2048x1024, .fp8e4m3⟩
  | .local _ .vmem, ⟨5, _⟩ => ⟨S8x2048x1024, .fp8e4m3⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_12 : Ref sig .tc := ⟨.hbm, 62, rfl⟩
abbrev main_v45 : Ref sig .tc := ⟨.hbm, 63, rfl⟩
abbrev main_v46 : Ref sig .tc := ⟨.hbm, 64, rfl⟩
abbrev main_cst_13 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_14 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_15 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_16 : Ref sig .tc := ⟨.hbm, 82, rfl⟩
abbrev main_v61 : Ref sig .tc := ⟨.hbm, 83, rfl⟩
abbrev main_c_17 : Ref sig .tc := ⟨.hbm, 84, rfl⟩
abbrev main_v62 : Ref sig .tc := ⟨.hbm, 85, rfl⟩
abbrev main_v63 : Ref sig .tc := ⟨.hbm, 86, rfl⟩
abbrev main_c_18 : Ref sig .tc := ⟨.hbm, 87, rfl⟩
abbrev main_v64 : Ref sig .tc := ⟨.hbm, 88, rfl⟩
abbrev main_c_19 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_20 : Ref sig .tc := ⟨.hbm, 93, rfl⟩
abbrev main_v68 : Ref sig .tc := ⟨.hbm, 94, rfl⟩
abbrev main_v69 : Ref sig .tc := ⟨.hbm, 95, rfl⟩
abbrev main_c_21 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_22 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_23 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_24 : Ref sig .tc := ⟨.hbm, 109, rfl⟩
abbrev main_v80 : Ref sig .tc := ⟨.hbm, 110, rfl⟩
abbrev main_v81 : Ref sig .tc := ⟨.hbm, 111, rfl⟩
abbrev main_cst_25 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_26 : Ref sig .tc := ⟨.hbm, 118, rfl⟩
abbrev main_v87 : Ref sig .tc := ⟨.hbm, 119, rfl⟩
abbrev main_v88 : Ref sig .tc := ⟨.hbm, 120, rfl⟩
abbrev main_cst_27 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_c_28 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_29 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_c_30 : Ref sig .tc := ⟨.hbm, 138, rfl⟩
abbrev main_v103 : Ref sig .tc := ⟨.hbm, 139, rfl⟩
abbrev main_c_31 : Ref sig .tc := ⟨.hbm, 140, rfl⟩
abbrev main_v104 : Ref sig .tc := ⟨.hbm, 141, rfl⟩
abbrev main_v105 : Ref sig .tc := ⟨.hbm, 142, rfl⟩
abbrev main_c_32 : Ref sig .tc := ⟨.hbm, 143, rfl⟩
abbrev main_v106 : Ref sig .tc := ⟨.hbm, 144, rfl⟩
abbrev main_c_33 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_34 : Ref sig .tc := ⟨.hbm, 149, rfl⟩
abbrev main_v110 : Ref sig .tc := ⟨.hbm, 150, rfl⟩
abbrev main_v111 : Ref sig .tc := ⟨.hbm, 151, rfl⟩
abbrev main_c_35 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_36 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_37 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_38 : Ref sig .tc := ⟨.hbm, 165, rfl⟩
abbrev main_v122 : Ref sig .tc := ⟨.hbm, 166, rfl⟩
abbrev main_v123 : Ref sig .tc := ⟨.hbm, 167, rfl⟩
abbrev main_cst_39 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_cst_40 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_cst_41 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_cst_42 : Ref sig .tc := ⟨.hbm, 198, rfl⟩
abbrev main_v151 : Ref sig .tc := ⟨.hbm, 199, rfl⟩
abbrev main_v152 : Ref sig .tc := ⟨.hbm, 200, rfl⟩
abbrev main_cst_43 : Ref sig .tc := ⟨.hbm, 201, rfl⟩
abbrev main_v153 : Ref sig .tc := ⟨.hbm, 202, rfl⟩
abbrev main_v154 : Ref sig .tc := ⟨.hbm, 203, rfl⟩
abbrev main_cst_44 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_c_45 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_cst_46 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_c_47 : Ref sig .tc := ⟨.hbm, 221, rfl⟩
abbrev main_v169 : Ref sig .tc := ⟨.hbm, 222, rfl⟩
abbrev main_c_48 : Ref sig .tc := ⟨.hbm, 223, rfl⟩
abbrev main_v170 : Ref sig .tc := ⟨.hbm, 224, rfl⟩
abbrev main_v171 : Ref sig .tc := ⟨.hbm, 225, rfl⟩
abbrev main_c_49 : Ref sig .tc := ⟨.hbm, 226, rfl⟩
abbrev main_v172 : Ref sig .tc := ⟨.hbm, 227, rfl⟩
abbrev main_c_50 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_cst_51 : Ref sig .tc := ⟨.hbm, 232, rfl⟩
abbrev main_v176 : Ref sig .tc := ⟨.hbm, 233, rfl⟩
abbrev main_v177 : Ref sig .tc := ⟨.hbm, 234, rfl⟩
abbrev main_c_52 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_cst_53 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_cst_54 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_cst_55 : Ref sig .tc := ⟨.hbm, 248, rfl⟩
abbrev main_v188 : Ref sig .tc := ⟨.hbm, 249, rfl⟩
abbrev main_v189 : Ref sig .tc := ⟨.hbm, 250, rfl⟩
abbrev main_cst_56 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_cst_57 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220_0 : Ref sig .tc := ⟨.hbm, 283, rfl⟩
abbrev main_v220_1 : Ref sig .tc := ⟨.hbm, 284, rfl⟩
abbrev main_v220_2 : Ref sig .tc := ⟨.hbm, 285, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x2048x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.BodyKernel.lean ====
module

public import proofs.«01_k».proof.Proof.Gen.Kernel.Frame
public import proofs.«01_k».proof.Proof.Gen.Kernel.Skeleton
public import proofs.«01_k».proof.Proof.Gen.Kernel.Loops
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

/-! The kernel body's triple: from its three input blocks at given contents and every other buffer at any, the body ends
with the inputs as they were and each output holding the pieces its stores wrote, which the symbolic run names. -/

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- What the body is run from: the inputs at `X`, every other buffer at `G`. -/
abbrev Before (c : Dev nD) (arg2 : Memref sig .tc .vmem S1x2048x512 .bf16) (_harg2 : arg2.IsWhole) (arg3 : Memref sig .tc .vmem S1x2048x128 .bf16) (_harg3 : arg3.IsWhole) (arg4 : Memref sig .tc .vmem S1x2048x128 .bf16) (_harg4 : arg4.IsWhole) (arg5 : Memref sig .tc .vmem S1x2048x512 .bf16) (_harg5 : arg5.IsWhole) (arg6 : Memref sig .tc .vmem S1x2048x512 .fp8e4m3) (_harg6 : arg6.IsWhole) (arg7 : Memref sig .tc .vmem S1x1x16x1024 .f32) (_harg7 : arg7.IsWhole) (arg8 : Memref sig .tc .vmem S1x2048x128 .fp8e4m3) (_harg8 : arg8.IsWhole) (arg9 : Memref sig .tc .vmem S1x1x16x128 .f32) (_harg9 : arg9.IsWhole) (arg10 : Memref sig .tc .vmem S1x2048x128 .fp8e4m3) (_harg10 : arg10.IsWhole) (arg11 : Memref sig .tc .vmem S1x1x16x128 .f32) (_harg11 : arg11.IsWhole) (arg12 : Memref sig .tc .vmem S16x4x256x128 .fp8e4m3) (_harg12 : arg12.IsWhole) (arg13 : Memref sig .tc .vmem S2x2048x128 .fp8e4m3) (_harg13 : arg13.IsWhole) (arg14 : Memref sig .tc .vmem S128x2048 .fp8e4m3) (_harg14 : arg14.IsWhole) (arg15 : Memref sig .tc .vmem S16x512 .f32) (_harg15 : arg15.IsWhole) (arg16 : Memref sig .tc .vmem S16x512 .f32) (_harg16 : arg16.IsWhole) (arg17 : Memref sig .tc .vmem S2x16x256 .f32) (_harg17 : arg17.IsWhole) (arg18 : Memref sig .tc .vmem S2x16x256 .f32) (_harg18 : arg18.IsWhole) (arg19 : Memref sig .tc .vmem S2x2048x256 .f32) (_harg19 : arg19.IsWhole) (arg20 : Memref sig .tc .vmem S2x2x128x128 .f32) (_harg20 : arg20.IsWhole) (arg21 : Memref sig .tc .vmem S2x4x16x256 .f32) (_harg21 : arg21.IsWhole) (X2 : BufTy.Contents (Elt F) arg2.view.ty) (X3 : BufTy.Contents (Elt F) arg3.view.ty) (X4 : BufTy.Contents (Elt F) arg4.view.ty) (G5 : BufTy.Contents (Elt F) arg5.view.ty) (G6 : BufTy.Contents (Elt F) arg6.view.ty) (G7 : BufTy.Contents (Elt F) arg7.view.ty) (G8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (G21 : BufTy.Contents (Elt F) arg21.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} G5) ∗ (arg6.view.loc (c : Thread nD τ) ↦[arg6.view.set]{fullShare} G6) ∗ (arg7.view.loc (c : Thread nD τ) ↦[arg7.view.set]{fullShare} G7) ∗ (arg8.view.loc (c : Thread nD τ) ↦[arg8.view.set]{fullShare} G8) ∗ (arg9.view.loc (c : Thread nD τ) ↦[arg9.view.set]{fullShare} G9) ∗ (arg10.view.loc (c : Thread nD τ) ↦[arg10.view.set]{fullShare} G10) ∗ (arg11.view.loc (c : Thread nD τ) ↦[arg11.view.set]{fullShare} G11) ∗ (arg12.view.loc (c : Thread nD τ) ↦[arg12.view.set]{fullShare} G12) ∗ (arg13.view.loc (c : Thread nD τ) ↦[arg13.view.set]{fullShare} G13) ∗ (arg14.view.loc (c : Thread nD τ) ↦[arg14.view.set]{fullShare} G14) ∗ (arg15.view.loc (c : Thread nD τ) ↦[arg15.view.set]{fullShare} G15) ∗ (arg16.view.loc (c : Thread nD τ) ↦[arg16.view.set]{fullShare} G16) ∗ (arg17.view.loc (c : Thread nD τ) ↦[arg17.view.set]{fullShare} G17) ∗ (arg18.view.loc (c : Thread nD τ) ↦[arg18.view.set]{fullShare} G18) ∗ (arg19.view.loc (c : Thread nD τ) ↦[arg19.view.set]{fullShare} G19) ∗ (arg20.view.loc (c : Thread nD τ) ↦[arg20.view.set]{fullShare} G20) ∗ (arg21.view.loc (c : Thread nD τ) ↦[arg21.view.set]{fullShare} G21))

set_option maxHeartbeats 2000000 in
/-- The run of the body, with what it leaves in each output. -/
def run (c : Dev nD) (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S1x2048x512 .fp8e4m3) (harg6 : arg6.IsWhole) (arg7 : Memref sig .tc .vmem S1x1x16x1024 .f32) (harg7 : arg7.IsWhole) (arg8 : Memref sig .tc .vmem S1x2048x128 .fp8e4m3) (harg8 : arg8.IsWhole) (arg9 : Memref sig .tc .vmem S1x1x16x128 .f32) (harg9 : arg9.IsWhole) (arg10 : Memref sig .tc .vmem S1x2048x128 .fp8e4m3) (harg10 : arg10.IsWhole) (arg11 : Memref sig .tc .vmem S1x1x16x128 .f32) (harg11 : arg11.IsWhole) (arg12 : Memref sig .tc .vmem S16x4x256x128 .fp8e4m3) (harg12 : arg12.IsWhole) (arg13 : Memref sig .tc .vmem S2x2048x128 .fp8e4m3) (harg13 : arg13.IsWhole) (arg14 : Memref sig .tc .vmem S128x2048 .fp8e4m3) (harg14 : arg14.IsWhole) (arg15 : Memref sig .tc .vmem S16x512 .f32) (harg15 : arg15.IsWhole) (arg16 : Memref sig .tc .vmem S16x512 .f32) (harg16 : arg16.IsWhole) (arg17 : Memref sig .tc .vmem S2x16x256 .f32) (harg17 : arg17.IsWhole) (arg18 : Memref sig .tc .vmem S2x16x256 .f32) (harg18 : arg18.IsWhole) (arg19 : Memref sig .tc .vmem S2x2048x256 .f32) (harg19 : arg19.IsWhole) (arg20 : Memref sig .tc .vmem S2x2x128x128 .f32) (harg20 : arg20.IsWhole) (arg21 : Memref sig .tc .vmem S2x4x16x256 .f32) (harg21 : arg21.IsWhole) (X2 : BufTy.Contents (Elt F) arg2.view.ty) (X3 : BufTy.Contents (Elt F) arg3.view.ty) (X4 : BufTy.Contents (Elt F) arg4.view.ty) (G5 : BufTy.Contents (Elt F) arg5.view.ty) (G6 : BufTy.Contents (Elt F) arg6.view.ty) (G7 : BufTy.Contents (Elt F) arg7.view.ty) (G8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (G21 : BufTy.Contents (Elt F) arg21.view.ty) :
    Σ' (C5 : BufTy.Contents (Elt F) arg5.view.ty), Σ' (C6 : BufTy.Contents (Elt F) arg6.view.ty), Σ' (C7 : BufTy.Contents (Elt F) arg7.view.ty), Σ' (C8 : BufTy.Contents (Elt F) arg8.view.ty), Σ' (C9 : BufTy.Contents (Elt F) arg9.view.ty), Σ' (C10 : BufTy.Contents (Elt F) arg10.view.ty),  { C11 : BufTy.Contents (Elt F) arg11.view.ty // ∀ (E : Set ℕ),
      Before c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21
      ⊢ wp frame (wpE (defs₀ (F := F)) Variants.none (c : Thread nD τ) none) E (cc0__attn_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} C5) ∗ (arg6.view.loc (c : Thread nD τ) ↦[arg6.view.set]{fullShare} C6) ∗ (arg7.view.loc (c : Thread nD τ) ↦[arg7.view.set]{fullShare} C7) ∗ (arg8.view.loc (c : Thread nD τ) ↦[arg8.view.set]{fullShare} C8) ∗ (arg9.view.loc (c : Thread nD τ) ↦[arg9.view.set]{fullShare} C9) ∗ (arg10.view.loc (c : Thread nD τ) ↦[arg10.view.set]{fullShare} C10) ∗ (arg11.view.loc (c : Thread nD τ) ↦[arg11.view.set]{fullShare} C11) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f)) ∗ (∃ f : BufTy.Contents (Elt F) arg21.view.ty, (arg21.view.loc (c : Thread nD τ) ↦[arg21.view.set]{fullShare} f)))) } := by
  refine ⟨?_, ?_, ?_, ?_, ?_, ?_, ?_, fun E => ?run⟩
  case run =>
    simp only [cc0__attn_kernel_eq_skeleton]; unfold cc0__attn_kernel_skel
    simp only [k0_part193_eq_skeleton]; unfold k0_part193_skel
    simp only [k0_part164_eq_skeleton]
    iintro ⟨H2, H3, H4, H5, H6, H7, H8, H9, H10, H11, H12, H13, H14, H15, H16, H17, H18, H19, H20, H21⟩
    sl_exec
    sl_step
    iframe H2; iframe H3; iframe H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21

end Cert.Kernel.Body

end
-- ==== Proof.FrameKernel.lean ====
module

public import proofs.«01_k».proof.Proof.BodyKernel
public import proofs.«01_k».proof.Proof.Gen.Kernel.Frame
public import proofs.«01_k».proof.Proof.Gen.Kernel.Skeleton
public import proofs.«01_k».proof.Proof.Gen.Kernel.Loops
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

/-! The body's triple over what the memrefs read, the body obligation and the frame claim: every run of the program ends, with its
argument arrays unchanged and every semaphore counter at zero. -/

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- What the body may leave in its outputs, read through their memrefs, when its inputs read `x`: what the run leaves from some
contents of every buffer that agree with `x`. -/
def Left (c : Dev nD) (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S1x2048x512 .fp8e4m3) (harg6 : arg6.IsWhole) (arg7 : Memref sig .tc .vmem S1x1x16x1024 .f32) (harg7 : arg7.IsWhole) (arg8 : Memref sig .tc .vmem S1x2048x128 .fp8e4m3) (harg8 : arg8.IsWhole) (arg9 : Memref sig .tc .vmem S1x1x16x128 .f32) (harg9 : arg9.IsWhole) (arg10 : Memref sig .tc .vmem S1x2048x128 .fp8e4m3) (harg10 : arg10.IsWhole) (arg11 : Memref sig .tc .vmem S1x1x16x128 .f32) (harg11 : arg11.IsWhole) (arg12 : Memref sig .tc .vmem S16x4x256x128 .fp8e4m3) (harg12 : arg12.IsWhole) (arg13 : Memref sig .tc .vmem S2x2048x128 .fp8e4m3) (harg13 : arg13.IsWhole) (arg14 : Memref sig .tc .vmem S128x2048 .fp8e4m3) (harg14 : arg14.IsWhole) (arg15 : Memref sig .tc .vmem S16x512 .f32) (harg15 : arg15.IsWhole) (arg16 : Memref sig .tc .vmem S16x512 .f32) (harg16 : arg16.IsWhole) (arg17 : Memref sig .tc .vmem S2x16x256 .f32) (harg17 : arg17.IsWhole) (arg18 : Memref sig .tc .vmem S2x16x256 .f32) (harg18 : arg18.IsWhole) (arg19 : Memref sig .tc .vmem S2x2048x256 .f32) (harg19 : arg19.IsWhole) (arg20 : Memref sig .tc .vmem S2x2x128x128 .f32) (harg20 : arg20.IsWhole) (arg21 : Memref sig .tc .vmem S2x4x16x256 .f32) (harg21 : arg21.IsWhole) (x2 : Vec F S1x2048x512 .bf16) (x3 : Vec F S1x2048x128 .bf16) (x4 : Vec F S1x2048x128 .bf16) (y5 : Vec F S1x2048x512 .bf16) (y6 : Vec F S1x2048x512 .fp8e4m3) (y7 : Vec F S1x1x16x1024 .f32) (y8 : Vec F S1x2048x128 .fp8e4m3) (y9 : Vec F S1x1x16x128 .f32) (y10 : Vec F S1x2048x128 .fp8e4m3) (y11 : Vec F S1x1x16x128 .f32) : Prop :=
  ∃ (X2 : BufTy.Contents (Elt F) arg2.view.ty) (X3 : BufTy.Contents (Elt F) arg3.view.ty) (X4 : BufTy.Contents (Elt F) arg4.view.ty) (G5 : BufTy.Contents (Elt F) arg5.view.ty) (G6 : BufTy.Contents (Elt F) arg6.view.ty) (G7 : BufTy.Contents (Elt F) arg7.view.ty) (G8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (G21 : BufTy.Contents (Elt F) arg21.view.ty), arg2.view.read (Elt F) X2 = x2 ∧ arg3.view.read (Elt F) X3 = x3 ∧ arg4.view.read (Elt F) X4 = x4 ∧ arg5.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).1 = y5 ∧ arg6.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.1 = y6 ∧ arg7.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.1 = y7 ∧ arg8.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.1 = y8 ∧ arg9.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.1 = y9 ∧ arg10.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.2.1 = y10 ∧ arg11.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.2.2.1 = y11

set_option maxHeartbeats 4000000 in
/-- The body's triple over what the memrefs read. -/
theorem sound_kernel (c : Dev nD) (E : Set ℕ) (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S1x2048x512 .fp8e4m3) (harg6 : arg6.IsWhole) (arg7 : Memref sig .tc .vmem S1x1x16x1024 .f32) (harg7 : arg7.IsWhole) (arg8 : Memref sig .tc .vmem S1x2048x128 .fp8e4m3) (harg8 : arg8.IsWhole) (arg9 : Memref sig .tc .vmem S1x1x16x128 .f32) (harg9 : arg9.IsWhole) (arg10 : Memref sig .tc .vmem S1x2048x128 .fp8e4m3) (harg10 : arg10.IsWhole) (arg11 : Memref sig .tc .vmem S1x1x16x128 .f32) (harg11 : arg11.IsWhole) (arg12 : Memref sig .tc .vmem S16x4x256x128 .fp8e4m3) (harg12 : arg12.IsWhole) (arg13 : Memref sig .tc .vmem S2x2048x128 .fp8e4m3) (harg13 : arg13.IsWhole) (arg14 : Memref sig .tc .vmem S128x2048 .fp8e4m3) (harg14 : arg14.IsWhole) (arg15 : Memref sig .tc .vmem S16x512 .f32) (harg15 : arg15.IsWhole) (arg16 : Memref sig .tc .vmem S16x512 .f32) (harg16 : arg16.IsWhole) (arg17 : Memref sig .tc .vmem S2x16x256 .f32) (harg17 : arg17.IsWhole) (arg18 : Memref sig .tc .vmem S2x16x256 .f32) (harg18 : arg18.IsWhole) (arg19 : Memref sig .tc .vmem S2x2048x256 .f32) (harg19 : arg19.IsWhole) (arg20 : Memref sig .tc .vmem S2x2x128x128 .f32) (harg20 : arg20.IsWhole) (arg21 : Memref sig .tc .vmem S2x4x16x256 .f32) (harg21 : arg21.IsWhole) (x2 : Vec F S1x2048x512 .bf16) (x3 : Vec F S1x2048x128 .bf16) (x4 : Vec F S1x2048x128 .bf16) (K : PUnit → sProp 𝕄) :
    iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x2 ∗ owns (c : Thread nD τ) arg3 fullShare x3 ∗ owns (c : Thread nD τ) arg4 fullShare x4 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ y5 y6 y7 y8 y9 y10 y11, ⌜Left c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 y5 y6 y7 y8 y9 y10 y11⌝ ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11)) -∗ K ⟨⟩))
      ⊢ wp frame (wpE (defs₀ (F := F)) Variants.none c none) E (cc0__attn_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold owns
  iintro ⟨⟨%X2, %hX2, H2⟩, ⟨%X3, %hX3, H3⟩, ⟨%X4, %hX4, H4⟩, ⟨%d5, %G5, -, H5⟩, ⟨%d6, %G6, -, H6⟩, ⟨%d7, %G7, -, H7⟩, ⟨%d8, %G8, -, H8⟩, ⟨%d9, %G9, -, H9⟩, ⟨%d10, %G10, -, H10⟩, ⟨%d11, %G11, -, H11⟩, ⟨%d12, %G12, -, H12⟩, ⟨%d13, %G13, -, H13⟩, ⟨%d14, %G14, -, H14⟩, ⟨%d15, %G15, -, H15⟩, ⟨%d16, %G16, -, H16⟩, ⟨%d17, %G17, -, H17⟩, ⟨%d18, %G18, -, H18⟩, ⟨%d19, %G19, -, H19⟩, ⟨%d20, %G20, -, H20⟩, ⟨%d21, %G21, -, H21⟩, Hk⟩
  iapply (wp_wand_r Idealize.ShloMosaic.frame (wpE (defs₀ (F := F)) Variants.none (c : Thread nD τ) none) E)
  isplitr [Hk]
  · iapply ((run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.2.2.2 E)
    unfold Before
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · iintro %_ ⟨H2, H3, H4, H5, H6, H7, H8, H9, H10, H11, ⟨%g12, H12⟩, ⟨%g13, H13⟩, ⟨%g14, H14⟩, ⟨%g15, H15⟩, ⟨%g16, H16⟩, ⟨%g17, H17⟩, ⟨%g18, H18⟩, ⟨%g19, H19⟩, ⟨%g20, H20⟩, ⟨%g21, H21⟩⟩
    iapply Hk
    isplitl [H2]
    · iexists X2; isplitr; · ipureintro; exact hX2
      iexact H2
    isplitl [H3]
    · iexists X3; isplitr; · ipureintro; exact hX3
      iexact H3
    isplitl [H4]
    · iexists X4; isplitr; · ipureintro; exact hX4
      iexact H4
    isplitl [H12]
    · iexists _; iexists g12; isplitr; · ipureintro; rfl
      iexact H12
    isplitl [H13]
    · iexists _; iexists g13; isplitr; · ipureintro; rfl
      iexact H13
    isplitl [H14]
    · iexists _; iexists g14; isplitr; · ipureintro; rfl
      iexact H14
    isplitl [H15]
    · iexists _; iexists g15; isplitr; · ipureintro; rfl
      iexact H15
    isplitl [H16]
    · iexists _; iexists g16; isplitr; · ipureintro; rfl
      iexact H16
    isplitl [H17]
    · iexists _; iexists g17; isplitr; · ipureintro; rfl
      iexact H17
    isplitl [H18]
    · iexists _; iexists g18; isplitr; · ipureintro; rfl
      iexact H18
    isplitl [H19]
    · iexists _; iexists g19; isplitr; · ipureintro; rfl
      iexact H19
    isplitl [H20]
    · iexists _; iexists g20; isplitr; · ipureintro; rfl
      iexact H20
    isplitl [H21]
    · iexists _; iexists g21; isplitr; · ipureintro; rfl
      iexact H21
    iexists (arg5.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).1)
    iexists (arg6.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.1)
    iexists (arg7.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.1)
    iexists (arg8.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.1)
    iexists (arg9.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.1)
    iexists (arg10.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.2.1)
    iexists (arg11.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.2.2.1)
    isplitr
    · ipureintro
      exact ⟨X2, X3, X4, G5, G6, G7, G8, G9, G10, G11, G12, G13, G14, G15, G16, G17, G18, G19, G20, G21, hX2, hX3, hX4, rfl, rfl, rfl, rfl, rfl, rfl, rfl⟩
    isplitl [H5]
    · iexists ((run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).1); isplitr; · ipureintro; exact rfl
      iexact H5
    isplitl [H6]
    · iexists ((run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.1); isplitr; · ipureintro; exact rfl
      iexact H6
    isplitl [H7]
    · iexists ((run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.1); isplitr; · ipureintro; exact rfl
      iexact H7
    isplitl [H8]
    · iexists ((run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.1); isplitr; · ipureintro; exact rfl
      iexact H8
    isplitl [H9]
    · iexists ((run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.1); isplitr; · ipureintro; exact rfl
      iexact H9
    isplitl [H10]
    · iexists ((run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.2.1); isplitr; · ipureintro; exact rfl
      iexact H10
    iexists ((run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.2.2.1); isplitr; · ipureintro; exact rfl
    iexact H11

/-- The invariant between points: every scratch buffer at some contents, and the generator's register. -/
theorem PhiA_eq (c : Dev nD) : (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d)) ∗ ∃ r, prngReg c r) := by
  unfold Pipeline.ΦA
  rw [scopedRest0_eq]
  simp only [owns_whole]

variable (m : (ℓ : Loc nD τ sig) → Buf (Elt F) ℓ) (ρ : Dev nD → PrngReg)

/-- What the body may leave at point `t`. -/
abbrev LeftAt (c : Dev nD) (t : Fin cfg0.N) (y5 : Vec F S1x2048x512 .bf16) (y6 : Vec F S1x2048x512 .fp8e4m3) (y7 : Vec F S1x1x16x1024 .f32) (y8 : Vec F S1x2048x128 .fp8e4m3) (y9 : Vec F S1x1x16x128 .f32) (y10 : Vec F S1x2048x128 .fp8e4m3) (y11 : Vec F S1x1x16x128 .f32) : Prop :=
  Left c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (iblk m c 0 t) (iblk m c 1 t) (iblk m c 2 t) y5 y6 y7 y8 y9 y10 y11

/-- The outputs' contents after the body at a point, one per output. -/
structure Outs (F : FTy → Type) [FloatOps F] where
  y5 : Vec F S1x2048x512 .bf16
  y6 : Vec F S1x2048x512 .fp8e4m3
  y7 : Vec F S1x1x16x1024 .f32
  y8 : Vec F S1x2048x128 .fp8e4m3
  y9 : Vec F S1x1x16x128 .f32
  y10 : Vec F S1x2048x128 .fp8e4m3
  y11 : Vec F S1x1x16x128 .f32

/-- Which windows are outputs. -/
def outs : Fin cfg0.W → Bool := fun w => match w with | ⟨0, _⟩ => false | ⟨1, _⟩ => false | ⟨2, _⟩ => false | _ => true

/-- The proof data at given output contents `O`. -/
def dats (O : Dev nD → Fin cfg0.N → Outs F) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (O c t).y5
    | ⟨4, _⟩ => (O c t).y6
    | ⟨5, _⟩ => (O c t).y7
    | ⟨6, _⟩ => (O c t).y8
    | ⟨7, _⟩ => (O c t).y9
    | ⟨8, _⟩ => (O c t).y10
    | ⟨9, _⟩ => (O c t).y11
  Φ _ := Pipeline.ΦA spec0 c
  q _ := fullShare
  owed _ := 0

variable (O : Dev nD → Fin cfg0.N → Outs F)

theorem A_eq (c : Dev nD) (w : Fin cfg0.W) : (dats m O 0 c).A w = V m c (Pipeline.arrRef spec0 w) := by
  dsimp only [dats]

theorem after0_0 (c : Dev nD) (t : Fin cfg0.N) : (dats m O 0 c).after 0 t = iblk m c 0 t := by dsimp only [dats]
theorem after0_1 (c : Dev nD) (t : Fin cfg0.N) : (dats m O 0 c).after 1 t = iblk m c 1 t := by dsimp only [dats]
theorem after0_2 (c : Dev nD) (t : Fin cfg0.N) : (dats m O 0 c).after 2 t = iblk m c 2 t := by dsimp only [dats]
theorem after0_3 (c : Dev nD) (t : Fin cfg0.N) : (dats m O 0 c).after 3 t = (O c t).y5 := by dsimp only [dats]
theorem after0_4 (c : Dev nD) (t : Fin cfg0.N) : (dats m O 0 c).after 4 t = (O c t).y6 := by dsimp only [dats]
theorem after0_5 (c : Dev nD) (t : Fin cfg0.N) : (dats m O 0 c).after 5 t = (O c t).y7 := by dsimp only [dats]
theorem after0_6 (c : Dev nD) (t : Fin cfg0.N) : (dats m O 0 c).after 6 t = (O c t).y8 := by dsimp only [dats]
theorem after0_7 (c : Dev nD) (t : Fin cfg0.N) : (dats m O 0 c).after 7 t = (O c t).y9 := by dsimp only [dats]
theorem after0_8 (c : Dev nD) (t : Fin cfg0.N) : (dats m O 0 c).after 8 t = (O c t).y10 := by dsimp only [dats]
theorem after0_9 (c : Dev nD) (t : Fin cfg0.N) : (dats m O 0 c).after 9 t = (O c t).y11 := by dsimp only [dats]

theorem before0_0 (c : Dev nD) (t : Fin cfg0.N) (d) : (dats m O 0 c).before 0 t d = iblk m c 0 t :=
  before0_0_of m (dats m O 0 c) (A_eq m O c 0) (after0_0 m O c) t d
theorem before0_1 (c : Dev nD) (t : Fin cfg0.N) (d) : (dats m O 0 c).before 1 t d = iblk m c 1 t :=
  before0_1_of m (dats m O 0 c) (A_eq m O c 1) (after0_1 m O c) t d
theorem before0_2 (c : Dev nD) (t : Fin cfg0.N) (d) : (dats m O 0 c).before 2 t d = iblk m c 2 t :=
  before0_2_of m (dats m O 0 c) (A_eq m O c 2) (after0_2 m O c) t d

/-- The body's triple at point `t`: from its inputs' blocks and every other buffer at some contents. -/
theorem sound_point (c : Dev nD) (t : Fin cfg0.N) (K : PUnit → sProp 𝕄) :
    iprop(Pipeline.ΦA spec0 c ∗ owns (c : Thread nD τ) (st0_0 t) fullShare (iblk m c 0 t) ∗ owns (c : Thread nD τ) (st0_1 t) fullShare (iblk m c 1 t) ∗ owns (c : Thread nD τ) (st0_2 t) fullShare (iblk m c 2 t) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d)
        ∗ (iprop(Pipeline.ΦA spec0 c ∗ owns (c : Thread nD τ) (st0_0 t) fullShare (iblk m c 0 t) ∗ owns (c : Thread nD τ) (st0_1 t) fullShare (iblk m c 1 t) ∗ owns (c : Thread nD τ) (st0_2 t) fullShare (iblk m c 2 t) ∗ (∃ y5 y6 y7 y8 y9 y10 y11, ⌜LeftAt m c t y5 y6 y7 y8 y9 y10 y11⌝ ∗ owns (c : Thread nD τ) (st0_3 t) fullShare y5 ∗ owns (c : Thread nD τ) (st0_4 t) fullShare y6 ∗ owns (c : Thread nD τ) (st0_5 t) fullShare y7 ∗ owns (c : Thread nD τ) (st0_6 t) fullShare y8 ∗ owns (c : Thread nD τ) (st0_7 t) fullShare y9 ∗ owns (c : Thread nD τ) (st0_8 t) fullShare y10 ∗ owns (c : Thread nD τ) (st0_9 t) fullShare y11)) -∗ K ⟨⟩))
      ⊢ wp frame (wpE (defs₀ (F := F)) Variants.none c none) Set.univ (bodyAt0 t) K := by
  rw [PhiA_eq]
  unfold bodyAt0
  iintro ⟨⟨⟨S0, S1, S2, S3, S4, S5, S6, S7, S8, S9⟩, Hr⟩, H0, H1, H2, H3, H4, H5, H6, H7, H8, H9, Hk⟩
  iapply (sound_kernel c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (iblk m c 0 t) (iblk m c 1 t) (iblk m c 2 t) K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iintro ⟨H0, H1, H2, S0, S1, S2, S3, S4, S5, S6, S7, S8, S9, Hy⟩
  iapply Hk
  isplitl [S0 S1 S2 S3 S4 S5 S6 S7 S8 S9 Hr]
  · isplitr [Hr]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    iexact Hr
  isplitl [H0]; · iexact H0
  isplitl [H1]; · iexact H1
  isplitl [H2]; · iexact H2
  iexact Hy

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- What the body is called with at point `t`, its outputs' contents forgotten, -/
def bodyPre (c : Dev nD) (t : Fin cfg0.N) : sProp 𝕄 :=
  iprop((dats m O 0 c).Φ t.castSucc ∗ (dats m O 0 c).owesAt () t.castSucc
    ∗ (∃ d, owns (c : Thread nD τ) (st0_0 t) fullShare ((dats m O 0 c).before 0 t d))
    ∗ (∃ d, owns (c : Thread nD τ) (st0_1 t) fullShare ((dats m O 0 c).before 1 t d))
    ∗ (∃ d, owns (c : Thread nD τ) (st0_2 t) fullShare ((dats m O 0 c).before 2 t d))
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X))

/-- and what it returns. -/
def bodyPost (c : Dev nD) (t : Fin cfg0.N) : sProp 𝕄 :=
  iprop((dats m O 0 c).Φ t.succ ∗ (dats m O 0 c).owesAt () t.succ
    ∗ owns (c : Thread nD τ) (st0_0 t) fullShare ((dats m O 0 c).after 0 t)
    ∗ owns (c : Thread nD τ) (st0_1 t) fullShare ((dats m O 0 c).after 1 t)
    ∗ owns (c : Thread nD τ) (st0_2 t) fullShare ((dats m O 0 c).after 2 t)
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X))

theorem sound_body (c : Dev nD) (t : Fin cfg0.N) :
    bodyPre m O c t ⊢ wp frame (wpE (defs₀ (F := F)) Variants.none c none) Set.univ (bodyAt0 t) (fun _ => bodyPost m O c t) := by
  unfold bodyPre bodyPost
  simp only [before0_0, before0_1, before0_2]
  rw [show (dats m O 0 c).Φ t.succ = Pipeline.ΦA spec0 c from rfl, show (dats m O 0 c).Φ t.castSucc = Pipeline.ΦA spec0 c from rfl,
    show (dats m O 0 c).owesAt () t.succ = (dats m O 0 c).owesAt () t.castSucc from rfl, after0_0, after0_1, after0_2]
  iintro ⟨HΦ, Ho, ⟨%d0, H0⟩, ⟨%d1, H1⟩, ⟨%d2, H2⟩, H3, H4, H5, H6, H7, H8, H9⟩
  iapply (sound_point m c t _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨HΦ, H0, H1, H2, ⟨%y5, %y6, %y7, %y8, %y9, %y10, %y11, -, H3, H4, H5, H6, H7, H8, H9⟩⟩
  isplitl [HΦ]; · iexact HΦ
  isplitl [Ho]; · iexact Ho
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iexists _; iexact H9

/-- The library's body obligation, the outputs forgotten. -/
theorem body_obligation (c : Dev nD) : BodyObligation (dats (F := F) m O 0 c) (defs₀ (F := F)) Variants.none () Set.univ outs := fun t => by
  rw [bigSep_W0, bigSep_W0, defs₀_row]
  exact triple_restated (sound_body m O c t) rfl .rfl fun _ => .rfl

/-- Output contents that say nothing: the outputs are forgotten. -/
def junk : Dev nD → Fin cfg0.N → Outs F := fun _ _ =>
  ⟨fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _)⟩

set_option backward.isDefEq.respectTransparency.types false in
set_option maxHeartbeats 800000 in
/-- The launch, the outputs forgotten. -/
theorem run_main : θ_run defs (onTc (τ := τ) (main (F := F))) (s₀ m ρ)
    (fun r => Pipeline.RDat.FramePost (cfgs 0) (fun c => (dats m junk 0 c).toRForget outs) (V m) r ∧ r.2.sem = fun _ => 0) :=
  Pipeline.θ_run_frame_forget (Q' := _) cfgs (dats m junk) (0 : Fin 1) launch0 defs₀ Variants.none outs m ρ main
    (hbody := fun c => (body_obligation m junk c).loose) (hshare := fun c => (dats m junk 0 c).share_full fun _ => rfl)
    (howed := fun _ _ => rfl) (V := V m)
    (hmain := hmain m Variants.none) (hA := A_eq m junk) (hΦ := fun _ _ => rfl)

/-- The frame claim, at any values. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1.arr_in c 0 rfl).trans (V_main_arg0 m c), (h.1.arr_in c 1 rfl).trans (V_main_arg1 m c), (h.1.arr_in c 2 rfl).trans (V_main_arg2 m c)⟩, h.2⟩) (run_main m ρ)

end Cert.Kernel.Body

end
-- ==== Proof.BodyIdeal.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

/-! The kernel body's triple: from its three input blocks at given contents and every other buffer at any, the body ends
with the inputs as they were and each output holding the pieces its stores wrote, which the symbolic run names. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- What the body is run from: the inputs at `X`, every other buffer at `G`. -/
abbrev Before (c : Dev nD) (arg2 : Memref sig .tc .vmem S1x2048x512 .bf16) (_harg2 : arg2.IsWhole) (arg3 : Memref sig .tc .vmem S1x2048x128 .bf16) (_harg3 : arg3.IsWhole) (arg4 : Memref sig .tc .vmem S1x2048x128 .bf16) (_harg4 : arg4.IsWhole) (arg5 : Memref sig .tc .vmem S1x2048x512 .bf16) (_harg5 : arg5.IsWhole) (arg6 : Memref sig .tc .vmem S1x2048x512 .fp8e4m3) (_harg6 : arg6.IsWhole) (arg7 : Memref sig .tc .vmem S1x1x16x1024 .f32) (_harg7 : arg7.IsWhole) (arg8 : Memref sig .tc .vmem S1x2048x128 .fp8e4m3) (_harg8 : arg8.IsWhole) (arg9 : Memref sig .tc .vmem S1x1x16x128 .f32) (_harg9 : arg9.IsWhole) (arg10 : Memref sig .tc .vmem S1x2048x128 .fp8e4m3) (_harg10 : arg10.IsWhole) (arg11 : Memref sig .tc .vmem S1x1x16x128 .f32) (_harg11 : arg11.IsWhole) (arg12 : Memref sig .tc .vmem S16x4x256x128 .fp8e4m3) (_harg12 : arg12.IsWhole) (arg13 : Memref sig .tc .vmem S2x2048x128 .fp8e4m3) (_harg13 : arg13.IsWhole) (arg14 : Memref sig .tc .vmem S128x2048 .fp8e4m3) (_harg14 : arg14.IsWhole) (arg15 : Memref sig .tc .vmem S16x512 .f32) (_harg15 : arg15.IsWhole) (arg16 : Memref sig .tc .vmem S16x512 .f32) (_harg16 : arg16.IsWhole) (arg17 : Memref sig .tc .vmem S2x16x256 .f32) (_harg17 : arg17.IsWhole) (arg18 : Memref sig .tc .vmem S2x16x256 .f32) (_harg18 : arg18.IsWhole) (arg19 : Memref sig .tc .vmem S2x2048x256 .f32) (_harg19 : arg19.IsWhole) (arg20 : Memref sig .tc .vmem S2x2x128x128 .f32) (_harg20 : arg20.IsWhole) (arg21 : Memref sig .tc .vmem S2x4x16x256 .f32) (_harg21 : arg21.IsWhole) (X2 : BufTy.Contents (Elt F) arg2.view.ty) (X3 : BufTy.Contents (Elt F) arg3.view.ty) (X4 : BufTy.Contents (Elt F) arg4.view.ty) (G5 : BufTy.Contents (Elt F) arg5.view.ty) (G6 : BufTy.Contents (Elt F) arg6.view.ty) (G7 : BufTy.Contents (Elt F) arg7.view.ty) (G8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (G21 : BufTy.Contents (Elt F) arg21.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} G5) ∗ (arg6.view.loc (c : Thread nD τ) ↦[arg6.view.set]{fullShare} G6) ∗ (arg7.view.loc (c : Thread nD τ) ↦[arg7.view.set]{fullShare} G7) ∗ (arg8.view.loc (c : Thread nD τ) ↦[arg8.view.set]{fullShare} G8) ∗ (arg9.view.loc (c : Thread nD τ) ↦[arg9.view.set]{fullShare} G9) ∗ (arg10.view.loc (c : Thread nD τ) ↦[arg10.view.set]{fullShare} G10) ∗ (arg11.view.loc (c : Thread nD τ) ↦[arg11.view.set]{fullShare} G11) ∗ (arg12.view.loc (c : Thread nD τ) ↦[arg12.view.set]{fullShare} G12) ∗ (arg13.view.loc (c : Thread nD τ) ↦[arg13.view.set]{fullShare} G13) ∗ (arg14.view.loc (c : Thread nD τ) ↦[arg14.view.set]{fullShare} G14) ∗ (arg15.view.loc (c : Thread nD τ) ↦[arg15.view.set]{fullShare} G15) ∗ (arg16.view.loc (c : Thread nD τ) ↦[arg16.view.set]{fullShare} G16) ∗ (arg17.view.loc (c : Thread nD τ) ↦[arg17.view.set]{fullShare} G17) ∗ (arg18.view.loc (c : Thread nD τ) ↦[arg18.view.set]{fullShare} G18) ∗ (arg19.view.loc (c : Thread nD τ) ↦[arg19.view.set]{fullShare} G19) ∗ (arg20.view.loc (c : Thread nD τ) ↦[arg20.view.set]{fullShare} G20) ∗ (arg21.view.loc (c : Thread nD τ) ↦[arg21.view.set]{fullShare} G21))

set_option maxHeartbeats 2000000 in
/-- The run of the body, with what it leaves in each output. -/
def run (c : Dev nD) (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S1x2048x512 .fp8e4m3) (harg6 : arg6.IsWhole) (arg7 : Memref sig .tc .vmem S1x1x16x1024 .f32) (harg7 : arg7.IsWhole) (arg8 : Memref sig .tc .vmem S1x2048x128 .fp8e4m3) (harg8 : arg8.IsWhole) (arg9 : Memref sig .tc .vmem S1x1x16x128 .f32) (harg9 : arg9.IsWhole) (arg10 : Memref sig .tc .vmem S1x2048x128 .fp8e4m3) (harg10 : arg10.IsWhole) (arg11 : Memref sig .tc .vmem S1x1x16x128 .f32) (harg11 : arg11.IsWhole) (arg12 : Memref sig .tc .vmem S16x4x256x128 .fp8e4m3) (harg12 : arg12.IsWhole) (arg13 : Memref sig .tc .vmem S2x2048x128 .fp8e4m3) (harg13 : arg13.IsWhole) (arg14 : Memref sig .tc .vmem S128x2048 .fp8e4m3) (harg14 : arg14.IsWhole) (arg15 : Memref sig .tc .vmem S16x512 .f32) (harg15 : arg15.IsWhole) (arg16 : Memref sig .tc .vmem S16x512 .f32) (harg16 : arg16.IsWhole) (arg17 : Memref sig .tc .vmem S2x16x256 .f32) (harg17 : arg17.IsWhole) (arg18 : Memref sig .tc .vmem S2x16x256 .f32) (harg18 : arg18.IsWhole) (arg19 : Memref sig .tc .vmem S2x2048x256 .f32) (harg19 : arg19.IsWhole) (arg20 : Memref sig .tc .vmem S2x2x128x128 .f32) (harg20 : arg20.IsWhole) (arg21 : Memref sig .tc .vmem S2x4x16x256 .f32) (harg21 : arg21.IsWhole) (X2 : BufTy.Contents (Elt F) arg2.view.ty) (X3 : BufTy.Contents (Elt F) arg3.view.ty) (X4 : BufTy.Contents (Elt F) arg4.view.ty) (G5 : BufTy.Contents (Elt F) arg5.view.ty) (G6 : BufTy.Contents (Elt F) arg6.view.ty) (G7 : BufTy.Contents (Elt F) arg7.view.ty) (G8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (G21 : BufTy.Contents (Elt F) arg21.view.ty) :
    Σ' (C5 : BufTy.Contents (Elt F) arg5.view.ty), Σ' (C6 : BufTy.Contents (Elt F) arg6.view.ty), Σ' (C7 : BufTy.Contents (Elt F) arg7.view.ty), Σ' (C8 : BufTy.Contents (Elt F) arg8.view.ty), Σ' (C9 : BufTy.Contents (Elt F) arg9.view.ty), Σ' (C10 : BufTy.Contents (Elt F) arg10.view.ty),  { C11 : BufTy.Contents (Elt F) arg11.view.ty // ∀ (E : Set ℕ),
      Before c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21
      ⊢ wp frame (wpE (defs₀ (F := F)) Variants.none (c : Thread nD τ) none) E (cc0__attn_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} C5) ∗ (arg6.view.loc (c : Thread nD τ) ↦[arg6.view.set]{fullShare} C6) ∗ (arg7.view.loc (c : Thread nD τ) ↦[arg7.view.set]{fullShare} C7) ∗ (arg8.view.loc (c : Thread nD τ) ↦[arg8.view.set]{fullShare} C8) ∗ (arg9.view.loc (c : Thread nD τ) ↦[arg9.view.set]{fullShare} C9) ∗ (arg10.view.loc (c : Thread nD τ) ↦[arg10.view.set]{fullShare} C10) ∗ (arg11.view.loc (c : Thread nD τ) ↦[arg11.view.set]{fullShare} C11) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f)) ∗ (∃ f : BufTy.Contents (Elt F) arg21.view.ty, (arg21.view.loc (c : Thread nD τ) ↦[arg21.view.set]{fullShare} f)))) } := by
  refine ⟨?_, ?_, ?_, ?_, ?_, ?_, ?_, fun E => ?run⟩
  case run =>
    simp only [cc0__attn_kernel_eq_skeleton]; unfold cc0__attn_kernel_skel
    simp only [k0_part193_eq_skeleton]; unfold k0_part193_skel
    simp only [k0_part164_eq_skeleton]
    iintro ⟨H2, H3, H4, H5, H6, H7, H8, H9, H10, H11, H12, H13, H14, H15, H16, H17, H18, H19, H20, H21⟩
    sl_exec
    sl_step
    iframe H2; iframe H3; iframe H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21

end Cert.KernelIdeal.Body

end
-- ==== Proof.FrameIdeal.lean ====
module

public import proofs.«01_k».proof.Proof.BodyIdeal
public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

/-! The body's triple over what the memrefs read, the body obligation and the frame claim: every run of the program ends, with its
argument arrays unchanged and every semaphore counter at zero. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- What the body may leave in its outputs, read through their memrefs, when its inputs read `x`: what the run leaves from some
contents of every buffer that agree with `x`. -/
def Left (c : Dev nD) (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S1x2048x512 .fp8e4m3) (harg6 : arg6.IsWhole) (arg7 : Memref sig .tc .vmem S1x1x16x1024 .f32) (harg7 : arg7.IsWhole) (arg8 : Memref sig .tc .vmem S1x2048x128 .fp8e4m3) (harg8 : arg8.IsWhole) (arg9 : Memref sig .tc .vmem S1x1x16x128 .f32) (harg9 : arg9.IsWhole) (arg10 : Memref sig .tc .vmem S1x2048x128 .fp8e4m3) (harg10 : arg10.IsWhole) (arg11 : Memref sig .tc .vmem S1x1x16x128 .f32) (harg11 : arg11.IsWhole) (arg12 : Memref sig .tc .vmem S16x4x256x128 .fp8e4m3) (harg12 : arg12.IsWhole) (arg13 : Memref sig .tc .vmem S2x2048x128 .fp8e4m3) (harg13 : arg13.IsWhole) (arg14 : Memref sig .tc .vmem S128x2048 .fp8e4m3) (harg14 : arg14.IsWhole) (arg15 : Memref sig .tc .vmem S16x512 .f32) (harg15 : arg15.IsWhole) (arg16 : Memref sig .tc .vmem S16x512 .f32) (harg16 : arg16.IsWhole) (arg17 : Memref sig .tc .vmem S2x16x256 .f32) (harg17 : arg17.IsWhole) (arg18 : Memref sig .tc .vmem S2x16x256 .f32) (harg18 : arg18.IsWhole) (arg19 : Memref sig .tc .vmem S2x2048x256 .f32) (harg19 : arg19.IsWhole) (arg20 : Memref sig .tc .vmem S2x2x128x128 .f32) (harg20 : arg20.IsWhole) (arg21 : Memref sig .tc .vmem S2x4x16x256 .f32) (harg21 : arg21.IsWhole) (x2 : Vec F S1x2048x512 .bf16) (x3 : Vec F S1x2048x128 .bf16) (x4 : Vec F S1x2048x128 .bf16) (y5 : Vec F S1x2048x512 .bf16) (y6 : Vec F S1x2048x512 .fp8e4m3) (y7 : Vec F S1x1x16x1024 .f32) (y8 : Vec F S1x2048x128 .fp8e4m3) (y9 : Vec F S1x1x16x128 .f32) (y10 : Vec F S1x2048x128 .fp8e4m3) (y11 : Vec F S1x1x16x128 .f32) : Prop :=
  ∃ (X2 : BufTy.Contents (Elt F) arg2.view.ty) (X3 : BufTy.Contents (Elt F) arg3.view.ty) (X4 : BufTy.Contents (Elt F) arg4.view.ty) (G5 : BufTy.Contents (Elt F) arg5.view.ty) (G6 : BufTy.Contents (Elt F) arg6.view.ty) (G7 : BufTy.Contents (Elt F) arg7.view.ty) (G8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (G21 : BufTy.Contents (Elt F) arg21.view.ty), arg2.view.read (Elt F) X2 = x2 ∧ arg3.view.read (Elt F) X3 = x3 ∧ arg4.view.read (Elt F) X4 = x4 ∧ arg5.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).1 = y5 ∧ arg6.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.1 = y6 ∧ arg7.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.1 = y7 ∧ arg8.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.1 = y8 ∧ arg9.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.1 = y9 ∧ arg10.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.2.1 = y10 ∧ arg11.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.2.2.1 = y11

set_option maxHeartbeats 4000000 in
/-- The body's triple over what the memrefs read. -/
theorem sound_kernel (c : Dev nD) (E : Set ℕ) (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S1x2048x512 .fp8e4m3) (harg6 : arg6.IsWhole) (arg7 : Memref sig .tc .vmem S1x1x16x1024 .f32) (harg7 : arg7.IsWhole) (arg8 : Memref sig .tc .vmem S1x2048x128 .fp8e4m3) (harg8 : arg8.IsWhole) (arg9 : Memref sig .tc .vmem S1x1x16x128 .f32) (harg9 : arg9.IsWhole) (arg10 : Memref sig .tc .vmem S1x2048x128 .fp8e4m3) (harg10 : arg10.IsWhole) (arg11 : Memref sig .tc .vmem S1x1x16x128 .f32) (harg11 : arg11.IsWhole) (arg12 : Memref sig .tc .vmem S16x4x256x128 .fp8e4m3) (harg12 : arg12.IsWhole) (arg13 : Memref sig .tc .vmem S2x2048x128 .fp8e4m3) (harg13 : arg13.IsWhole) (arg14 : Memref sig .tc .vmem S128x2048 .fp8e4m3) (harg14 : arg14.IsWhole) (arg15 : Memref sig .tc .vmem S16x512 .f32) (harg15 : arg15.IsWhole) (arg16 : Memref sig .tc .vmem S16x512 .f32) (harg16 : arg16.IsWhole) (arg17 : Memref sig .tc .vmem S2x16x256 .f32) (harg17 : arg17.IsWhole) (arg18 : Memref sig .tc .vmem S2x16x256 .f32) (harg18 : arg18.IsWhole) (arg19 : Memref sig .tc .vmem S2x2048x256 .f32) (harg19 : arg19.IsWhole) (arg20 : Memref sig .tc .vmem S2x2x128x128 .f32) (harg20 : arg20.IsWhole) (arg21 : Memref sig .tc .vmem S2x4x16x256 .f32) (harg21 : arg21.IsWhole) (x2 : Vec F S1x2048x512 .bf16) (x3 : Vec F S1x2048x128 .bf16) (x4 : Vec F S1x2048x128 .bf16) (K : PUnit → sProp 𝕄) :
    iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x2 ∗ owns (c : Thread nD τ) arg3 fullShare x3 ∗ owns (c : Thread nD τ) arg4 fullShare x4 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ y5 y6 y7 y8 y9 y10 y11, ⌜Left c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 y5 y6 y7 y8 y9 y10 y11⌝ ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11)) -∗ K ⟨⟩))
      ⊢ wp frame (wpE (defs₀ (F := F)) Variants.none c none) E (cc0__attn_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold owns
  iintro ⟨⟨%X2, %hX2, H2⟩, ⟨%X3, %hX3, H3⟩, ⟨%X4, %hX4, H4⟩, ⟨%d5, %G5, -, H5⟩, ⟨%d6, %G6, -, H6⟩, ⟨%d7, %G7, -, H7⟩, ⟨%d8, %G8, -, H8⟩, ⟨%d9, %G9, -, H9⟩, ⟨%d10, %G10, -, H10⟩, ⟨%d11, %G11, -, H11⟩, ⟨%d12, %G12, -, H12⟩, ⟨%d13, %G13, -, H13⟩, ⟨%d14, %G14, -, H14⟩, ⟨%d15, %G15, -, H15⟩, ⟨%d16, %G16, -, H16⟩, ⟨%d17, %G17, -, H17⟩, ⟨%d18, %G18, -, H18⟩, ⟨%d19, %G19, -, H19⟩, ⟨%d20, %G20, -, H20⟩, ⟨%d21, %G21, -, H21⟩, Hk⟩
  iapply (wp_wand_r Idealize.ShloMosaic.frame (wpE (defs₀ (F := F)) Variants.none (c : Thread nD τ) none) E)
  isplitr [Hk]
  · iapply ((run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.2.2.2 E)
    unfold Before
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · iintro %_ ⟨H2, H3, H4, H5, H6, H7, H8, H9, H10, H11, ⟨%g12, H12⟩, ⟨%g13, H13⟩, ⟨%g14, H14⟩, ⟨%g15, H15⟩, ⟨%g16, H16⟩, ⟨%g17, H17⟩, ⟨%g18, H18⟩, ⟨%g19, H19⟩, ⟨%g20, H20⟩, ⟨%g21, H21⟩⟩
    iapply Hk
    isplitl [H2]
    · iexists X2; isplitr; · ipureintro; exact hX2
      iexact H2
    isplitl [H3]
    · iexists X3; isplitr; · ipureintro; exact hX3
      iexact H3
    isplitl [H4]
    · iexists X4; isplitr; · ipureintro; exact hX4
      iexact H4
    isplitl [H12]
    · iexists _; iexists g12; isplitr; · ipureintro; rfl
      iexact H12
    isplitl [H13]
    · iexists _; iexists g13; isplitr; · ipureintro; rfl
      iexact H13
    isplitl [H14]
    · iexists _; iexists g14; isplitr; · ipureintro; rfl
      iexact H14
    isplitl [H15]
    · iexists _; iexists g15; isplitr; · ipureintro; rfl
      iexact H15
    isplitl [H16]
    · iexists _; iexists g16; isplitr; · ipureintro; rfl
      iexact H16
    isplitl [H17]
    · iexists _; iexists g17; isplitr; · ipureintro; rfl
      iexact H17
    isplitl [H18]
    · iexists _; iexists g18; isplitr; · ipureintro; rfl
      iexact H18
    isplitl [H19]
    · iexists _; iexists g19; isplitr; · ipureintro; rfl
      iexact H19
    isplitl [H20]
    · iexists _; iexists g20; isplitr; · ipureintro; rfl
      iexact H20
    isplitl [H21]
    · iexists _; iexists g21; isplitr; · ipureintro; rfl
      iexact H21
    iexists (arg5.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).1)
    iexists (arg6.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.1)
    iexists (arg7.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.1)
    iexists (arg8.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.1)
    iexists (arg9.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.1)
    iexists (arg10.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.2.1)
    iexists (arg11.view.read (Elt F) (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.2.2.1)
    isplitr
    · ipureintro
      exact ⟨X2, X3, X4, G5, G6, G7, G8, G9, G10, G11, G12, G13, G14, G15, G16, G17, G18, G19, G20, G21, hX2, hX3, hX4, rfl, rfl, rfl, rfl, rfl, rfl, rfl⟩
    isplitl [H5]
    · iexists ((run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).1); isplitr; · ipureintro; exact rfl
      iexact H5
    isplitl [H6]
    · iexists ((run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.1); isplitr; · ipureintro; exact rfl
      iexact H6
    isplitl [H7]
    · iexists ((run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.1); isplitr; · ipureintro; exact rfl
      iexact H7
    isplitl [H8]
    · iexists ((run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.1); isplitr; · ipureintro; exact rfl
      iexact H8
    isplitl [H9]
    · iexists ((run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.1); isplitr; · ipureintro; exact rfl
      iexact H9
    isplitl [H10]
    · iexists ((run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.2.1); isplitr; · ipureintro; exact rfl
      iexact H10
    iexists ((run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.2.2.1); isplitr; · ipureintro; exact rfl
    iexact H11

/-- The invariant between points: every scratch buffer at some contents, and the generator's register. -/
theorem PhiA_eq (c : Dev nD) : (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d)) ∗ ∃ r, prngReg c r) := by
  unfold Pipeline.ΦA
  rw [scopedRest0_eq]
  simp only [owns_whole]

variable (m : (ℓ : Loc nD τ sig) → Buf (Elt F) ℓ) (ρ : Dev nD → PrngReg)

/-- What the body may leave at point `t`. -/
abbrev LeftAt (c : Dev nD) (t : Fin cfg0.N) (y5 : Vec F S1x2048x512 .bf16) (y6 : Vec F S1x2048x512 .fp8e4m3) (y7 : Vec F S1x1x16x1024 .f32) (y8 : Vec F S1x2048x128 .fp8e4m3) (y9 : Vec F S1x1x16x128 .f32) (y10 : Vec F S1x2048x128 .fp8e4m3) (y11 : Vec F S1x1x16x128 .f32) : Prop :=
  Left c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (iblk m c 0 t) (iblk m c 1 t) (iblk m c 2 t) y5 y6 y7 y8 y9 y10 y11

/-- The outputs' contents after the body at a point, one per output. -/
structure Outs (F : FTy → Type) [FloatOps F] where
  y5 : Vec F S1x2048x512 .bf16
  y6 : Vec F S1x2048x512 .fp8e4m3
  y7 : Vec F S1x1x16x1024 .f32
  y8 : Vec F S1x2048x128 .fp8e4m3
  y9 : Vec F S1x1x16x128 .f32
  y10 : Vec F S1x2048x128 .fp8e4m3
  y11 : Vec F S1x1x16x128 .f32

/-- Which windows are outputs. -/
def outs : Fin cfg0.W → Bool := fun w => match w with | ⟨0, _⟩ => false | ⟨1, _⟩ => false | ⟨2, _⟩ => false | _ => true

/-- The proof data at given output contents `O`. -/
def dats (O : Dev nD → Fin cfg0.N → Outs F) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (O c t).y5
    | ⟨4, _⟩ => (O c t).y6
    | ⟨5, _⟩ => (O c t).y7
    | ⟨6, _⟩ => (O c t).y8
    | ⟨7, _⟩ => (O c t).y9
    | ⟨8, _⟩ => (O c t).y10
    | ⟨9, _⟩ => (O c t).y11
  Φ _ := Pipeline.ΦA spec0 c
  q _ := fullShare
  owed _ := 0

variable (O : Dev nD → Fin cfg0.N → Outs F)

theorem A_eq (c : Dev nD) (w : Fin cfg0.W) : (dats m O 0 c).A w = V m c (Pipeline.arrRef spec0 w) := by
  dsimp only [dats]

theorem after0_0 (c : Dev nD) (t : Fin cfg0.N) : (dats m O 0 c).after 0 t = iblk m c 0 t := by dsimp only [dats]
theorem after0_1 (c : Dev nD) (t : Fin cfg0.N) : (dats m O 0 c).after 1 t = iblk m c 1 t := by dsimp only [dats]
theorem after0_2 (c : Dev nD) (t : Fin cfg0.N) : (dats m O 0 c).after 2 t = iblk m c 2 t := by dsimp only [dats]
theorem after0_3 (c : Dev nD) (t : Fin cfg0.N) : (dats m O 0 c).after 3 t = (O c t).y5 := by dsimp only [dats]
theorem after0_4 (c : Dev nD) (t : Fin cfg0.N) : (dats m O 0 c).after 4 t = (O c t).y6 := by dsimp only [dats]
theorem after0_5 (c : Dev nD) (t : Fin cfg0.N) : (dats m O 0 c).after 5 t = (O c t).y7 := by dsimp only [dats]
theorem after0_6 (c : Dev nD) (t : Fin cfg0.N) : (dats m O 0 c).after 6 t = (O c t).y8 := by dsimp only [dats]
theorem after0_7 (c : Dev nD) (t : Fin cfg0.N) : (dats m O 0 c).after 7 t = (O c t).y9 := by dsimp only [dats]
theorem after0_8 (c : Dev nD) (t : Fin cfg0.N) : (dats m O 0 c).after 8 t = (O c t).y10 := by dsimp only [dats]
theorem after0_9 (c : Dev nD) (t : Fin cfg0.N) : (dats m O 0 c).after 9 t = (O c t).y11 := by dsimp only [dats]

theorem before0_0 (c : Dev nD) (t : Fin cfg0.N) (d) : (dats m O 0 c).before 0 t d = iblk m c 0 t :=
  before0_0_of m (dats m O 0 c) (A_eq m O c 0) (after0_0 m O c) t d
theorem before0_1 (c : Dev nD) (t : Fin cfg0.N) (d) : (dats m O 0 c).before 1 t d = iblk m c 1 t :=
  before0_1_of m (dats m O 0 c) (A_eq m O c 1) (after0_1 m O c) t d
theorem before0_2 (c : Dev nD) (t : Fin cfg0.N) (d) : (dats m O 0 c).before 2 t d = iblk m c 2 t :=
  before0_2_of m (dats m O 0 c) (A_eq m O c 2) (after0_2 m O c) t d

/-- The body's triple at point `t`: from its inputs' blocks and every other buffer at some contents. -/
theorem sound_point (c : Dev nD) (t : Fin cfg0.N) (K : PUnit → sProp 𝕄) :
    iprop(Pipeline.ΦA spec0 c ∗ owns (c : Thread nD τ) (st0_0 t) fullShare (iblk m c 0 t) ∗ owns (c : Thread nD τ) (st0_1 t) fullShare (iblk m c 1 t) ∗ owns (c : Thread nD τ) (st0_2 t) fullShare (iblk m c 2 t) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d)
        ∗ (iprop(Pipeline.ΦA spec0 c ∗ owns (c : Thread nD τ) (st0_0 t) fullShare (iblk m c 0 t) ∗ owns (c : Thread nD τ) (st0_1 t) fullShare (iblk m c 1 t) ∗ owns (c : Thread nD τ) (st0_2 t) fullShare (iblk m c 2 t) ∗ (∃ y5 y6 y7 y8 y9 y10 y11, ⌜LeftAt m c t y5 y6 y7 y8 y9 y10 y11⌝ ∗ owns (c : Thread nD τ) (st0_3 t) fullShare y5 ∗ owns (c : Thread nD τ) (st0_4 t) fullShare y6 ∗ owns (c : Thread nD τ) (st0_5 t) fullShare y7 ∗ owns (c : Thread nD τ) (st0_6 t) fullShare y8 ∗ owns (c : Thread nD τ) (st0_7 t) fullShare y9 ∗ owns (c : Thread nD τ) (st0_8 t) fullShare y10 ∗ owns (c : Thread nD τ) (st0_9 t) fullShare y11)) -∗ K ⟨⟩))
      ⊢ wp frame (wpE (defs₀ (F := F)) Variants.none c none) Set.univ (bodyAt0 t) K := by
  rw [PhiA_eq]
  unfold bodyAt0
  iintro ⟨⟨⟨S0, S1, S2, S3, S4, S5, S6, S7, S8, S9⟩, Hr⟩, H0, H1, H2, H3, H4, H5, H6, H7, H8, H9, Hk⟩
  iapply (sound_kernel c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (iblk m c 0 t) (iblk m c 1 t) (iblk m c 2 t) K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iintro ⟨H0, H1, H2, S0, S1, S2, S3, S4, S5, S6, S7, S8, S9, Hy⟩
  iapply Hk
  isplitl [S0 S1 S2 S3 S4 S5 S6 S7 S8 S9 Hr]
  · isplitr [Hr]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    iexact Hr
  isplitl [H0]; · iexact H0
  isplitl [H1]; · iexact H1
  isplitl [H2]; · iexact H2
  iexact Hy

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- What the body is called with at point `t`, its outputs' contents forgotten, -/
def bodyPre (c : Dev nD) (t : Fin cfg0.N) : sProp 𝕄 :=
  iprop((dats m O 0 c).Φ t.castSucc ∗ (dats m O 0 c).owesAt () t.castSucc
    ∗ (∃ d, owns (c : Thread nD τ) (st0_0 t) fullShare ((dats m O 0 c).before 0 t d))
    ∗ (∃ d, owns (c : Thread nD τ) (st0_1 t) fullShare ((dats m O 0 c).before 1 t d))
    ∗ (∃ d, owns (c : Thread nD τ) (st0_2 t) fullShare ((dats m O 0 c).before 2 t d))
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X))

/-- and what it returns. -/
def bodyPost (c : Dev nD) (t : Fin cfg0.N) : sProp 𝕄 :=
  iprop((dats m O 0 c).Φ t.succ ∗ (dats m O 0 c).owesAt () t.succ
    ∗ owns (c : Thread nD τ) (st0_0 t) fullShare ((dats m O 0 c).after 0 t)
    ∗ owns (c : Thread nD τ) (st0_1 t) fullShare ((dats m O 0 c).after 1 t)
    ∗ owns (c : Thread nD τ) (st0_2 t) fullShare ((dats m O 0 c).after 2 t)
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X))

theorem sound_body (c : Dev nD) (t : Fin cfg0.N) :
    bodyPre m O c t ⊢ wp frame (wpE (defs₀ (F := F)) Variants.none c none) Set.univ (bodyAt0 t) (fun _ => bodyPost m O c t) := by
  unfold bodyPre bodyPost
  simp only [before0_0, before0_1, before0_2]
  rw [show (dats m O 0 c).Φ t.succ = Pipeline.ΦA spec0 c from rfl, show (dats m O 0 c).Φ t.castSucc = Pipeline.ΦA spec0 c from rfl,
    show (dats m O 0 c).owesAt () t.succ = (dats m O 0 c).owesAt () t.castSucc from rfl, after0_0, after0_1, after0_2]
  iintro ⟨HΦ, Ho, ⟨%d0, H0⟩, ⟨%d1, H1⟩, ⟨%d2, H2⟩, H3, H4, H5, H6, H7, H8, H9⟩
  iapply (sound_point m c t _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨HΦ, H0, H1, H2, ⟨%y5, %y6, %y7, %y8, %y9, %y10, %y11, -, H3, H4, H5, H6, H7, H8, H9⟩⟩
  isplitl [HΦ]; · iexact HΦ
  isplitl [Ho]; · iexact Ho
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iexists _; iexact H9

/-- The library's body obligation, the outputs forgotten. -/
theorem body_obligation (c : Dev nD) : BodyObligation (dats (F := F) m O 0 c) (defs₀ (F := F)) Variants.none () Set.univ outs := fun t => by
  rw [bigSep_W0, bigSep_W0, defs₀_row]
  exact triple_restated (sound_body m O c t) rfl .rfl fun _ => .rfl

/-- Output contents that say nothing: the outputs are forgotten. -/
def junk : Dev nD → Fin cfg0.N → Outs F := fun _ _ =>
  ⟨fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _)⟩

set_option backward.isDefEq.respectTransparency.types false in
set_option maxHeartbeats 800000 in
/-- The launch, the outputs forgotten. -/
theorem run_main : θ_run defs (onTc (τ := τ) (main (F := F))) (s₀ m ρ)
    (fun r => Pipeline.RDat.FramePost (cfgs 0) (fun c => (dats m junk 0 c).toRForget outs) (V m) r ∧ r.2.sem = fun _ => 0) :=
  Pipeline.θ_run_frame_forget (Q' := _) cfgs (dats m junk) (0 : Fin 1) launch0 defs₀ Variants.none outs m ρ main
    (hbody := fun c => (body_obligation m junk c).loose) (hshare := fun c => (dats m junk 0 c).share_full fun _ => rfl)
    (howed := fun _ _ => rfl) (V := V m)
    (hmain := hmain m Variants.none) (hA := A_eq m junk) (hΦ := fun _ _ => rfl)

/-- The frame claim, at any values. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1.arr_in c 0 rfl).trans (V_main_arg0 m c), (h.1.arr_in c 1 rfl).trans (V_main_arg1 m c), (h.1.arr_in c 2 rfl).trans (V_main_arg2 m c)⟩, h.2⟩) (run_main m ρ)

end Cert.KernelIdeal.Body

end
-- ==== Proof.Scale.lean ====
module

public import Idealize.ShloMosaic.PureOps.Ideal.Laws
public import Idealize.ShloMosaic.Lib.IdealHost
public import Mathlib.Analysis.SpecialFunctions.Pow.Real

/-! The scale of a block, over the extended reals. The kernel finds the exponent of a block's magnitude by a binary search over
the eight bits of an f32 exponent field and builds the powers of two from their bits; the reference counts the powers of two that
are at most the magnitude and calls `power`. Both are one number. -/

@[expose] public section

noncomputable section

namespace Cert.Scale

open Idealize.ShloMosaic

/-- The float whose exponent field is `k`: what the kernel writes as the word `k` shifted past the fraction. -/
def word (k : BitVec 32) : EReal := Ideal.ofBits .f32 (IntOp.shli .vector k 23#32)

/-- One step of the kernel's binary search. -/
def step (y : EReal) (b bit : BitVec 32) : BitVec 32 :=
  Scalar.select (FloatOps.cmpf (F := Ideal) (φ := .f32) .oge y (word (IntOp.addi b bit))) (IntOp.addi b bit) b

/-- The kernel's binary search. -/
def field (y : EReal) : BitVec 32 :=
  step y (step y (step y (step y (step y (step y (step y (step y 0#32 128#32) 64#32) 32#32) 16#32) 8#32) 4#32) 2#32) 1#32

/-- The kernel's exponent of a block whose greatest magnitude is `a`. -/
def kexp (a : EReal) : BitVec 32 :=
  Scalar.select (FloatOps.cmpf (F := Ideal) (φ := .f32) .oeq a (Ideal.ofBits .f32 0#32)) 0#32
    (Scalar.select (IntOp.ori (IntOp.cmpi .eq (field (a * Ideal.ofBits .f32 991054117#32)) 0#32)
      (IntOp.cmpi .eq (field (a * Ideal.ofBits .f32 991054117#32)) 255#32)) 0#32
      (IntOp.subi (field (a * Ideal.ofBits .f32 991054117#32)) 126#32))

/-- The kernel's scale. -/
def kscale (a : EReal) : EReal := word (IntOp.addi (kexp a) 127#32)

/-- The reciprocal of the kernel's scale. -/
def kinv (a : EReal) : EReal := word (IntOp.addi (IntOp.subi 0#32 (kexp a)) 127#32)

/-- How many of the 254 powers of two of the normal numbers are at most `y`. -/
def count (y : EReal) : ℕ := ((Finset.univ : Finset (Fin 254)).filter fun j => (((2 : ℝ) ^ ((j.val : ℤ) - 126) : ℝ) : EReal) ≤ y).card

/-- The reference's exponent, from the count. -/
def rexp (a : EReal) (n : BitVec 32) : BitVec 32 :=
  Scalar.select (FloatOps.cmpf (F := Ideal) (φ := .f32) .oeq a (Ideal.ofBits .f32 0#32)) 0#32
    (Scalar.select (IntOp.cmpi .eq n 0#32) 0#32 (IntOp.subi n 126#32))

/-- The reference's scale. -/
def rscale (a : EReal) : EReal :=
  Ideal.pow (Ideal.ofBits .f32 0x40000000#32) (FloatOps.sitofp (F := Ideal) .f32 (rexp a (BitVec.ofNat 32 (count (a * Ideal.ofBits .f32 991054117#32)))))

/-- The reciprocal of the reference's scale. -/
def rinv (a : EReal) : EReal :=
  Ideal.pow (Ideal.ofBits .f32 0x40000000#32) (-(FloatOps.sitofp (F := Ideal) .f32 (rexp a (BitVec.ofNat 32 (count (a * Ideal.ofBits .f32 991054117#32))))))

theorem fields (k : Fin 255) : ((IntOp.shli .vector (BitVec.ofNat 32 k.val) 23#32).extractLsb' 31 1 == 1#1) = false
      ∧ ((IntOp.shli .vector (BitVec.ofNat 32 k.val) 23#32).extractLsb' 23 8).toNat = k.val
      ∧ ((IntOp.shli .vector (BitVec.ofNat 32 k.val) 23#32).extractLsb' 0 23).toNat = 0 := by
  revert k; decide +kernel

theorem zpow_split (k : ℕ) : ((2 : ℝ) ^ ((k : ℤ) - 127)) = 8388608 * 2 ^ ((k : ℤ) - 127 - 23) := by
  have h : (8388608 : ℝ) = 2 ^ (23 : ℤ) := by norm_num
  rw [h, ← zpow_add₀ (by norm_num)]; congr 1; ring

/-- A normal f32 with a zero fraction and no sign. -/
theorem ieee_pow (b : BitVec 32) (k : ℕ) (e1 : (b.extractLsb' 31 1 == 1#1) = false) (e2 : (b.extractLsb' 23 8).toNat = k)
    (e3 : (b.extractLsb' 0 23).toNat = 0) (h1 : 1 ≤ k) (h2 : k ≤ 254) :
    Ideal.ieee 8 23 b = (((2 : ℝ) ^ ((k : ℤ) - 127) : ℝ) : EReal) := by
  unfold Ideal.ieee
  simp only [Nat.reduceAdd, e1, e2, e3]
  rw [if_neg (show ¬ k = 2 ^ 8 - 1 by omega), if_neg (show ¬ k = 0 by omega), zpow_split]
  norm_num

theorem word_ofNat (k : ℕ) (h1 : 1 ≤ k) (h2 : k ≤ 254) :
    word (BitVec.ofNat 32 k) = (((2 : ℝ) ^ ((k : ℤ) - 127) : ℝ) : EReal) := by
  obtain ⟨e1, e2, e3⟩ := fields ⟨k, by omega⟩
  exact ieee_pow _ k e1 e2 e3 h1 h2

theorem word_top : word 255#32 = ⊤ := by
  have e1 : ((IntOp.shli .vector 255#32 23#32).extractLsb' (8 + 23) 1 == 1#1) = false := by decide
  have e2 : ((IntOp.shli .vector 255#32 23#32).extractLsb' 23 8).toNat = 255 := by decide
  have e3 : ((IntOp.shli .vector 255#32 23#32).extractLsb' 0 23).toNat = 0 := by decide
  unfold word
  simp only [Ideal.ofBits]
  unfold Ideal.ieee
  rw [e1, e2, e3]
  norm_num

theorem count_le (y : EReal) : count y ≤ 254 := (Finset.card_le_univ _).trans (by simp)

/-- A power is at most `y` exactly when its place is below the count. -/
theorem lt_count (y : EReal) (j : ℕ) (h : j < 254) : j < count y ↔ (((2 : ℝ) ^ ((j : ℤ) - 126) : ℝ) : EReal) ≤ y := by
  have mono : ∀ i j : ℕ, i ≤ j → (((2 : ℝ) ^ ((i : ℤ) - 126) : ℝ) : EReal) ≤ (((2 : ℝ) ^ ((j : ℤ) - 126) : ℝ) : EReal) := fun i j hij =>
    EReal.coe_le_coe_iff.2 (zpow_le_zpow_right₀ (by norm_num) (by omega))
  constructor
  · intro hj
    by_contra hc
    have hs : ((Finset.univ : Finset (Fin 254)).filter fun j => (((2 : ℝ) ^ ((j.val : ℤ) - 126) : ℝ) : EReal) ≤ y)
        ⊆ (Finset.univ : Finset (Fin 254)).filter fun i => i.val < j := by
      intro i hi
      simp only [Finset.mem_filter, Finset.mem_univ, true_and] at hi ⊢
      by_contra hij
      exact hc ((mono _ _ (by omega)).trans hi)
    have hc2 : ((Finset.univ : Finset (Fin 254)).filter fun i => i.val < j).card = j := by
      rw [Fin.card_filter_val_lt]; omega
    have := Finset.card_le_card hs
    rw [hc2] at this
    exact absurd hj (not_lt.2 this)
  · intro hj
    have hs : ((Finset.univ : Finset (Fin 254)).filter fun i => i.val < j + 1)
        ⊆ (Finset.univ : Finset (Fin 254)).filter fun j => (((2 : ℝ) ^ ((j.val : ℤ) - 126) : ℝ) : EReal) ≤ y := by
      intro i hi
      simp only [Finset.mem_filter, Finset.mem_univ, true_and] at hi ⊢
      exact (mono _ _ (by omega)).trans hj
    have hc2 : ((Finset.univ : Finset (Fin 254)).filter fun i => i.val < j + 1).card = j + 1 := by
      rw [Fin.card_filter_val_lt]; omega
    have := Finset.card_le_card hs
    rw [hc2] at this
    exact this

/-- A step against a number whose count is `n` compares with `n`. -/
theorem step_eq (y : EReal) (hy : y < ⊤) (b bit : BitVec 32) (h1 : 1 ≤ (b + bit).toNat) (h2 : (b + bit).toNat ≤ 255) :
    step y b bit = if (b + bit).toNat ≤ count y then b + bit else b := by
  have hk : b + bit = BitVec.ofNat 32 (b + bit).toNat := by rw [BitVec.ofNat_toNat, BitVec.setWidth_eq]
  have key : word (b + bit) ≤ y ↔ (b + bit).toNat ≤ count y := by
    rcases Nat.lt_or_ge (b + bit).toNat 255 with h | h
    · rw [hk, word_ofNat _ h1 (by omega), ← hk]
      have := lt_count y ((b + bit).toNat - 1) (by omega)
      rw [show (((b + bit).toNat : ℤ) - 127) = (((b + bit).toNat - 1 : ℕ) : ℤ) - 126 by omega, ← this]
      omega
    · have h255 : (b + bit).toNat = 255 := le_antisymm h2 h
      rw [hk, h255, word_top]
      have := count_le y
      constructor
      · intro hh; exact absurd (top_le_iff.1 hh) hy.ne
      · intro hh
        have h3 : (255#32 : BitVec 32).toNat = 255 := rfl
        omega
  show Scalar.select (BitVec.ofBool (decide (word (b + bit) ≤ y))) (b + bit) b = _
  by_cases hc : (b + bit).toNat ≤ count y
  · rw [if_pos hc, decide_eq_true (key.2 hc)]; rfl
  · rw [if_neg hc, decide_eq_false (fun h => hc (key.1 h))]; rfl

/-- The same search against a natural number. -/
def nstep (n : ℕ) (b bit : BitVec 32) : BitVec 32 := if (b + bit).toNat ≤ n then b + bit else b

def nfield (n : ℕ) : BitVec 32 :=
  nstep n (nstep n (nstep n (nstep n (nstep n (nstep n (nstep n (nstep n 0#32 128#32) 64#32) 32#32) 16#32) 8#32) 4#32) 2#32) 1#32

theorem nfield_eq : ∀ n : Fin 255, nfield n.val = BitVec.ofNat 32 n.val := by decide +kernel

theorem field_eq (y : EReal) (hy : y < ⊤) : field y = BitVec.ofNat 32 (count y) := by
  have hs : ∀ (b bit : BitVec 32), 1 ≤ (b + bit).toNat → (b + bit).toNat ≤ 255 → step y b bit = nstep (count y) b bit :=
    fun b bit h1 h2 => step_eq y hy b bit h1 h2
  have hb : ∀ (n : ℕ) (b bit : BitVec 32), nstep n b bit = b ∨ nstep n b bit = b + bit := by
    intro n b bit; unfold nstep; split <;> simp
  have h := nfield_eq ⟨count y, by have := count_le y; omega⟩
  refine Eq.trans ?_ h
  unfold field nfield
  have bound : ∀ (n : ℕ) (b bit : BitVec 32) (u v : ℕ), b.toNat ≤ u → bit.toNat = v → u + v ≤ 255 → (nstep n b bit).toNat ≤ u + v := by
    intro n b bit u v h1 h2 h3
    have : (b + bit).toNat = b.toNat + bit.toNat := by rw [BitVec.toNat_add, Nat.mod_eq_of_lt]; omega
    rcases hb n b bit with e | e <;> rw [e] <;> omega
  have ok : ∀ (b bit : BitVec 32) (u v : ℕ), b.toNat ≤ u → bit.toNat = v → u + v ≤ 255 → 1 ≤ v →
      step y b bit = nstep (count y) b bit := by
    intro b bit u v h1 h2 h3 h4
    have : (b + bit).toNat = b.toNat + bit.toNat := by rw [BitVec.toNat_add, Nat.mod_eq_of_lt]; omega
    exact hs b bit (by omega) (by omega)
  have b1 := bound (count y) 0#32 128#32 0 128 (by decide) (by decide) (by decide)
  have b2 := bound (count y) _ 64#32 _ 64 b1 (by decide) (by decide)
  have b3 := bound (count y) _ 32#32 _ 32 b2 (by decide) (by decide)
  have b4 := bound (count y) _ 16#32 _ 16 b3 (by decide) (by decide)
  have b5 := bound (count y) _ 8#32 _ 8 b4 (by decide) (by decide)
  have b6 := bound (count y) _ 4#32 _ 4 b5 (by decide) (by decide)
  have b7 := bound (count y) _ 2#32 _ 2 b6 (by decide) (by decide)
  rw [ok 0#32 128#32 0 128 (by decide) (by decide) (by decide) (by decide),
    ok _ 64#32 _ 64 b1 (by decide) (by decide) (by decide),
    ok _ 32#32 _ 32 b2 (by decide) (by decide) (by decide),
    ok _ 16#32 _ 16 b3 (by decide) (by decide) (by decide),
    ok _ 8#32 _ 8 b4 (by decide) (by decide) (by decide),
    ok _ 4#32 _ 4 b5 (by decide) (by decide) (by decide),
    ok _ 2#32 _ 2 b6 (by decide) (by decide) (by decide),
    ok _ 1#32 _ 1 b7 (by decide) (by decide) (by decide)]

theorem two_f32 : Ideal.ofBits .f32 0x40000000#32 = ((2 : ℝ) : EReal) := by
  have h := word_ofNat 128 (by norm_num) (by norm_num)
  have e : (IntOp.shli .vector (BitVec.ofNat 32 128) 23#32) = 0x40000000#32 := by decide
  unfold word at h
  rw [e] at h
  rw [h]
  norm_num

theorem pow_two_coe (r : ℝ) : Ideal.pow ((2 : ℝ) : EReal) ((r : ℝ) : EReal) = (((2 : ℝ) ^ r : ℝ) : EReal) := rfl

theorem sitofp_eq (e : BitVec 32) : FloatOps.sitofp (F := Ideal) .f32 e = (((e.toInt : ℤ) : ℝ) : EReal) := rfl

/-- The value of `448⁻¹` in f32. -/
theorem inv448 : Ideal.ofBits .f32 991054117#32 = (((9586981 : ℝ) * 2 ^ (-32 : ℤ) : ℝ) : EReal) := by
  have e1 : ((991054117#32).extractLsb' (8 + 23) 1 == 1#1) = false := by decide
  have e2 : ((991054117#32).extractLsb' 23 8).toNat = 118 := by decide
  have e3 : ((991054117#32).extractLsb' 0 23).toNat = 1198373 := by decide
  simp only [Ideal.ofBits]
  unfold Ideal.ieee
  rw [e1, e2, e3]
  norm_num

theorem ori_eq_select (n : ℕ) (h : n ≤ 254) :
    Scalar.select (IntOp.ori (IntOp.cmpi .eq (BitVec.ofNat 32 n) 0#32) (IntOp.cmpi .eq (BitVec.ofNat 32 n) 255#32)) 0#32
        (IntOp.subi (BitVec.ofNat 32 n) 126#32)
      = Scalar.select (IntOp.cmpi .eq (BitVec.ofNat 32 n) 0#32) 0#32 (IntOp.subi (BitVec.ofNat 32 n) 126#32) := by
  have : ∀ n : Fin 255, Scalar.select (IntOp.ori (IntOp.cmpi .eq (BitVec.ofNat 32 n.val) 0#32) (IntOp.cmpi .eq (BitVec.ofNat 32 n.val) 255#32)) 0#32
        (IntOp.subi (BitVec.ofNat 32 n.val) 126#32)
      = Scalar.select (IntOp.cmpi .eq (BitVec.ofNat 32 n.val) 0#32) 0#32 (IntOp.subi (BitVec.ofNat 32 n.val) 126#32) := by decide +kernel
  exact this ⟨n, by omega⟩

theorem kexp_eq (a : EReal) (hy : a * Ideal.ofBits .f32 991054117#32 < ⊤) :
    kexp a = rexp a (BitVec.ofNat 32 (count (a * Ideal.ofBits .f32 991054117#32))) := by
  unfold kexp rexp
  rw [field_eq _ hy, ori_eq_select _ (count_le _)]

/-- A magnitude an input may have: a real number from 0 to the greatest finite f32. -/
def Fine (a : EReal) : Prop := ∃ r : ℝ, a = (r : EReal) ∧ 0 ≤ r ∧ r < 2 ^ 128

theorem Fine.mul {a : EReal} (h : Fine a) : ∃ r : ℝ, a * Ideal.ofBits .f32 991054117#32 = (r : EReal) ∧ r < 2 ^ (120 : ℤ) := by
  obtain ⟨r, rfl, h0, h1⟩ := h
  refine ⟨_, by rw [inv448, ← EReal.coe_mul], ?_⟩
  have : (2 : ℝ) ^ (-32 : ℤ) = 1 / 4294967296 := by norm_num
  rw [this]
  have h2 : r * (9586981 * (1 / 4294967296)) < 2 ^ 128 * (9586981 * (1 / 4294967296)) := by
    apply mul_lt_mul_of_pos_right h1; norm_num
  refine h2.trans ?_
  norm_num

theorem Fine.count_lt {a : EReal} (h : Fine a) : count (a * Ideal.ofBits .f32 991054117#32) < 247 := by
  obtain ⟨r, e, h2⟩ := h.mul
  by_contra hc
  have := (lt_count (a * Ideal.ofBits .f32 991054117#32) 246 (by norm_num)).1 (by omega)
  rw [e, EReal.coe_le_coe_iff] at this
  exact absurd h2 (not_lt.2 this)

/-- The exponent of the scale, as an integer. -/
def ex (a : EReal) : ℤ := (rexp a (BitVec.ofNat 32 (count (a * Ideal.ofBits .f32 991054117#32)))).toInt

theorem Fine.lt_top {a : EReal} (h : Fine a) : a * Ideal.ofBits .f32 991054117#32 < ⊤ := by
  obtain ⟨r, e, -⟩ := h.mul
  rw [e]; exact EReal.coe_lt_top r

theorem rexp_cases (a : EReal) (n : ℕ) (h : n < 247) (P : BitVec 32 → Prop) (h0 : P 0#32)
    (hn : ∀ n : Fin 247, P (Scalar.select (IntOp.cmpi .eq (BitVec.ofNat 32 n.val) 0#32) 0#32 (IntOp.subi (BitVec.ofNat 32 n.val) 126#32))) :
    P (rexp a (BitVec.ofNat 32 n)) := by
  unfold rexp
  unfold Scalar.select
  split
  · exact h0
  · exact hn ⟨n, h⟩

theorem rscale_eq (a : EReal) : rscale a = (((2 : ℝ) ^ (ex a) : ℝ) : EReal) := by
  unfold rscale ex
  rw [two_f32, sitofp_eq, pow_two_coe, Real.rpow_intCast]

theorem rinv_eq (a : EReal) : rinv a = (((2 : ℝ) ^ (-(ex a)) : ℝ) : EReal) := by
  unfold rinv ex
  rw [two_f32, sitofp_eq, ← EReal.coe_neg, pow_two_coe, ← Int.cast_neg, Real.rpow_intCast]

theorem kscale_eq_rscale {a : EReal} (h : Fine a) : kscale a = rscale a := by
  rw [rscale_eq]
  unfold kscale ex
  rw [kexp_eq a h.lt_top]
  refine rexp_cases a _ h.count_lt (fun e => word (IntOp.addi e 127#32) = (((2 : ℝ) ^ e.toInt : ℝ) : EReal)) ?_ ?_
  · exact (word_ofNat 127 (by norm_num) (by norm_num)).trans (by norm_num)
  · intro n
    have := (by decide +kernel : ∀ n : Fin 247, ∃ k : Fin 255, 1 ≤ k.val ∧
      IntOp.addi (Scalar.select (IntOp.cmpi .eq (BitVec.ofNat 32 n.val) 0#32) 0#32 (IntOp.subi (BitVec.ofNat 32 n.val) 126#32)) 127#32 = BitVec.ofNat 32 k.val ∧
      (Scalar.select (IntOp.cmpi .eq (BitVec.ofNat 32 n.val) 0#32) 0#32 (IntOp.subi (BitVec.ofNat 32 n.val) 126#32)).toInt = (k.val : ℤ) - 127) n
    obtain ⟨k, h1, h2, h3⟩ := this
    rw [h2, h3, word_ofNat _ h1 (by omega)]

theorem kinv_eq_rinv {a : EReal} (h : Fine a) : kinv a = rinv a := by
  rw [rinv_eq]
  unfold kinv ex
  rw [kexp_eq a h.lt_top]
  refine rexp_cases a _ h.count_lt (fun e => word (IntOp.addi (IntOp.subi 0#32 e) 127#32) = (((2 : ℝ) ^ (-e.toInt) : ℝ) : EReal)) ?_ ?_
  · exact (word_ofNat 127 (by norm_num) (by norm_num)).trans (by norm_num)
  · intro n
    have := (by decide +kernel : ∀ n : Fin 247, ∃ k : Fin 255, 1 ≤ k.val ∧
      IntOp.addi (IntOp.subi 0#32 (Scalar.select (IntOp.cmpi .eq (BitVec.ofNat 32 n.val) 0#32) 0#32 (IntOp.subi (BitVec.ofNat 32 n.val) 126#32))) 127#32 = BitVec.ofNat 32 k.val ∧
      -(Scalar.select (IntOp.cmpi .eq (BitVec.ofNat 32 n.val) 0#32) 0#32 (IntOp.subi (BitVec.ofNat 32 n.val) 126#32)).toInt = (k.val : ℤ) - 127) n
    obtain ⟨k, h1, h2, h3⟩ := this
    rw [h2, h3, word_ofNat _ h1 (by omega)]

end Cert.Scale
-- ==== Proof.KerQuant.lean ====
module

public import proofs.«01_k».proof.Proof.BodyIdeal
public import proofs.«01_k».proof.Proof.Scale
public import Idealize.ShloMosaic.Lib.Pointwise
public import Idealize.ShloMosaic.Lib.Writes
public import Idealize.ShloMosaic.Lib.WritesUnit
public import Idealize.ShloMosaic.Lib.Pipeline.Value

/-! The kernel's quantised keys and values at a grid point: what its stores leave, at each index. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Cert.Scale

/-- The size of a number. -/
abbrev mag (x : EReal) : EReal := max x (-x)

theorem ofBits_neg_inf : Ideal.ofBits .f32 0xFF800000#32 = ⊥ := by
  have e1 : ((0xFF800000#32).extractLsb' 31 1 == 1#1) = true := by decide
  have e2 : ((0xFF800000#32).extractLsb' 23 8).toNat = 255 := by decide
  have e3 : ((0xFF800000#32).extractLsb' 0 23).toNat = 0 := by decide
  simp only [Ideal.ofBits]
  unfold Ideal.ieee
  simp only [Nat.reduceAdd, e1, e2, e3]
  norm_num

theorem fold_max {κ : Type} (s : Finset κ) (f : κ → EReal) : s.fold max (Ideal.ofBits .f32 0xFF800000#32) f = s.sup f := by
  rw [ofBits_neg_inf]; rfl

/-- A piece list read at an index some piece covers, when every piece holds `G` on its rectangle. -/
theorem read_writes_of_agree {κ : Kind} {sp : Space} {s : Shape} {e : EltTy} {Val : EltTy → Type} (v : View sig κ sp s e) (f : v.ty.Contents Val)
    (G : s.Idx → Val e) (L : List (View.Piece Val s e)) (y : s.Idx) (h : ∀ pc ∈ L, ∀ x, pc.2 x = G (pc.1.emb x))
    (hc : ∃ pc ∈ L, ∃ x, pc.1.emb x = y) : v.read Val (v.writes Val f L) y = G y := by
  induction L with
  | nil => obtain ⟨pc, hm, _⟩ := hc; exact absurd hm List.not_mem_nil
  | cons pc L ih =>
    by_cases hy : ∃ x, pc.1.emb x = y
    · obtain ⟨x, rfl⟩ := hy
      rw [← h pc List.mem_cons_self x]
      exact View.read_writes_cons_emb v f pc.1 pc.2 L x
    · refine (View.read_slice_write_of_not_mem pc.1 _ _ _ ?_).trans (ih (fun q hq => h q (List.mem_cons_of_mem _ hq)) ?_)
      · intro hm
        obtain ⟨x, _, hx⟩ := Finset.mem_map.mp hm
        exact hy ⟨x, hx⟩
      · obtain ⟨q, hq, hx⟩ := hc
        rcases List.mem_cons.mp hq with rfl | hq
        · exact absurd hx hy
        · exact ⟨q, hq, hx⟩

variable (arg9 : Memref sig .tc .vmem S1x1x16x128 .f32) (arg8 : Memref sig .tc .vmem S1x2048x128 .fp8e4m3) (arg3 : Memref sig .tc .vmem S1x2048x128 .bf16) (X3 : BufTy.Contents (Elt Ideal) arg3.view.ty)

/-- The greatest magnitude of each column of a block. -/
theorem row_eq (w : FVec Ideal S1x128x128 .bf16) (hs : S1x128x128.ShapeCasts S128x128) (ht : FTy.bf16.bits < FTy.f32.bits)
    (e1 : S128x128.Reduces [0] S128) (e2 : FKind.Formats .f32) (e3 : 4286578688#32 = FKind.maximumf.neutral .f32 e2) (hu : S128.ShapeCasts S1x128) (z : Fin 1) (l : Fin 128) :
    shapeCast S1x128 (multiReduction (F := Ideal) (φ := .f32) FKind.maximumf [0] S128 (absf (extf .f32
      (shapeCast S128x128 w hs : FVec Ideal S128x128 .bf16) ht)) 4286578688#32 e1 e2 e3) hu (ix2 z l)
      = Finset.univ.sup fun r : Fin 128 => mag (w (ix3 (0 : Fin 1) r l)) := by
  obtain rfl := Subsingleton.elim z 0
  pointwise
  exact fold_max _ _

theorem low_lane (l : Fin 128) : (BitVec.ofNat 32 l.val).slt 64#32 = decide (l.val < 64) := by
  revert l; decide +kernel

/-- The greatest of a row's entries in half `k`, the other half's taken as zero. -/
theorem half_fold (f : Fin 128 → EReal) (hf : ∀ i, 0 ≤ f i) (k : ℕ) (hk : k < 2) :
    (Finset.univ.sup fun x : Fin 128 => if x.val / 64 = k then f x else 0) = Finset.univ.sup fun d : Fin 64 => f ⟨k * 64 + d.val, by omega⟩ := by
  apply le_antisymm
  · refine Finset.sup_le fun x _ => ?_
    split
    · next h =>
      refine le_of_eq_of_le ?_ (Finset.le_sup (f := fun d : Fin 64 => f ⟨k * 64 + d.val, by omega⟩) (Finset.mem_univ ⟨x.val - k * 64, by omega⟩))
      exact congrArg f (Fin.ext (by simp only; omega))
    · exact le_trans (hf ⟨k * 64 + 0, by omega⟩) (Finset.le_sup (f := fun d : Fin 64 => f ⟨k * 64 + d.val, by omega⟩) (Finset.mem_univ ⟨0, by omega⟩))
  · refine Finset.sup_le fun d _ => ?_
    refine le_of_eq_of_le ?_ (Finset.le_sup (f := fun x : Fin 128 => if x.val / 64 = k then f x else 0) (Finset.mem_univ ⟨k * 64 + d.val, by omega⟩))
    rw [if_pos (by simp only; omega)]

theorem zero_f32 : Ideal.ofBits .f32 0#32 = 0 := by
  have e1 : ((0#32).extractLsb' 31 1 == 1#1) = false := by decide
  have e2 : ((0#32).extractLsb' 23 8).toNat = 0 := by decide
  have e3 : ((0#32).extractLsb' 0 23).toNat = 0 := by decide
  simp only [Ideal.ofBits]
  unfold Ideal.ieee
  simp only [Nat.reduceAdd, e1, e2, e3]
  norm_num

theorem low_half (f : Fin 128 → EReal) (hf : ∀ i, 0 ≤ f i) :
    (Finset.univ.fold max (Ideal.ofBits .f32 4286578688#32) fun x : Fin 128 => Scalar.select (IntOp.cmpi CmpIPredicate.slt (BitVec.ofNat 32 x.val) 64#32) (f x) (run.sl.cst_47 (F := Ideal)))
      = Finset.univ.sup fun d : Fin 64 => f ⟨d.val, by omega⟩ := by
  rw [fold_max]
  refine Eq.trans ?_ ((half_fold f hf 0 (by decide)).trans ?_)
  · refine congrArg (Finset.sup _) (funext fun x => ?_)
    show (if BitVec.ofBool ((BitVec.ofNat 32 x.val).slt 64#32) = 1#1 then f x else Ideal.ofBits .f32 0#32) = _
    rw [low_lane, zero_f32]
    by_cases h : x.val < 64
    · rw [decide_eq_true h, if_pos (by decide), if_pos (by omega)]
    · rw [decide_eq_false h, if_neg (by decide), if_neg (by omega)]
  · exact congrArg (Finset.sup _) (funext fun x => congrArg f (Fin.ext (by simp only; omega)))

theorem high_half (f : Fin 128 → EReal) (hf : ∀ i, 0 ≤ f i) :
    (Finset.univ.fold max (Ideal.ofBits .f32 4286578688#32) fun x : Fin 128 => Scalar.select (IntOp.cmpi CmpIPredicate.slt (BitVec.ofNat 32 x.val) 64#32) (run.sl.cst_47 (F := Ideal)) (f x))
      = Finset.univ.sup fun d : Fin 64 => f ⟨64 + d.val, by omega⟩ := by
  rw [fold_max]
  refine Eq.trans ?_ ((half_fold f hf 1 (by decide)).trans ?_)
  · refine congrArg (Finset.sup _) (funext fun x => ?_)
    show (if BitVec.ofBool ((BitVec.ofNat 32 x.val).slt 64#32) = 1#1 then Ideal.ofBits .f32 0#32 else f x) = _
    rw [low_lane, zero_f32]
    by_cases h : x.val < 64
    · rw [decide_eq_true h, if_pos (by decide), if_neg (by omega)]
    · rw [decide_eq_false h, if_neg (by decide), if_pos (by omega)]
  · exact congrArg (Finset.sup _) (funext fun x => congrArg f (Fin.ext (by simp only [Nat.one_mul])))

/-- The greater of each half of a row, at each lane of the half. -/
theorem pick_eq (A : FVec Ideal S16x128 .f32) (hA : ∀ i, 0 ≤ A i) (h1 : S1x128.Broadcasts S16x128) (h2 : S16x1.Broadcasts S16x128)
    (h3 : S16.ShapeCasts S16x1) (h4 : S16x1.ShapeCasts S16x1) (e1 : S16x128.Reduces [1] S16) (e2 : FKind.Formats .f32) (e3 : 4286578688#32 = FKind.maximumf.neutral .f32 e2) (n : Fin 16) (l : Fin 128) :
    select (broadcastTo S16x128 run.sl.v100 h1)
      (broadcastTo S16x128 (shapeCast S16x1 (shapeCast S16x1 (multiReduction (F := Ideal) (φ := .f32) FKind.maximumf [1] S16 (select (broadcastTo S16x128 run.sl.v100 h1) A (run.sl.v102 (F := Ideal))) 4286578688#32 e1 e2 e3) h3) h4) h2)
      (broadcastTo S16x128 (shapeCast S16x1 (shapeCast S16x1 (multiReduction (F := Ideal) (φ := .f32) FKind.maximumf [1] S16 (select (broadcastTo S16x128 run.sl.v100 h1) (run.sl.v102 (F := Ideal)) A) 4286578688#32 e1 e2 e3) h3) h4) h2) (ix2 n l)
      = Finset.univ.sup fun d : Fin 64 => A (ix2 n (⟨l.val / 64 * 64 + d.val, by omega⟩ : Fin 128)) := by
  pointwise [run.sl.v100, run.sl.v102, run.sl.v0, run.sl.v1]
  rw [low_half (fun x => A (ix2 n x)) (fun _ => hA _), high_half (fun x => A (ix2 n x)) (fun _ => hA _)]
  show (if BitVec.ofBool ((BitVec.ofNat 32 l.val).slt 64#32) = 1#1 then _ else _) = _
  rw [low_lane]
  by_cases h : l.val < 64
  · rw [decide_eq_true h, if_pos (by decide)]
    exact congrArg (Finset.sup _) (funext fun x => congrArg (fun i => A (ix2 n i)) (Fin.ext (by simp only; omega)))
  · rw [decide_eq_false h, if_neg (by decide)]
    exact congrArg (Finset.sup _) (funext fun x => congrArg (fun i => A (ix2 n i)) (Fin.ext (by simp only; omega)))

/-- The greatest magnitude of a head of a block of 128 rows. -/
def bamax (x : FVec Ideal S1x2048x128 .bf16) (n : Fin 16) (h : Fin 2) : EReal :=
  Finset.univ.sup fun d : Fin 64 => Finset.univ.sup fun r : Fin 128 =>
    mag (x (ix3 (0 : Fin 1) (⟨n.val * 128 + r.val, by omega⟩ : Fin 2048) (⟨h.val * 64 + d.val, by omega⟩ : Fin 128)))

theorem mag_nonneg (x : EReal) : 0 ≤ mag x := by
  rcases le_total 0 x with h | h
  · exact le_max_of_le_left h
  · exact le_max_of_le_right (EReal.le_neg_of_le_neg (by simpa using h))

theorem concat_rows (u : Fin 16 → S1x128.Idx → EReal) (h) (n : Fin 16) (l : Fin 128) :
    concatenate S16x128 0 [⟨S1x128, u 0⟩, ⟨S1x128, u 1⟩, ⟨S1x128, u 2⟩, ⟨S1x128, u 3⟩, ⟨S1x128, u 4⟩, ⟨S1x128, u 5⟩, ⟨S1x128, u 6⟩, ⟨S1x128, u 7⟩, ⟨S1x128, u 8⟩, ⟨S1x128, u 9⟩, ⟨S1x128, u 10⟩, ⟨S1x128, u 11⟩, ⟨S1x128, u 12⟩, ⟨S1x128, u 13⟩, ⟨S1x128, u 14⟩, ⟨S1x128, u 15⟩] h (ix2 n l) = u n (ix2 (0 : Fin 1) l) :=
  concatenate_ofFn_apply (t := S16x128) (s₁ := S1x128) 0 u h rfl 1 rfl (ix2 n l) n (Nat.div_one _) (ix2 (0 : Fin 1) l) (Nat.mod_one _).symm
    (fun b hb => by match b with | ⟨0, _⟩ => exact absurd rfl hb | ⟨1, _⟩ => rfl)

/-- A block of 128 rows as the kernel loads it. -/
theorem load_block (arg : Memref sig .tc .vmem S1x2048x128 .bf16) (X : BufTy.Contents (Elt Ideal) arg.view.ty) (o : ℕ) (hr : ∀ a, (![0, o, 0] : Fin 3 → ℕ) a + S1x128x128.size a ≤ S1x2048x128.size a) (r : Fin 128) (l : Fin 128) (ho : o + r.val < 2048) :
    (View.readAt (Elt Ideal) arg.view (Rect.unit (s := S1x2048x128) ![0, o, 0] S1x128x128.size hr).toLoadRect X) (ix3 (0 : Fin 1) r l) = arg.view.read (Elt Ideal) X (ix3 (0 : Fin 1) (⟨o + r.val, ho⟩ : Fin 2048) l) := by
  rw [View.readAt_apply]
  refine congrArg _ (funext fun a => Fin.ext ?_)
  match a with
  | ⟨0, _⟩ => rfl
  | ⟨1, _⟩ => exact congrArg (o + ·) (Nat.one_mul _)
  | ⟨2, _⟩ => exact (Nat.zero_add _).trans (Nat.one_mul _)

theorem rows_inb (n : Fin 16) (a : Fin 3) : (![0, n.val * 128, 0] : Fin 3 → ℕ) a + S1x128x128.size a ≤ S1x2048x128.size a := by
  match a with
  | ⟨0, _⟩ => exact Nat.le_refl 1
  | ⟨1, _⟩ => show n.val * 128 + 128 ≤ 2048; omega
  | ⟨2, _⟩ => exact Nat.le_refl 128

theorem casts_block : S1x128x128.ShapeCasts S128x128 := by decide

/-- The greatest magnitudes of the columns of block `n`, as the kernel computes them. -/
abbrev colMax (arg : Memref sig .tc .vmem S1x2048x128 .bf16) (X : BufTy.Contents (Elt Ideal) arg.view.ty) (n : Fin 16) : S1x128.Idx → EReal :=
  shapeCast S1x128 (multiReduction (F := Ideal) (φ := .f32) FKind.maximumf [0] S128 (absf (extf .f32
      (shapeCast S128x128 (View.readAt (Elt Ideal) arg.view (Rect.unit (s := S1x2048x128) ![0, n.val * 128, 0] S1x128x128.size (rows_inb n)).toLoadRect X) casts_block : FVec Ideal S128x128 .bf16) (by decide))) 4286578688#32)

theorem colMax_apply (arg : Memref sig .tc .vmem S1x2048x128 .bf16) (X : BufTy.Contents (Elt Ideal) arg.view.ty) (n : Fin 16) (l : Fin 128) :
    colMax arg X n (ix2 (0 : Fin 1) l) = Finset.univ.sup fun r : Fin 128 => mag (arg.view.read (Elt Ideal) X (ix3 (0 : Fin 1) (⟨n.val * 128 + r.val, by omega⟩ : Fin 2048) l)) :=
  (row_eq _ _ _ _ _ _ _ 0 l).trans (congrArg (Finset.sup _) (funext fun r => congrArg mag (load_block arg X _ _ r l _)))

theorem k_rows (n : Fin 16) (l : Fin 128) : run.sl.v99 arg3 X3 (ix2 n l)
    = Finset.univ.sup fun r : Fin 128 => mag (arg3.view.read (Elt Ideal) X3 (ix3 (0 : Fin 1) (⟨n.val * 128 + r.val, by omega⟩ : Fin 2048) l)) :=
  (concat_rows (colMax arg3 X3) _ n l).trans (colMax_apply arg3 X3 n l)

theorem k_pick (n : Fin 16) (l : Fin 128) : run.sl.v118 arg3 X3 (ix2 n l) = bamax (arg3.view.read (Elt Ideal) X3) n ⟨l.val / 64, by omega⟩ := by
  refine (pick_eq (run.sl.v99 arg3 X3) ?_ _ _ _ _ _ _ _ n l).trans ?_
  · intro i
    obtain ⟨a, b, rfl⟩ : ∃ a b, i = ix2 a b := ⟨i 0, i 1, funext fun a => by match a with | ⟨0, _⟩ => rfl | ⟨1, _⟩ => rfl⟩
    rw [k_rows]
    exact le_trans (mag_nonneg _) (Finset.le_sup (f := fun r : Fin 128 => mag (arg3.view.read (Elt Ideal) X3 (ix3 (0 : Fin 1) (⟨a.val * 128 + r.val, by omega⟩ : Fin 2048) b))) (Finset.mem_univ (0 : Fin 128)))
  · exact congrArg (Finset.sup _) (funext fun d => k_rows arg3 X3 n _)

/-- One step of the search for the exponent field, over a vector. -/
def stepV {S : Shape} (y : FVec Ideal S .f32) (b : IVec S 32) (bit : BitVec 32) : IVec S 32 :=
  select (cmpf .oge y (bitcastToFloat .f32 (shli (addi b (broadcast S bit)) (broadcast S 23#32)))) (addi b (broadcast S bit)) b

def fieldV {S : Shape} (y : FVec Ideal S .f32) : IVec S 32 :=
  stepV y (stepV y (stepV y (stepV y (stepV y (stepV y (stepV y (stepV y (broadcast S 0#32) 128#32) 64#32) 32#32) 16#32) 8#32) 4#32) 2#32) 1#32

theorem stepV_apply {S : Shape} (y : FVec Ideal S .f32) (b : IVec S 32) (bit : BitVec 32) (i : S.Idx) : stepV y b bit i = step (y i) (b i) bit := rfl

theorem fieldV_apply {S : Shape} (y : FVec Ideal S .f32) (i : S.Idx) : fieldV y i = field (y i) := by
  unfold fieldV field
  simp only [stepV_apply]
  rfl

/-- The exponent of a scale, over a vector, as the kernel computes it. -/
def expoV {S : Shape} (a : FVec Ideal S .f32) : IVec S 32 :=
  select (cmpf .oeq a (broadcast S (Ideal.ofBits .f32 0#32))) (broadcast S 0#32)
    (select (ori (cmpi .eq (fieldV (mulf a (broadcast S (Ideal.ofBits .f32 991054117#32)))) (broadcast S 0#32))
      (cmpi .eq (fieldV (mulf a (broadcast S (Ideal.ofBits .f32 991054117#32)))) (broadcast S 255#32))) (broadcast S 0#32)
      (subi (fieldV (mulf a (broadcast S (Ideal.ofBits .f32 991054117#32)))) (broadcast S 126#32)))

def scaleV {S : Shape} (a : FVec Ideal S .f32) : FVec Ideal S .f32 :=
  bitcastToFloat .f32 (shli (addi (expoV a) (broadcast S 127#32)) (broadcast S 23#32))

def invV {S : Shape} (a : FVec Ideal S .f32) : FVec Ideal S .f32 :=
  bitcastToFloat .f32 (shli (addi (subi (broadcast S 0#32) (expoV a)) (broadcast S 127#32)) (broadcast S 23#32))

theorem expoV_apply {S : Shape} (a : FVec Ideal S .f32) (i : S.Idx) : expoV a i = kexp (a i) := by
  have h := fieldV_apply (mulf a (broadcast S (Ideal.ofBits .f32 991054117#32))) i
  change _ = field (a i * Ideal.ofBits .f32 991054117#32) at h
  unfold kexp
  rw [← h]
  rfl

theorem scaleV_apply {S : Shape} (a : FVec Ideal S .f32) (i : S.Idx) : scaleV a i = kscale (a i) := by
  unfold kscale; rw [← expoV_apply]; rfl

theorem invV_apply {S : Shape} (a : FVec Ideal S .f32) (i : S.Idx) : invV a i = kinv (a i) := by
  unfold kinv; rw [← expoV_apply]; rfl

theorem k_expo : run.sl.v206 arg3 X3 = expoV (run.sl.v118 arg3 X3) := rfl

theorem k_scale : run.sl.v391 arg3 X3 = scaleV (run.sl.v118 arg3 X3) := rfl

theorem k_inv : run.sl.v398 arg3 X3 = invV (run.sl.v118 arg3 X3) := rfl

theorem ks_piece (w : S16x128.Idx → EReal) (h : S16x128.ShapeCasts S1x1x16x128) (n : Fin 16) (l : Fin 128) :
    shapeCast S1x1x16x128 w h (ix4 (0 : Fin 1) (0 : Fin 1) n l) = w (ix2 n l) := by
  pointwise

/-- What the kernel leaves in its key scales. -/
theorem ks_left (G9 : BufTy.Contents (Elt Ideal) arg9.view.ty) (n : Fin 16) (l : Fin 128) :
    arg9.view.read (Elt Ideal) (arg9.view.writes (Elt Ideal) G9 (run.sl.H9_1 arg3 X3)) (ix4 (0 : Fin 1) (0 : Fin 1) n l)
      = kscale (bamax (arg3.view.read (Elt Ideal) X3) n ⟨l.val / 64, by omega⟩) := by
  refine (View.read_writes_cons_unit_of_mem arg9.view G9 (off := ![0, 0, 0, 0]) (off' := ![0, 0, 0, 0]) _ _ _ _ (ix4 (0 : Fin 1) (0 : Fin 1) n l) rfl ?_).trans ?_
  · intro a
    match a with
    | ⟨0, _⟩ => rfl
    | ⟨1, _⟩ => rfl
    | ⟨2, _⟩ => exact (Nat.zero_add _).symm
    | ⟨3, _⟩ => exact (Nat.zero_add _).symm
  · refine (ks_piece (run.sl.v391 arg3 X3) _ n l).trans ?_
    rw [k_scale, scaleV_apply, k_pick]

/-- The codes of a block, as the kernel computes them. -/
def codeBlk (w : FVec Ideal S1x128x128 .bf16) (inv : FVec Ideal S16x128 .f32) (o : ℕ) (hs : S1x128x128.ShapeCasts S128x128) (hsl : S16x128.Slices ![o, 0] S1x128) : S128x128.Idx → EReal :=
  minimumf (F := Ideal) (φ := .f32) (broadcast S128x128 (Ideal.ofBits .f32 1138753536#32)) (maximumf (F := Ideal) (φ := .f32) (broadcast S128x128 (Ideal.ofBits .f32 3286237184#32))
    (mulf (F := Ideal) (φ := .f32) (extf .f32 (shapeCast S128x128 w hs : FVec Ideal S128x128 .bf16) (by decide))
      (broadcastTo S128x128 (extractStridedSlice S1x128 ![o, 0] inv hsl) (by decide))))

theorem codeBlk_apply (w : FVec Ideal S1x128x128 .bf16) (inv : FVec Ideal S16x128 .f32) (n : Fin 16) (hs : S1x128x128.ShapeCasts S128x128) (hsl : S16x128.Slices ![n.val, 0] S1x128) (r l : Fin 128) :
    codeBlk w inv n.val hs hsl (ix2 r l) = min (Ideal.ofBits .f32 1138753536#32) (max (Ideal.ofBits .f32 3286237184#32)
      (w (ix3 (0 : Fin 1) r l) * inv (ix2 n l))) := by
  unfold codeBlk
  pointwise

theorem kc_piece (w : S128x128.Idx → EReal) (h : S128x128.ShapeCasts S1x128x128) (z : Fin 1) (r l : Fin 128) :
    shapeCast S1x128x128 w h (ix3 z r l) = w (ix2 r l) := by
  obtain rfl := Subsingleton.elim z 0
  pointwise

theorem slices_row (n : Fin 16) : S16x128.Slices ![n.val, 0] S1x128 := by revert n; decide

theorem casts_code : S128x128.ShapeCasts S1x128x128 := by decide

/-- The pieces a block's codes are written by. -/
def codePieces (arg : Memref sig .tc .vmem S1x2048x128 .bf16) (X : BufTy.Contents (Elt Ideal) arg.view.ty) (inv : FVec Ideal S16x128 .f32) : List (View.Piece (Elt Ideal) S1x2048x128 .fp8e4m3) :=
  (List.ofFn fun n : Fin 16 => ⟨Rect.unit (s := S1x2048x128) ![0, n.val * 128, 0] S1x128x128.size (rows_inb n),
    shapeCast S1x128x128 (codeBlk (View.readAt (Elt Ideal) arg.view (Rect.unit (s := S1x2048x128) ![0, n.val * 128, 0] S1x128x128.size (rows_inb n)).toLoadRect X) inv n.val casts_block (slices_row n)) casts_code⟩).reverse

theorem kc_pieces : run.sl.H8_16 arg3 X3 = codePieces arg3 X3 (run.sl.v398 arg3 X3) := rfl

/-- A block's codes: each entry times the reciprocal of its head's scale, clipped. -/
def kcode (x : FVec Ideal S1x2048x128 .bf16) (y : S1x2048x128.Idx) : EReal :=
  min (Ideal.ofBits .f32 1138753536#32) (max (Ideal.ofBits .f32 3286237184#32)
    (x y * kinv (bamax x ⟨(y 1).val / 128, Nat.div_lt_of_lt_mul (y 1).isLt⟩ ⟨(y 2).val / 64, Nat.div_lt_of_lt_mul (y 2).isLt⟩)))

/-- What the block's pieces leave. -/
theorem codes_left (arg : Memref sig .tc .vmem S1x2048x128 .bf16) (X : BufTy.Contents (Elt Ideal) arg.view.ty) (inv : FVec Ideal S16x128 .f32)
    (hinv : ∀ (n : Fin 16) (l : Fin 128), inv (ix2 n l) = kinv (bamax (arg.view.read (Elt Ideal) X) n ⟨l.val / 64, by omega⟩))
    (G8 : BufTy.Contents (Elt Ideal) arg8.view.ty) (y : S1x2048x128.Idx) :
    arg8.view.read (Elt Ideal) (arg8.view.writes (Elt Ideal) G8 (codePieces arg X inv)) y = kcode (arg.view.read (Elt Ideal) X) y := by
  have key : ∀ (n : Fin 16) (x : S1x128x128.Idx), shapeCast S1x128x128 (codeBlk (View.readAt (Elt Ideal) arg.view (Rect.unit (s := S1x2048x128) ![0, n.val * 128, 0] S1x128x128.size (rows_inb n)).toLoadRect X) inv n.val casts_block (slices_row n)) casts_code x
      = kcode (arg.view.read (Elt Ideal) X) ((Rect.unit (s := S1x2048x128) ![0, n.val * 128, 0] S1x128x128.size (rows_inb n)).emb x) := by
    intro n x
    obtain ⟨z, r, l, rfl⟩ : ∃ z r l, x = ix3 z r l := ⟨x 0, x 1, x 2, funext fun a => by match a with | ⟨0, _⟩ => rfl | ⟨1, _⟩ => rfl | ⟨2, _⟩ => rfl⟩
    have hidx : (Rect.unit (s := S1x2048x128) ![0, n.val * 128, 0] S1x128x128.size (rows_inb n)).emb (ix3 z r l) = ix3 (0 : Fin 1) (⟨n.val * 128 + r.val, by omega⟩ : Fin 2048) l := by
      refine funext fun a => Fin.ext ?_
      match a with
      | ⟨0, _⟩ => show 0 + 1 * z.val = 0; omega
      | ⟨1, _⟩ => show n.val * 128 + 1 * r.val = n.val * 128 + r.val; omega
      | ⟨2, _⟩ => show 0 + 1 * l.val = l.val; omega
    rw [hidx, kc_piece, codeBlk_apply, load_block arg X (n.val * 128) (rows_inb n) r l (by omega), hinv]
    unfold kcode
    refine congrArg (fun t => min _ (max _ (_ * kinv (bamax _ t _)))) (Fin.ext ?_)
    show n.val = (n.val * 128 + r.val) / 128
    omega
  refine read_writes_of_agree arg8.view G8 (kcode (arg.view.read (Elt Ideal) X)) _ y ?_ ?_
  · intro pc hpc x
    obtain ⟨n, rfl⟩ := List.mem_ofFn.mp (List.mem_reverse.mp hpc)
    exact key n x
  · have h1 : (y 1).val < 2048 := (y 1).isLt
    have h0 : (y 0).val < 1 := (y 0).isLt
    refine ⟨_, List.mem_reverse.mpr (List.mem_ofFn.mpr ⟨⟨(y 1).val / 128, by omega⟩, rfl⟩), ix3 (0 : Fin 1) (⟨(y 1).val % 128, by omega⟩ : Fin 128) (y 2), ?_⟩
    refine funext fun a => Fin.ext ?_
    match a with
    | ⟨0, _⟩ => show 0 + 1 * 0 = (y 0).val; omega
    | ⟨1, _⟩ => show (y 1).val / 128 * 128 + 1 * ((y 1).val % 128) = (y 1).val; omega
    | ⟨2, _⟩ => show 0 + 1 * (y 2).val = (y 2).val; omega

/-- What the kernel leaves in its key codes. -/
theorem kc_left (G8 : BufTy.Contents (Elt Ideal) arg8.view.ty) (y : S1x2048x128.Idx) :
    arg8.view.read (Elt Ideal) (arg8.view.writes (Elt Ideal) G8 (run.sl.H8_16 arg3 X3)) y = kcode (arg3.view.read (Elt Ideal) X3) y := by
  rw [kc_pieces]
  exact codes_left arg8 arg3 X3 _ (fun n l => by rw [k_inv, invV_apply, k_pick]) G8 y

variable (arg4 : Memref sig .tc .vmem S1x2048x128 .bf16) (X4 : BufTy.Contents (Elt Ideal) arg4.view.ty) (arg11 : Memref sig .tc .vmem S1x1x16x128 .f32) (arg10 : Memref sig .tc .vmem S1x2048x128 .fp8e4m3)

theorem v_rows (n : Fin 16) (l : Fin 128) : run.sl.v511 arg4 X4 (ix2 n l)
    = Finset.univ.sup fun r : Fin 128 => mag (arg4.view.read (Elt Ideal) X4 (ix3 (0 : Fin 1) (⟨n.val * 128 + r.val, by omega⟩ : Fin 2048) l)) :=
  (concat_rows (colMax arg4 X4) _ n l).trans (colMax_apply arg4 X4 n l)

theorem v_pick (n : Fin 16) (l : Fin 128) : run.sl.v530 arg4 X4 (ix2 n l) = bamax (arg4.view.read (Elt Ideal) X4) n ⟨l.val / 64, by omega⟩ := by
  refine (pick_eq (run.sl.v511 arg4 X4) ?_ _ _ _ _ _ _ _ n l).trans ?_
  · intro i
    obtain ⟨a, b, rfl⟩ : ∃ a b, i = ix2 a b := ⟨i 0, i 1, funext fun a => by match a with | ⟨0, _⟩ => rfl | ⟨1, _⟩ => rfl⟩
    rw [v_rows]
    exact le_trans (mag_nonneg _) (Finset.le_sup (f := fun r : Fin 128 => mag (arg4.view.read (Elt Ideal) X4 (ix3 (0 : Fin 1) (⟨a.val * 128 + r.val, by omega⟩ : Fin 2048) b))) (Finset.mem_univ (0 : Fin 128)))
  · exact congrArg (Finset.sup _) (funext fun d => v_rows arg4 X4 n _)

theorem v_scale : run.sl.v803 arg4 X4 = scaleV (run.sl.v530 arg4 X4) := rfl

theorem v_inv : run.sl.v810 arg4 X4 = invV (run.sl.v530 arg4 X4) := rfl

/-- What the kernel leaves in its value scales. -/
theorem vs_left (G11 : BufTy.Contents (Elt Ideal) arg11.view.ty) (n : Fin 16) (l : Fin 128) :
    arg11.view.read (Elt Ideal) (arg11.view.writes (Elt Ideal) G11 (run.sl.H11_1 arg4 X4)) (ix4 (0 : Fin 1) (0 : Fin 1) n l)
      = kscale (bamax (arg4.view.read (Elt Ideal) X4) n ⟨l.val / 64, by omega⟩) := by
  refine (View.read_writes_cons_unit_of_mem arg11.view G11 (off := ![0, 0, 0, 0]) (off' := ![0, 0, 0, 0]) _ _ _ _ (ix4 (0 : Fin 1) (0 : Fin 1) n l) rfl ?_).trans ?_
  · intro a
    match a with
    | ⟨0, _⟩ => rfl
    | ⟨1, _⟩ => rfl
    | ⟨2, _⟩ => exact (Nat.zero_add _).symm
    | ⟨3, _⟩ => exact (Nat.zero_add _).symm
  · refine (ks_piece (run.sl.v803 arg4 X4) _ n l).trans ?_
    rw [v_scale, scaleV_apply, v_pick]

theorem vc_pieces : run.sl.H10_16 arg4 X4 = codePieces arg4 X4 (run.sl.v810 arg4 X4) := rfl

/-- What the kernel leaves in its value codes. -/
theorem vc_left (G10 : BufTy.Contents (Elt Ideal) arg10.view.ty) (y : S1x2048x128.Idx) :
    arg10.view.read (Elt Ideal) (arg10.view.writes (Elt Ideal) G10 (run.sl.H10_16 arg4 X4)) y = kcode (arg4.view.read (Elt Ideal) X4) y := by
  rw [vc_pieces]
  exact codes_left arg10 arg4 X4 _ (fun n l => by rw [v_inv, invV_apply, v_pick]) G10 y

end Cert.KernelIdeal.Body
-- ==== Proof.KerQ.lean ====
module

public import proofs.«01_k».proof.Proof.KerQuant

/-! The kernel's quantised queries at a grid point: what its loops over the query blocks leave, at each index. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Cert.Scale

/-- The greatest magnitude of a head of a block of 128 query rows. -/
def qamax (x : FVec Ideal S1x2048x512 .bf16) (n : Fin 16) (h : Fin 8) : EReal :=
  Finset.univ.sup fun d : Fin 64 => Finset.univ.sup fun r : Fin 128 =>
    mag (x (ix3 (0 : Fin 1) (⟨n.val * 128 + r.val, by omega⟩ : Fin 2048) (⟨h.val * 64 + d.val, by omega⟩ : Fin 512)))

/-- A block of 128 query rows as the kernel loads it. -/
theorem load_q (arg : Memref sig .tc .vmem S1x2048x512 .bf16) (X : BufTy.Contents (Elt Ideal) arg.view.ty) (off : Fin 3 → ℕ) (o : ℕ) (hoff : off = ![0, o, 0]) (hr : ∀ a, off a + S1x128x512.size a ≤ S1x2048x512.size a) (z : Fin 1) (r : Fin 128) (l : Fin 512) (ho : o + r.val < 2048) :
    (View.readAt (Elt Ideal) arg.view (Rect.unit (s := S1x2048x512) off S1x128x512.size hr).toLoadRect X) (ix3 z r l) = arg.view.read (Elt Ideal) X (ix3 (0 : Fin 1) (⟨o + r.val, ho⟩ : Fin 2048) l) := by
  subst hoff
  rw [View.readAt_apply]
  refine congrArg _ (funext fun a => Fin.ext ?_)
  match a with
  | ⟨0, _⟩ => show 0 + 1 * z.val = 0; omega
  | ⟨1, _⟩ => exact congrArg (o + ·) (Nat.one_mul _)
  | ⟨2, _⟩ => exact (Nat.zero_add _).trans (Nat.one_mul _)

theorem pay929_apply (w : FVec Ideal S1x128x512 .bf16) (z : Fin 1) (l : Fin 512) :
    k0_pay929 (F := Ideal) w (ix2 z l) = Finset.univ.sup fun r : Fin 128 => mag (w (ix3 (0 : Fin 1) r l)) := by
  obtain rfl := Subsingleton.elim z 0
  pointwise [k0_pay929]
  exact fold_max _ _

variable (c : Dev nD) (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S1x2048x512 .fp8e4m3) (harg6 : arg6.IsWhole) (arg7 : Memref sig .tc .vmem S1x1x16x1024 .f32) (harg7 : arg7.IsWhole) (arg8 : Memref sig .tc .vmem S1x2048x128 .fp8e4m3) (harg8 : arg8.IsWhole) (arg9 : Memref sig .tc .vmem S1x1x16x128 .f32) (harg9 : arg9.IsWhole) (arg10 : Memref sig .tc .vmem S1x2048x128 .fp8e4m3) (harg10 : arg10.IsWhole) (arg11 : Memref sig .tc .vmem S1x1x16x128 .f32) (harg11 : arg11.IsWhole) (arg12 : Memref sig .tc .vmem S16x4x256x128 .fp8e4m3) (harg12 : arg12.IsWhole) (arg13 : Memref sig .tc .vmem S2x2048x128 .fp8e4m3) (harg13 : arg13.IsWhole) (arg14 : Memref sig .tc .vmem S128x2048 .fp8e4m3) (harg14 : arg14.IsWhole) (arg15 : Memref sig .tc .vmem S16x512 .f32) (harg15 : arg15.IsWhole) (arg16 : Memref sig .tc .vmem S16x512 .f32) (harg16 : arg16.IsWhole) (arg17 : Memref sig .tc .vmem S2x16x256 .f32) (harg17 : arg17.IsWhole) (arg18 : Memref sig .tc .vmem S2x16x256 .f32) (harg18 : arg18.IsWhole) (arg19 : Memref sig .tc .vmem S2x2048x256 .f32) (harg19 : arg19.IsWhole) (arg20 : Memref sig .tc .vmem S2x2x128x128 .f32) (harg20 : arg20.IsWhole) (arg21 : Memref sig .tc .vmem S2x4x16x256 .f32) (harg21 : arg21.IsWhole)

theorem tripL_k0_t1_eq (𝒱 : Variants) (bd : Option 𝒱.V) (v2 : IVec S1x128 1) (a b : BitVec 32) (X2 : BufTy.Contents (Elt Ideal) arg2.view.ty) (k : Fin k0_t1_loop.trips) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 a b X2 k
      = [⟨Rect.unit (s := S16x512) (k0_off2 k) S1x512.size (k0_off2_inb k), k0_pay929 (View.readAt (Elt Ideal) arg2.view (Rect.unit (s := S1x2048x512) (k0_off1 k) S1x128x512.size (k0_off1_inb k)).toLoadRect X2)⟩] := by
  unfold tripL_k0_t1 trip_k0_t1
  rfl

/-- The greatest magnitudes of the columns of every query block. -/
def qcol (x : FVec Ideal S1x2048x512 .bf16) (y : S16x512.Idx) : EReal :=
  Finset.univ.sup fun r : Fin 128 => mag (x (ix3 (0 : Fin 1) (⟨(y 0).val * 128 + r.val, by have : (y 0).val < 16 := (y 0).isLt; omega⟩ : Fin 2048) (y 1)))

theorem mem_t1 (𝒱 : Variants) (bd : Option 𝒱.V) (v2 : IVec S1x128 1) (a b : BitVec 32) (X2 : BufTy.Contents (Elt Ideal) arg2.view.ty) (t : ℕ) (ht : t ≤ k0_t1_loop.trips) (pc : View.Piece (Elt Ideal) S16x512 .f32) :
    pc ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 a b X2 t ↔ ∃ k : Fin k0_t1_loop.trips, k.val < t ∧ pc = ⟨Rect.unit (s := S16x512) (k0_off2 k) S1x512.size (k0_off2_inb k), k0_pay929 (View.readAt (Elt Ideal) arg2.view (Rect.unit (s := S1x2048x512) (k0_off1 k) S1x128x512.size (k0_off1_inb k)).toLoadRect X2)⟩ := by
  induction t with
  | zero => rw [pb_k0_t1.eq_1]; exact ⟨fun h => absurd h List.not_mem_nil, fun ⟨k, hk, _⟩ => absurd hk (Nat.not_lt_zero _)⟩
  | succ t ih =>
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 a b X2 ⟨t, ht⟩, tripL_k0_t1_eq, List.mem_append, List.mem_singleton, ih (Nat.le_of_succ_le ht)]
    constructor
    · rintro (h | ⟨k, hk, h⟩)
      · exact ⟨⟨t, ht⟩, Nat.lt_succ_self t, h⟩
      · exact ⟨k, Nat.lt_succ_of_lt hk, h⟩
    · rintro ⟨k, hk, h⟩
      rcases Nat.lt_succ_iff_lt_or_eq.mp hk with hk | hk
      · exact .inr ⟨k, hk, h⟩
      · obtain rfl : k = ⟨t, ht⟩ := Fin.ext hk
        exact .inl h

theorem trips1 : k0_t1_loop.trips = 16 := by decide +kernel

theorem trips2 : k0_t2_loop.trips = 16 := by decide +kernel

/-- The query maxima after the first loop. -/
theorem am_left (𝒱 : Variants) (bd : Option 𝒱.V) (v2 : IVec S1x128 1) (a b : BitVec 32) (X2 : BufTy.Contents (Elt Ideal) arg2.view.ty) (G15 : BufTy.Contents (Elt Ideal) arg15.view.ty) (y : S16x512.Idx) :
    arg15.view.read (Elt Ideal) (arg15.view.writes (Elt Ideal) G15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 a b X2 (Scf.trips k0_t1_loop.lb k0_t1_loop.ub k0_t1_loop.st))) y = qcol (arg2.view.read (Elt Ideal) X2) y := by
  have key : ∀ (k : Fin k0_t1_loop.trips) (x : S1x512.Idx), k0_pay929 (F := Ideal) (View.readAt (Elt Ideal) arg2.view (Rect.unit (s := S1x2048x512) (k0_off1 k) S1x128x512.size (k0_off1_inb k)).toLoadRect X2) x
      = qcol (arg2.view.read (Elt Ideal) X2) ((Rect.unit (s := S16x512) (k0_off2 k) S1x512.size (k0_off2_inb k)).emb x) := by
    intro k x
    have hk : k.val < 16 := Nat.lt_of_lt_of_le k.isLt k0_t1_abs.2.1
    obtain ⟨z, l, rfl⟩ : ∃ (z : Fin 1) (l : Fin 512), x = ix2 z l := ⟨x 0, x 1, funext fun a => by match a with | ⟨0, _⟩ => rfl | ⟨1, _⟩ => rfl⟩
    have hidx : (Rect.unit (s := S16x512) (k0_off2 k) S1x512.size (k0_off2_inb k)).emb (ix2 z l) = ix2 (⟨k.val, hk⟩ : Fin 16) l := by
      refine funext fun a => Fin.ext ?_
      have h := congrFun (k0_off2_eq k)
      match a with
      | ⟨0, _⟩ => show k0_off2 k 0 + 1 * z.val = k.val; rw [h 0]; show k.val + 1 * z.val = k.val; omega
      | ⟨1, _⟩ => show k0_off2 k 1 + 1 * l.val = l.val; rw [h 1]; show 0 + 1 * l.val = l.val; omega
    rw [hidx, pay929_apply]
    refine congrArg (Finset.sup _) (funext fun r => congrArg mag ?_)
    refine (load_q arg2 X2 _ (128 * k.val) (k0_off1_eq k) _ 0 r l (by omega)).trans (congrArg _ ?_)
    exact congrArg (fun t => ix3 (0 : Fin 1) t l) (Fin.ext (by show 128 * k.val + r.val = k.val * 128 + r.val; omega))
  refine read_writes_of_agree arg15.view G15 (qcol (arg2.view.read (Elt Ideal) X2)) _ y ?_ ?_
  · intro pc hpc x
    obtain ⟨k, _, rfl⟩ := (mem_t1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 𝒱 bd v2 a b X2 _ (Nat.le_refl _) pc).mp hpc
    dsimp only
    exact key k x
  · have h0 : (y 0).val < k0_t1_loop.trips := Nat.lt_of_lt_of_eq (y 0).isLt trips1.symm
    refine ⟨_, (mem_t1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 𝒱 bd v2 a b X2 _ (Nat.le_refl _) _).mpr ⟨⟨(y 0).val, h0⟩, h0, rfl⟩, ix2 (0 : Fin 1) (y 1), ?_⟩
    refine funext fun a => Fin.ext ?_
    have h := congrFun (k0_off2_eq ⟨(y 0).val, h0⟩)
    match a with
    | ⟨0, _⟩ => show k0_off2 ⟨(y 0).val, h0⟩ 0 + 1 * 0 = (y 0).val; rw [h 0]; rfl
    | ⟨1, _⟩ => show k0_off2 ⟨(y 0).val, h0⟩ 1 + 1 * (y 1).val = (y 1).val; rw [h 1]; show 0 + 1 * (y 1).val = (y 1).val; omega

/-- The greatest entry of the low half of each row, as the kernel computes it. -/
def loV (A : FVec Ideal S16x128 .f32) : FVec Ideal S16x1 .f32 :=
  shapeCast S16x1 (multiReduction (F := Ideal) (φ := .f32) FKind.maximumf [1] S16 (select (broadcastTo S16x128 run.sl.v100 (by decide)) A (run.sl.v102 (F := Ideal))) 4286578688#32 (by decide) (.inl rfl) rfl) (by decide)

/-- The greatest entry of the high half of each row, as the kernel computes it. -/
def hiV (A : FVec Ideal S16x128 .f32) : FVec Ideal S16x1 .f32 :=
  shapeCast S16x1 (multiReduction (F := Ideal) (φ := .f32) FKind.maximumf [1] S16 (select (broadcastTo S16x128 run.sl.v100 (by decide)) (run.sl.v102 (F := Ideal)) A) 4286578688#32 (by decide) (.inl rfl) rfl) (by decide)

def pickV (A : FVec Ideal S16x128 .f32) : FVec Ideal S16x128 .f32 :=
  select (broadcastTo S16x128 run.sl.v100 (by decide))
    (broadcastTo S16x128 (shapeCast S16x1 (loV A) (by decide) : FVec Ideal S16x1 .f32) (by decide))
    (broadcastTo S16x128 (shapeCast S16x1 (hiV A) (by decide) : FVec Ideal S16x1 .f32) (by decide))

theorem pickV_apply (A : FVec Ideal S16x128 .f32) (hA : ∀ i, 0 ≤ A i) (n : Fin 16) (l : Fin 128) :
    pickV A (ix2 n l) = Finset.univ.sup fun d : Fin 64 => A (ix2 n (⟨l.val / 64 * 64 + d.val, by omega⟩ : Fin 128)) :=
  pick_eq A hA _ _ _ _ _ _ _ n l

theorem loV_apply (A : FVec Ideal S16x128 .f32) (hA : ∀ i, 0 ≤ A i) (n : Fin 16) :
    loV A (ix2 n (0 : Fin 1)) = Finset.univ.sup fun d : Fin 64 => A (ix2 n (⟨d.val, by omega⟩ : Fin 128)) := by
  pointwise [loV, run.sl.v100, run.sl.v102, run.sl.v0, run.sl.v1]
  exact low_half (fun x => A (ix2 n x)) (fun _ => hA _)

theorem hiV_apply (A : FVec Ideal S16x128 .f32) (hA : ∀ i, 0 ≤ A i) (n : Fin 16) :
    hiV A (ix2 n (0 : Fin 1)) = Finset.univ.sup fun d : Fin 64 => A (ix2 n (⟨64 + d.val, by omega⟩ : Fin 128)) := by
  pointwise [hiV, run.sl.v100, run.sl.v102, run.sl.v0, run.sl.v1]
  exact high_half (fun x => A (ix2 n x)) (fun _ => hA _)

theorem tile_inb (t : Fin 4) (a : Fin 2) : (![0, t.val * 128] : Fin 2 → ℕ) a + S16x128.size a ≤ S16x512.size a := by
  match a with
  | ⟨0, _⟩ => exact Nat.le_refl 16
  | ⟨1, _⟩ => show t.val * 128 + 128 ≤ 512; omega

theorem pair_inb (j : Fin 8) (a : Fin 4) : (![0, 0, 0, j.val * 128] : Fin 4 → ℕ) a + S1x1x16x128.size a ≤ S1x1x16x1024.size a := by
  match a with
  | ⟨0, _⟩ => exact Nat.le_refl 1
  | ⟨1, _⟩ => exact Nat.le_refl 1
  | ⟨2, _⟩ => exact Nat.le_refl 16
  | ⟨3, _⟩ => show j.val * 128 + 128 ≤ 1024; omega

/-- The maxima the kernel reads for a pair of heads. -/
def qtile (arg : Memref sig .tc .vmem S16x512 .f32) (X : BufTy.Contents (Elt Ideal) arg.view.ty) (t : Fin 4) : FVec Ideal S16x128 .f32 :=
  View.readAt (Elt Ideal) arg.view (Rect.unit (s := S16x512) ![0, t.val * 128] S16x128.size (tile_inb t)).toLoadRect X

theorem qtile_apply (arg : Memref sig .tc .vmem S16x512 .f32) (X : BufTy.Contents (Elt Ideal) arg.view.ty) (t : Fin 4) (n : Fin 16) (l : Fin 128) :
    qtile arg X t (ix2 n l) = arg.view.read (Elt Ideal) X (ix2 n (⟨t.val * 128 + l.val, by omega⟩ : Fin 512)) := by
  unfold qtile
  rw [View.readAt_apply]
  refine congrArg _ (funext fun a => Fin.ext ?_)
  match a with
  | ⟨0, _⟩ => exact (Nat.zero_add _).trans (Nat.one_mul _)
  | ⟨1, _⟩ => exact congrArg (t.val * 128 + ·) (Nat.one_mul _)

/-- The pieces the reciprocals of the scales are written by. -/
def invPieces (A : Fin 4 → FVec Ideal S16x128 .f32) : List (View.Piece (Elt Ideal) S16x512 .f32) :=
  (List.ofFn fun t : Fin 4 => ⟨Rect.unit (s := S16x512) ![0, t.val * 128] S16x128.size (tile_inb t), shapeCast S16x128 (invV (pickV (A t))) (by decide)⟩).reverse

def scalePiece (j : Fin 8) (w : FVec Ideal S16x1 .f32) : View.Piece (Elt Ideal) S1x1x16x1024 .f32 :=
  ⟨Rect.unit (s := S1x1x16x1024) ![0, 0, 0, j.val * 128] S1x1x16x128.size (pair_inb j),
    shapeCast S1x1x16x128 (broadcastTo S16x128 (shapeCast S16x1 (scaleV w) (by decide) : FVec Ideal S16x1 .f32) (by decide) : FVec Ideal S16x128 .f32) (by decide)⟩

/-- The pieces the query scales are written by. -/
def scalePieces (A : Fin 4 → FVec Ideal S16x128 .f32) : List (View.Piece (Elt Ideal) S1x1x16x1024 .f32) :=
  [scalePiece 7 (hiV (A 3)), scalePiece 6 (loV (A 3)), scalePiece 5 (hiV (A 2)), scalePiece 4 (loV (A 2)),
    scalePiece 3 (hiV (A 1)), scalePiece 2 (loV (A 1)), scalePiece 1 (hiV (A 0)), scalePiece 0 (loV (A 0))]

theorem mem_scalePieces (A : Fin 4 → FVec Ideal S16x128 .f32) (pc) (h : pc ∈ scalePieces A) :
    ∃ t : Fin 4, pc = scalePiece ⟨2 * t.val, by omega⟩ (loV (A t)) ∨ pc = scalePiece ⟨2 * t.val + 1, by omega⟩ (hiV (A t)) := by
  simp only [scalePieces, List.mem_cons, List.not_mem_nil, or_false] at h
  rcases h with h | h | h | h | h | h | h | h
  · exact ⟨3, .inr h⟩
  · exact ⟨3, .inl h⟩
  · exact ⟨2, .inr h⟩
  · exact ⟨2, .inl h⟩
  · exact ⟨1, .inr h⟩
  · exact ⟨1, .inl h⟩
  · exact ⟨0, .inr h⟩
  · exact ⟨0, .inl h⟩

theorem cover_scalePieces (A : Fin 4 → FVec Ideal S16x128 .f32) (j : Fin 8) : ∃ w, scalePiece j w ∈ scalePieces A := by
  match j with
  | ⟨0, _⟩ => exact ⟨loV (A 0), .tail _ (.tail _ (.tail _ (.tail _ (.tail _ (.tail _ (.tail _ (.head _)))))))⟩
  | ⟨1, _⟩ => exact ⟨hiV (A 0), .tail _ (.tail _ (.tail _ (.tail _ (.tail _ (.tail _ (.head _))))))⟩
  | ⟨2, _⟩ => exact ⟨loV (A 1), .tail _ (.tail _ (.tail _ (.tail _ (.tail _ (.head _)))))⟩
  | ⟨3, _⟩ => exact ⟨hiV (A 1), .tail _ (.tail _ (.tail _ (.tail _ (.head _))))⟩
  | ⟨4, _⟩ => exact ⟨loV (A 2), .tail _ (.tail _ (.tail _ (.head _)))⟩
  | ⟨5, _⟩ => exact ⟨hiV (A 2), .tail _ (.tail _ (.head _))⟩
  | ⟨6, _⟩ => exact ⟨loV (A 3), .tail _ (.head _)⟩
  | ⟨7, _⟩ => exact ⟨hiV (A 3), .head _⟩

theorem spread (w : FVec Ideal S16x1 .f32) (h1 : S16x1.ShapeCasts S16x1) (h2 : S16x1.Broadcasts S16x128) (h3 : S16x128.ShapeCasts S1x1x16x128) (n : Fin 16) (l : Fin 128) :
    (shapeCast S1x1x16x128 (broadcastTo S16x128 (shapeCast S16x1 w h1 : FVec Ideal S16x1 .f32) h2 : FVec Ideal S16x128 .f32) h3 : FVec Ideal S1x1x16x128 .f32) (ix4 (0 : Fin 1) (0 : Fin 1) n l) = w (ix2 n (0 : Fin 1)) := by
  pointwise

theorem scalePiece_apply (j : Fin 8) (w : FVec Ideal S16x1 .f32) (n : Fin 16) (l : Fin 128) :
    (scalePiece j w).2 (ix4 (0 : Fin 1) (0 : Fin 1) n l) = kscale (w (ix2 n (0 : Fin 1))) := by
  rw [← scaleV_apply]
  exact spread (scaleV w) (by decide) (by decide) (by decide) n l

theorem cast_same (w : FVec Ideal S16x128 .f32) (h) (n : Fin 16) (l : Fin 128) : shapeCast S16x128 w h (ix2 n l) = w (ix2 n l) := by
  pointwise

section
variable (X2 : BufTy.Contents (Elt Ideal) arg2.view.ty) (G15 : BufTy.Contents (Elt Ideal) arg15.view.ty)

/-- The contents of the maxima after the first loop. -/
abbrev amC : BufTy.Contents (Elt Ideal) arg15.view.ty :=
  arg15.view.writes (Elt Ideal) G15 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (cmpi CmpIPredicate.slt run.sl.v0 run.sl.v1) 0#32 1#32 X2 (Scf.trips k0_t1_loop.lb k0_t1_loop.ub k0_t1_loop.st))

theorem inv_pieces : run.sl.H16_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15 = invPieces (qtile arg15 (amC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15)) := rfl

theorem scale_pieces : run.sl.H7_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15 = scalePieces (qtile arg15 (amC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15)) := rfl

theorem tile_eq (t : Fin 4) (n : Fin 16) (l : Fin 128) : qtile arg15 (amC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15) t (ix2 n l)
    = qcol (arg2.view.read (Elt Ideal) X2) (ix2 n (⟨t.val * 128 + l.val, by omega⟩ : Fin 512)) :=
  (qtile_apply arg15 _ t n l).trans (am_left c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ X2 G15 _)

theorem qcol_nonneg (x : FVec Ideal S1x2048x512 .bf16) (y : S16x512.Idx) : 0 ≤ qcol x y :=
  le_trans (mag_nonneg _) (Finset.le_sup (f := fun r : Fin 128 => mag (x (ix3 (0 : Fin 1) (⟨(y 0).val * 128 + r.val, by have : (y 0).val < 16 := (y 0).isLt; omega⟩ : Fin 2048) (y 1)))) (Finset.mem_univ (0 : Fin 128)))

theorem tile_nonneg (t : Fin 4) (y : S16x128.Idx) : 0 ≤ qtile arg15 (amC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15) t y := by
  obtain ⟨a, b, rfl⟩ : ∃ a b, y = ix2 a b := ⟨y 0, y 1, funext fun a => by match a with | ⟨0, _⟩ => rfl | ⟨1, _⟩ => rfl⟩
  rw [tile_eq]
  exact qcol_nonneg _ _

theorem pick_tile (t : Fin 4) (n : Fin 16) (l : Fin 128) : pickV (qtile arg15 (amC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15) t) (ix2 n l)
    = qamax (arg2.view.read (Elt Ideal) X2) n ⟨(t.val * 128 + l.val) / 64, by omega⟩ := by
  rw [pickV_apply _ (tile_nonneg c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15 t)]
  refine congrArg (Finset.sup _) (funext fun d => (tile_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15 t n _).trans ?_)
  refine congrArg (Finset.sup _) (funext fun r => congrArg (fun j => mag (arg2.view.read (Elt Ideal) X2 (ix3 (0 : Fin 1) (⟨n.val * 128 + r.val, by omega⟩ : Fin 2048) j))) (Fin.ext ?_))
  show t.val * 128 + (l.val / 64 * 64 + d.val) = (t.val * 128 + l.val) / 64 * 64 + d.val
  omega

theorem lo_tile (t : Fin 4) (n : Fin 16) : loV (qtile arg15 (amC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15) t) (ix2 n (0 : Fin 1))
    = qamax (arg2.view.read (Elt Ideal) X2) n ⟨2 * t.val, by omega⟩ := by
  rw [loV_apply _ (tile_nonneg c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15 t)]
  refine congrArg (Finset.sup _) (funext fun d => (tile_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15 t n _).trans ?_)
  refine congrArg (Finset.sup _) (funext fun r => congrArg (fun j => mag (arg2.view.read (Elt Ideal) X2 (ix3 (0 : Fin 1) (⟨n.val * 128 + r.val, by omega⟩ : Fin 2048) j))) (Fin.ext ?_))
  show t.val * 128 + d.val = 2 * t.val * 64 + d.val
  omega

theorem hi_tile (t : Fin 4) (n : Fin 16) : hiV (qtile arg15 (amC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15) t) (ix2 n (0 : Fin 1))
    = qamax (arg2.view.read (Elt Ideal) X2) n ⟨2 * t.val + 1, by omega⟩ := by
  rw [hiV_apply _ (tile_nonneg c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15 t)]
  refine congrArg (Finset.sup _) (funext fun d => (tile_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15 t n _).trans ?_)
  refine congrArg (Finset.sup _) (funext fun r => congrArg (fun j => mag (arg2.view.read (Elt Ideal) X2 (ix3 (0 : Fin 1) (⟨n.val * 128 + r.val, by omega⟩ : Fin 2048) j))) (Fin.ext ?_))
  show t.val * 128 + (64 + d.val) = (2 * t.val + 1) * 64 + d.val
  omega

/-- The reciprocals of the query scales. -/
theorem inv_left (G16 : BufTy.Contents (Elt Ideal) arg16.view.ty) (n : Fin 16) (l : Fin 512) :
    arg16.view.read (Elt Ideal) (arg16.view.writes (Elt Ideal) G16 (run.sl.H16_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15)) (ix2 n l)
      = kinv (qamax (arg2.view.read (Elt Ideal) X2) n ⟨l.val / 64, by omega⟩) := by
  rw [inv_pieces]
  refine read_writes_of_agree arg16.view G16 (fun y : S16x512.Idx => kinv (qamax (arg2.view.read (Elt Ideal) X2) (y 0) ⟨(y 1).val / 64, Nat.div_lt_of_lt_mul (y 1).isLt⟩)) _ (ix2 n l) ?_ ?_
  · intro pc hpc x
    obtain ⟨t, rfl⟩ := List.mem_ofFn.mp (List.mem_reverse.mp hpc)
    obtain ⟨a, b, rfl⟩ : ∃ (a : Fin 16) (b : Fin 128), x = ix2 a b := ⟨x 0, x 1, funext fun a => by match a with | ⟨0, _⟩ => rfl | ⟨1, _⟩ => rfl⟩
    refine (cast_same (invV (pickV (qtile arg15 (amC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15) t))) (by decide) a b).trans ?_
    rw [invV_apply, pick_tile]
    refine congrArg₂ (fun u v => kinv (qamax (arg2.view.read (Elt Ideal) X2) u v)) (Fin.ext ?_) (Fin.ext ?_)
    · show a.val = 0 + 1 * a.val; omega
    · show (t.val * 128 + b.val) / 64 = (t.val * 128 + 1 * b.val) / 64; omega
  · refine ⟨_, List.mem_reverse.mpr (List.mem_ofFn.mpr ⟨⟨l.val / 128, by omega⟩, rfl⟩), ix2 n (⟨l.val % 128, by omega⟩ : Fin 128), ?_⟩
    refine funext fun a => Fin.ext ?_
    match a with
    | ⟨0, _⟩ => show 0 + 1 * n.val = n.val; omega
    | ⟨1, _⟩ => show l.val / 128 * 128 + 1 * (l.val % 128) = l.val; omega

/-- What the kernel leaves in its query scales. -/
theorem qs_left (G7 : BufTy.Contents (Elt Ideal) arg7.view.ty) (n : Fin 16) (l : Fin 1024) :
    arg7.view.read (Elt Ideal) (arg7.view.writes (Elt Ideal) G7 (run.sl.H7_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15)) (ix4 (0 : Fin 1) (0 : Fin 1) n l)
      = kscale (qamax (arg2.view.read (Elt Ideal) X2) n ⟨l.val / 128, by omega⟩) := by
  rw [scale_pieces]
  have key : ∀ (j : Fin 8) (w : FVec Ideal S16x1 .f32) (hw : ∀ n, w (ix2 n (0 : Fin 1)) = qamax (arg2.view.read (Elt Ideal) X2) n j) (x : S1x1x16x128.Idx),
      (scalePiece j w).2 x = (fun y : S1x1x16x1024.Idx => kscale (qamax (arg2.view.read (Elt Ideal) X2) (y 2) ⟨(y 3).val / 128, Nat.div_lt_of_lt_mul (y 3).isLt⟩)) ((scalePiece j w).1.emb x) := by
    intro j w hw x
    obtain ⟨z, z', a, b, rfl⟩ : ∃ (z z' : Fin 1) (a : Fin 16) (b : Fin 128), x = ix4 z z' a b := ⟨x 0, x 1, x 2, x 3, funext fun a => by match a with | ⟨0, _⟩ => rfl | ⟨1, _⟩ => rfl | ⟨2, _⟩ => rfl | ⟨3, _⟩ => rfl⟩
    obtain rfl := Subsingleton.elim z 0
    obtain rfl := Subsingleton.elim z' 0
    refine (scalePiece_apply j w a b).trans ?_
    rw [hw]
    refine congrArg₂ (fun u v => kscale (qamax (arg2.view.read (Elt Ideal) X2) u v)) (Fin.ext ?_) (Fin.ext ?_)
    · show a.val = 0 + 1 * a.val; omega
    · show j.val = (j.val * 128 + 1 * b.val) / 128; omega
  refine read_writes_of_agree arg7.view G7 (fun y : S1x1x16x1024.Idx => kscale (qamax (arg2.view.read (Elt Ideal) X2) (y 2) ⟨(y 3).val / 128, Nat.div_lt_of_lt_mul (y 3).isLt⟩)) _ (ix4 (0 : Fin 1) (0 : Fin 1) n l) ?_ ?_
  · intro pc hpc x
    obtain ⟨t, rfl | rfl⟩ := mem_scalePieces _ pc hpc
    · exact key _ _ (fun n => lo_tile c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15 t n) x
    · exact key _ _ (fun n => hi_tile c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15 t n) x
  · obtain ⟨w, hw⟩ := cover_scalePieces (qtile arg15 (amC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15)) ⟨l.val / 128, by omega⟩
    refine ⟨_, hw, ix4 (0 : Fin 1) (0 : Fin 1) n (⟨l.val % 128, by omega⟩ : Fin 128), ?_⟩
    refine funext fun a => Fin.ext ?_
    match a with
    | ⟨0, _⟩ => rfl
    | ⟨1, _⟩ => rfl
    | ⟨2, _⟩ => show 0 + 1 * n.val = n.val; omega
    | ⟨3, _⟩ => show l.val / 128 * 128 + 1 * (l.val % 128) = l.val; omega

end

/-- The codes of a query block, as the kernel computes them. -/
def qBlk (w : FVec Ideal S1x128x512 .bf16) (inv : FVec Ideal S1x512 .f32) : FVec Ideal S128x512 .f32 :=
  minimumf (F := Ideal) (φ := .f32) (broadcast S128x512 (Ideal.ofBits .f32 1138753536#32)) (maximumf (F := Ideal) (φ := .f32) (broadcast S128x512 (Ideal.ofBits .f32 3286237184#32))
    (mulf (F := Ideal) (φ := .f32) (extf .f32 (shapeCast S128x512 w (by decide) : FVec Ideal S128x512 .bf16) (by decide))
      (broadcastTo S128x512 inv (by decide))))

theorem qBlk_apply (w : FVec Ideal S1x128x512 .bf16) (inv : FVec Ideal S1x512 .f32) (r : Fin 128) (l : Fin 512) :
    qBlk w inv (ix2 r l) = min (Ideal.ofBits .f32 1138753536#32) (max (Ideal.ofBits .f32 3286237184#32)
      (w (ix3 (0 : Fin 1) r l) * inv (ix2 (0 : Fin 1) l))) := by
  unfold qBlk
  pointwise

theorem qc_piece (w : FVec Ideal S128x512 .f32) (h1 : FTy.fp8e4m3.bits < FTy.f32.bits) (h : S128x512.ShapeCasts S1x128x512) (z : Fin 1) (r : Fin 128) (l : Fin 512) :
    (shapeCast S1x128x512 (truncf .fp8e4m3 w h1 : FVec Ideal S128x512 .fp8e4m3) h : FVec Ideal S1x128x512 .fp8e4m3) (ix3 z r l) = w (ix2 r l) := by
  obtain rfl := Subsingleton.elim z 0
  pointwise

section
variable (X2 : BufTy.Contents (Elt Ideal) arg2.view.ty) (X16 : BufTy.Contents (Elt Ideal) arg16.view.ty)

/-- The codes of query block `k`, as the kernel's second loop computes them. -/
abbrev qtrip (k : Fin k0_t2_loop.trips) : FVec Ideal S128x512 .f32 :=
  qBlk (View.readAt (Elt Ideal) arg2.view (Rect.unit (s := S1x2048x512) (k0_off3 k) S1x128x512.size (k0_off3_inb k)).toLoadRect X2)
    (View.readAt (Elt Ideal) arg16.view (Rect.unit (s := S16x512) (k0_off4 k) S1x512.size (k0_off4_inb k)).toLoadRect X16)

theorem tripL_k0_t2_fst (𝒱 : Variants) (bd : Option 𝒱.V) (v2 : IVec S1x128 1) (k : Fin k0_t2_loop.trips) :
    (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 X2 X16 k).1
      = [⟨Rect.unit (s := S1x2048x512) (k0_off3 k) S1x128x512.size (k0_off3_inb k), shapeCast S1x128x512 (truncf .fp8e4m3 (qtrip arg2 arg16 X2 X16 k) (by decide) : FVec Ideal S128x512 .fp8e4m3) (by decide)⟩] := by
  unfold tripL_k0_t2 trip_k0_t2
  rfl

theorem mem_t2 (𝒱 : Variants) (bd : Option 𝒱.V) (v2 : IVec S1x128 1) (t : ℕ) (ht : t ≤ k0_t2_loop.trips) (pc : View.Piece (Elt Ideal) S1x2048x512 .fp8e4m3) :
    pc ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 X2 X16 t).1 ↔ ∃ k : Fin k0_t2_loop.trips, k.val < t ∧ pc = ⟨Rect.unit (s := S1x2048x512) (k0_off3 k) S1x128x512.size (k0_off3_inb k), shapeCast S1x128x512 (truncf .fp8e4m3 (qtrip arg2 arg16 X2 X16 k) (by decide) : FVec Ideal S128x512 .fp8e4m3) (by decide)⟩ := by
  induction t with
  | zero => rw [pb_k0_t2.eq_1]; exact ⟨fun h => absurd h List.not_mem_nil, fun ⟨k, hk, _⟩ => absurd hk (Nat.not_lt_zero _)⟩
  | succ t ih =>
    rw [pb_k0_t2_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 X2 X16 ⟨t, ht⟩, tripL_k0_t2_fst, List.mem_append, List.mem_singleton, ih (Nat.le_of_succ_le ht)]
    constructor
    · rintro (h | ⟨k, hk, h⟩)
      · exact ⟨⟨t, ht⟩, Nat.lt_succ_self t, h⟩
      · exact ⟨k, Nat.lt_succ_of_lt hk, h⟩
    · rintro ⟨k, hk, h⟩
      rcases Nat.lt_succ_iff_lt_or_eq.mp hk with hk | hk
      · exact .inr ⟨k, hk, h⟩
      · obtain rfl : k = ⟨t, ht⟩ := Fin.ext hk
        exact .inl h

/-- A query's codes: each entry times the reciprocal of its head's scale, clipped. -/
def qcode (x : FVec Ideal S1x2048x512 .bf16) (y : S1x2048x512.Idx) : EReal :=
  min (Ideal.ofBits .f32 1138753536#32) (max (Ideal.ofBits .f32 3286237184#32)
    (x y * kinv (qamax x ⟨(y 1).val / 128, Nat.div_lt_of_lt_mul (y 1).isLt⟩ ⟨(y 2).val / 64, Nat.div_lt_of_lt_mul (y 2).isLt⟩)))

theorem load_inv (arg : Memref sig .tc .vmem S16x512 .f32) (X : BufTy.Contents (Elt Ideal) arg.view.ty) (off : Fin 2 → ℕ) (o : ℕ) (hoff : off = ![o, 0]) (hr : ∀ a, off a + S1x512.size a ≤ S16x512.size a) (z : Fin 1) (l : Fin 512) (ho : o < 16) :
    (View.readAt (Elt Ideal) arg.view (Rect.unit (s := S16x512) off S1x512.size hr).toLoadRect X) (ix2 z l) = arg.view.read (Elt Ideal) X (ix2 (⟨o, ho⟩ : Fin 16) l) := by
  subst hoff
  rw [View.readAt_apply]
  refine congrArg _ (funext fun a => Fin.ext ?_)
  match a with
  | ⟨0, _⟩ => show o + 1 * z.val = o; omega
  | ⟨1, _⟩ => exact (Nat.zero_add _).trans (Nat.one_mul _)

theorem qtrip_apply (hinv : ∀ (n : Fin 16) (l : Fin 512), arg16.view.read (Elt Ideal) X16 (ix2 n l) = kinv (qamax (arg2.view.read (Elt Ideal) X2) n ⟨l.val / 64, by omega⟩))
    (k : Fin k0_t2_loop.trips) (r : Fin 128) (l : Fin 512) (hk : k.val < 16) :
    qtrip arg2 arg16 X2 X16 k (ix2 r l) = qcode (arg2.view.read (Elt Ideal) X2) (ix3 (0 : Fin 1) (⟨k.val * 128 + r.val, by omega⟩ : Fin 2048) l) := by
  unfold qtrip qcode
  rw [qBlk_apply, load_q arg2 X2 _ (128 * k.val) (k0_off3_eq k) _ 0 r l (by omega), load_inv arg16 X16 _ k.val (k0_off4_eq k) _ 0 l hk, hinv]
  have e1 : (⟨128 * k.val + r.val, by omega⟩ : Fin 2048) = ⟨k.val * 128 + r.val, by omega⟩ := Fin.ext (by show 128 * k.val + r.val = k.val * 128 + r.val; omega)
  rw [e1]
  refine congrArg (fun t => min _ (max _ (_ * kinv (qamax _ t _)))) (Fin.ext ?_)
  show k.val = (k.val * 128 + r.val) / 128
  omega

/-- What the kernel leaves in its query codes. -/
theorem qc_left (𝒱 : Variants) (bd : Option 𝒱.V) (v2 : IVec S1x128 1) (hinv : ∀ (n : Fin 16) (l : Fin 512), arg16.view.read (Elt Ideal) X16 (ix2 n l) = kinv (qamax (arg2.view.read (Elt Ideal) X2) n ⟨l.val / 64, by omega⟩))
    (G6 : BufTy.Contents (Elt Ideal) arg6.view.ty) (y : S1x2048x512.Idx) :
    arg6.view.read (Elt Ideal) (arg6.view.writes (Elt Ideal) G6 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v2 X2 X16 (Scf.trips k0_t2_loop.lb k0_t2_loop.ub k0_t2_loop.st)).1) y = qcode (arg2.view.read (Elt Ideal) X2) y := by
  have key : ∀ (k : Fin k0_t2_loop.trips) (x : S1x128x512.Idx), (shapeCast S1x128x512 (truncf .fp8e4m3 (qtrip arg2 arg16 X2 X16 k) (by decide) : FVec Ideal S128x512 .fp8e4m3) (by decide) : FVec Ideal S1x128x512 .fp8e4m3) x
      = qcode (arg2.view.read (Elt Ideal) X2) ((Rect.unit (s := S1x2048x512) (k0_off3 k) S1x128x512.size (k0_off3_inb k)).emb x) := by
    intro k x
    have hk : k.val < 16 := Nat.lt_of_lt_of_le k.isLt k0_t2_abs.2.1
    obtain ⟨z, r, l, rfl⟩ : ∃ (z : Fin 1) (r : Fin 128) (l : Fin 512), x = ix3 z r l := ⟨x 0, x 1, x 2, funext fun a => by match a with | ⟨0, _⟩ => rfl | ⟨1, _⟩ => rfl | ⟨2, _⟩ => rfl⟩
    have hidx : (Rect.unit (s := S1x2048x512) (k0_off3 k) S1x128x512.size (k0_off3_inb k)).emb (ix3 z r l) = ix3 (0 : Fin 1) (⟨k.val * 128 + r.val, by omega⟩ : Fin 2048) l := by
      refine funext fun a => Fin.ext ?_
      have h := congrFun (k0_off3_eq k)
      match a with
      | ⟨0, _⟩ => show k0_off3 k 0 + 1 * z.val = 0; rw [h 0]; show 0 + 1 * z.val = 0; omega
      | ⟨1, _⟩ => show k0_off3 k 1 + 1 * r.val = k.val * 128 + r.val; rw [h 1]; show 128 * k.val + 1 * r.val = k.val * 128 + r.val; omega
      | ⟨2, _⟩ => show k0_off3 k 2 + 1 * l.val = l.val; rw [h 2]; show 0 + 1 * l.val = l.val; omega
    rw [hidx]
    exact (qc_piece _ _ _ z r l).trans (qtrip_apply arg2 arg16 X2 X16 hinv k r l hk)
  refine read_writes_of_agree arg6.view G6 (qcode (arg2.view.read (Elt Ideal) X2)) _ y ?_ ?_
  · intro pc hpc x
    obtain ⟨k, _, rfl⟩ := (mem_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X16 𝒱 bd v2 _ (Nat.le_refl _) pc).mp hpc
    dsimp only
    exact key k x
  · have h1 : (y 1).val < 2048 := (y 1).isLt
    have h0 : (y 0).val < 1 := (y 0).isLt
    have hk : (y 1).val / 128 < k0_t2_loop.trips := Nat.lt_of_lt_of_eq (by omega) trips2.symm
    refine ⟨_, (mem_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X16 𝒱 bd v2 _ (Nat.le_refl _) _).mpr ⟨⟨(y 1).val / 128, hk⟩, hk, rfl⟩, ix3 (0 : Fin 1) (⟨(y 1).val % 128, by omega⟩ : Fin 128) (y 2), ?_⟩
    refine funext fun a => Fin.ext ?_
    have h := congrFun (k0_off3_eq ⟨(y 1).val / 128, hk⟩)
    match a with
    | ⟨0, _⟩ => show k0_off3 ⟨(y 1).val / 128, hk⟩ 0 + 1 * 0 = (y 0).val; rw [h 0]; show 0 + 1 * 0 = (y 0).val; omega
    | ⟨1, _⟩ => show k0_off3 ⟨(y 1).val / 128, hk⟩ 1 + 1 * ((y 1).val % 128) = (y 1).val; rw [h 1]; show 128 * ((y 1).val / 128) + 1 * ((y 1).val % 128) = (y 1).val; omega
    | ⟨2, _⟩ => show k0_off3 ⟨(y 1).val / 128, hk⟩ 2 + 1 * (y 2).val = (y 2).val; rw [h 2]; show 0 + 1 * (y 2).val = (y 2).val; omega

end

end Cert.KernelIdeal.Body
-- ==== Proof.KerTile.lean ====
module

public import proofs.«01_k».proof.Proof.KerQ

/-! One tile of the kernel's attention: two query heads of one block of rows against every key. -/

@[expose] public section

set_option maxRecDepth 16384

noncomputable section

namespace Cert.KernelIdeal.Tile

open Cert.KernelIdeal Cert.KernelIdeal.Gen Cert.KernelIdeal.Body
open Idealize.ShloMosaic Idealize.ShloMosaic.TcCoe Idealize.ShloMosaic.Tactic
open Cert.Scale

/-! ### The tile's values, as the kernel computes them -/

/-- A key block against the tile's queries. -/
def scoreV (kd : FVec Ideal S128x128 .fp8e4m3) (qm : FVec Ideal S256x128 .fp8e4m3) : FVec Ideal S128x256 .f32 :=
  matmul dot_S128x128_S256x128_S128x256_1_1_0_0_n_n none kd qm (constant S128x256 .f32 0#32)

/-- The largest of a score block over the keys eight apart. -/
def eighthV (s : FVec Ideal S128x256 .f32) : FVec Ideal S8x256 .f32 :=
  multiReduction .maximumf [0] S8x256 (shapeCast S16x8x256 s (by decide) : FVec Ideal S16x8x256 .f32) 4286578688#32 (by decide) (by decide) (by decide)

def halfV (s : FVec Ideal S128x256 .f32) (h : ℕ) (hs : S8x256.Slices ![0, h] S8x128) : FVec Ideal S8x128 .f32 :=
  extractStridedSlice S8x128 ![0, h] (eighthV s) hs

theorem cat_blocks : Shape.Concatenates [S16x128, S16x128] S16x256 1 := by decide

theorem cat_heads : Shape.Concatenates [S64x128, S64x128] S128x128 0 := by decide

def maxTree (a : Fin 8 → FVec Ideal S16x128 .f32) : FVec Ideal S16x128 .f32 :=
  maximumf (maximumf (maximumf (a 0) (a 1)) (maximumf (a 2) (a 3))) (maximumf (maximumf (a 4) (a 5)) (maximumf (a 6) (a 7)))

/-- The largest score of each key block, from the parts read back. -/
def blockV (B : Fin 2 → Fin 8 → FVec Ideal S1x1x16x128 .f32) : FVec Ideal S16x256 .f32 :=
  concatenate S16x256 1 [⟨S16x128, maxTree fun r => shapeCast S16x128 (B 0 r) (by decide)⟩, ⟨S16x128, maxTree fun r => shapeCast S16x128 (B 1 r) (by decide)⟩] cat_blocks

/-- The scale of a score. -/
def csV (qs : FVec Ideal S1x1x1x256 .f32) (ks : FVec Ideal S1x16x256 .f32) : FVec Ideal S16x256 .f32 :=
  mulf (broadcastTo S16x256 (mulf (shapeCast S1x256 qs (by decide)) (broadcast S1x256 (Ideal.ofBits .f32 1040187392#32)) : FVec Ideal S1x256 .f32) (by decide)) (shapeCast S16x256 ks (by decide))

def smV (bm cs : FVec Ideal S16x256 .f32) : FVec Ideal S1x256 .f32 :=
  shapeCast S1x256 (multiReduction .maximumf [0] S256 (mulf bm cs) 4286578688#32 (by decide) (by decide) (by decide) : FVec Ideal S256 .f32) (by decide)

def amV (bm cs : FVec Ideal S16x256 .f32) : FVec Ideal S16x256 .f32 :=
  exp (subf (mulf bm cs) (broadcastTo S16x256 (smV bm cs) (by decide)))

abbrev log2e : EReal := Named.named (F := Ideal) (φ := .f32) κ "log2_e" 0x3FB8AA3B#32

/-- The four rows a weight's computation reads. -/
def rowV (bm cs : FVec Ideal S16x256 .f32) (vs : FVec Ideal S1x16x256 .f32) : Fin 4 → FVec Ideal S1x1x16x256 .f32
  | 0 => shapeCast S1x1x16x256 (mulf cs (broadcast S16x256 log2e)) (by decide)
  | 1 => shapeCast S1x1x16x256 (addf (broadcastTo S16x256 (mulf (smV bm cs) (broadcast S1x256 log2e) : FVec Ideal S1x256 .f32) (by decide)) (sitofp .f32 (expoV (amV bm cs)))) (by decide)
  | 2 => shapeCast S1x1x16x256 (scaleV (amV bm cs)) (by decide)
  | 3 => shapeCast S1x1x16x256 (mulf (scaleV (amV bm cs)) (shapeCast S16x256 vs (by decide))) (by decide)

/-- A block's weights. -/
def pqV (s : FVec Ideal S1x128x256 .f32) (st : Fin 4 → FVec Ideal S1x1x1x256 .f32) : FVec Ideal S128x256 .f32 :=
  exp2 (subf (mulf (shapeCast S128x256 s (by decide)) (broadcastTo S128x256 (shapeCast S1x256 (st 0) (by decide) : FVec Ideal S1x256 .f32) (by decide)))
    (broadcastTo S128x256 (shapeCast S1x256 (st 1) (by decide) : FVec Ideal S1x256 .f32) (by decide)))

def lStep (l : FVec Ideal S8x256 .f32) (pq : FVec Ideal S128x256 .f32) (st2 : FVec Ideal S1x1x1x256 .f32) : FVec Ideal S8x256 .f32 :=
  addf l (mulf (multiReduction .add [0] S8x256 (shapeCast S16x8x256 pq (by decide) : FVec Ideal S16x8x256 .f32) 0#32 (by decide) (by decide) (by decide)) (broadcastTo S8x256 (shapeCast S1x256 st2 (by decide) : FVec Ideal S1x256 .f32) (by decide)))

def oStep (o : FVec Ideal S64x256 .f32) (pq : FVec Ideal S128x256 .f32) (vt : FVec Ideal S64x128 .fp8e4m3) (st3 : FVec Ideal S1x1x1x256 .f32) : FVec Ideal S64x256 .f32 :=
  addf o (mulf (matmul dot_S64x128_S128x256_S64x256_1_0_0_1_n_n none vt
    (truncf .fp8e4m3 (minimumf (broadcast S128x256 (Ideal.ofBits .f32 1138753536#32)) (maximumf (broadcast S128x256 (Ideal.ofBits .f32 3286237184#32)) pq) : FVec Ideal S128x256 .f32) (by decide))
    (constant S64x256 .f32 0#32)) (broadcastTo S64x256 (shapeCast S1x256 st3 (by decide) : FVec Ideal S1x256 .f32) (by decide)))

def lAcc (S : Fin 16 → FVec Ideal S1x128x256 .f32) (st : Fin 4 → Fin 16 → FVec Ideal S1x1x1x256 .f32) : (n : ℕ) → n ≤ 16 → FVec Ideal S8x256 .f32
  | 0, _ => broadcast S8x256 (Ideal.ofBits .f32 0#32)
  | n + 1, h => lStep (lAcc S st n (by omega)) (pqV (S ⟨n, h⟩) fun j => st j ⟨n, h⟩) (st 2 ⟨n, h⟩)

def oAcc (S : Fin 16 → FVec Ideal S1x128x256 .f32) (st : Fin 4 → Fin 16 → FVec Ideal S1x1x1x256 .f32) (vt : Fin 16 → FVec Ideal S64x128 .fp8e4m3) : (n : ℕ) → n ≤ 16 → FVec Ideal S64x256 .f32
  | 0, _ => broadcast S64x256 (Ideal.ofBits .f32 0#32)
  | n + 1, h => oStep (oAcc S st vt n (by omega)) (pqV (S ⟨n, h⟩) fun j => st j ⟨n, h⟩) (vt ⟨n, h⟩) (st 3 ⟨n, h⟩)

def closeV (o : FVec Ideal S64x256 .f32) (l : FVec Ideal S8x256 .f32) : FVec Ideal S64x256 .f32 :=
  divf o (broadcastTo S64x256 (shapeCast S1x256 (multiReduction .add [0] S256 l 0#32 (by decide) (by decide) (by decide) : FVec Ideal S256 .f32) (by decide) : FVec Ideal S1x256 .f32) (by decide))

/-- What the tile writes, from the scores, the rows and the values read back. -/
def outV (S : Fin 16 → FVec Ideal S1x128x256 .f32) (st : Fin 4 → Fin 16 → FVec Ideal S1x1x1x256 .f32) (vt : Fin 16 → FVec Ideal S64x128 .fp8e4m3) : FVec Ideal S1x128x128 .bf16 :=
  shapeCast S1x128x128 (truncf .bf16 (transpose S128x128 [1, 0] (concatenate S128x128 0
    [⟨S64x128, extractStridedSlice S64x128 ![0, 0] (closeV (oAcc S st vt 16 le_rfl) (lAcc S st 16 le_rfl)) (by decide)⟩,
     ⟨S64x128, extractStridedSlice S64x128 ![0, 128] (closeV (oAcc S st vt 16 le_rfl) (lAcc S st 16 le_rfl)) (by decide)⟩] cat_heads : FVec Ideal S128x128 .f32) (by decide) : FVec Ideal S128x128 .f32) (by decide) : FVec Ideal S128x128 .bf16) (by decide)

/-! ### Their entries -/

theorem scoreV_apply (kd : FVec Ideal S128x128 .fp8e4m3) (qm : FVec Ideal S256x128 .fp8e4m3) (s : Fin 128) (j : Fin 256) :
    scoreV kd qm (ix2 s j) = ∑ l : Fin 128, kd (ix2 s l) * qm (ix2 j l) := by
  unfold scoreV
  pointwise

theorem eighthV_apply (s : FVec Ideal S128x256 .f32) (r : Fin 8) (j : Fin 256) :
    eighthV s (ix2 r j) = Finset.univ.sup fun g : Fin 16 => s (ix2 (⟨g.val * 8 + r.val, by omega⟩ : Fin 128) j) := by
  unfold eighthV
  pointwise
  exact fold_max _ _

theorem sup_eight (f : Fin 8 → EReal) :
    max (max (max (f 0) (f 1)) (max (f 2) (f 3))) (max (max (f 4) (f 5)) (max (f 6) (f 7))) = Finset.univ.sup f := by
  have h : ∀ r, f r ≤ Finset.univ.sup f := fun r => Finset.le_sup (Finset.mem_univ r)
  refine le_antisymm (max_le (max_le (max_le (h 0) (h 1)) (max_le (h 2) (h 3))) (max_le (max_le (h 4) (h 5)) (max_le (h 6) (h 7)))) (Finset.sup_le fun r _ => ?_)
  fin_cases r <;> simp

theorem blockV_apply (B : Fin 2 → Fin 8 → FVec Ideal S1x1x16x128 .f32) (n : Fin 16) (j : Fin 256) :
    blockV B (ix2 n j) = Finset.univ.sup fun r : Fin 8 => B ⟨j.val / 128, by omega⟩ r (ix4 (0 : Fin 1) (0 : Fin 1) n (⟨j.val % 128, by omega⟩ : Fin 128)) := by
  unfold blockV maxTree
  pointwise
  by_cases h : j.val < 128
  · rw [dif_pos h]
    have e : (⟨j.val / 128, by omega⟩ : Fin 2) = 0 := Fin.ext (Nat.div_eq_of_lt h)
    simp only [e, Nat.mod_eq_of_lt h]
    exact sup_eight fun r => B 0 r (ix4 (0 : Fin 1) (0 : Fin 1) n ⟨j.val, h⟩)
  · rw [dif_neg h]
    have e : (⟨j.val / 128, by omega⟩ : Fin 2) = 1 := Fin.ext (show j.val / 128 = 1 by omega)
    have e2 : j.val % 128 = j.val - 128 := by omega
    simp only [e, e2]
    exact sup_eight fun r => B 1 r (ix4 (0 : Fin 1) (0 : Fin 1) n ⟨j.val - 128, by omega⟩)

theorem csV_apply (qs : FVec Ideal S1x1x1x256 .f32) (ks : FVec Ideal S1x16x256 .f32) (n : Fin 16) (j : Fin 256) :
    csV qs ks (ix2 n j) = qs (ix4 (0 : Fin 1) (0 : Fin 1) (0 : Fin 1) j) * Ideal.ofBits .f32 1040187392#32 * ks (ix3 (0 : Fin 1) n j) := by
  unfold csV
  pointwise

theorem smV_apply (bm cs : FVec Ideal S16x256 .f32) (j : Fin 256) :
    smV bm cs (ix2 (0 : Fin 1) j) = Finset.univ.sup fun n : Fin 16 => bm (ix2 n j) * cs (ix2 n j) := by
  unfold smV
  pointwise
  exact fold_max _ _

theorem amV_apply (bm cs : FVec Ideal S16x256 .f32) (n : Fin 16) (j : Fin 256) :
    amV bm cs (ix2 n j) = Ideal.exp (bm (ix2 n j) * cs (ix2 n j) - smV bm cs (ix2 (0 : Fin 1) j)) := by
  unfold amV
  pointwise

theorem pqV_apply (s : FVec Ideal S1x128x256 .f32) (st : Fin 4 → FVec Ideal S1x1x1x256 .f32) (r : Fin 128) (j : Fin 256) :
    pqV s st (ix2 r j) = Ideal.exp2 (s (ix3 (0 : Fin 1) r j) * st 0 (ix4 (0 : Fin 1) (0 : Fin 1) (0 : Fin 1) j) - st 1 (ix4 (0 : Fin 1) (0 : Fin 1) (0 : Fin 1) j)) := by
  unfold pqV
  pointwise
  rfl

theorem lStep_apply (l : FVec Ideal S8x256 .f32) (pq : FVec Ideal S128x256 .f32) (st2 : FVec Ideal S1x1x1x256 .f32) (r : Fin 8) (j : Fin 256) :
    lStep l pq st2 (ix2 r j) = l (ix2 r j) + (∑ g : Fin 16, pq (ix2 (⟨g.val * 8 + r.val, by omega⟩ : Fin 128) j)) * st2 (ix4 (0 : Fin 1) (0 : Fin 1) (0 : Fin 1) j) := by
  unfold lStep
  pointwise

theorem oStep_apply (o : FVec Ideal S64x256 .f32) (pq : FVec Ideal S128x256 .f32) (vt : FVec Ideal S64x128 .fp8e4m3) (st3 : FVec Ideal S1x1x1x256 .f32) (d : Fin 64) (j : Fin 256) :
    oStep o pq vt st3 (ix2 d j) = o (ix2 d j) + (∑ s : Fin 128, vt (ix2 d s) * min (Ideal.ofBits .f32 1138753536#32) (max (Ideal.ofBits .f32 3286237184#32) (pq (ix2 s j)))) * st3 (ix4 (0 : Fin 1) (0 : Fin 1) (0 : Fin 1) j) := by
  unfold oStep
  pointwise

theorem closeV_apply (o : FVec Ideal S64x256 .f32) (l : FVec Ideal S8x256 .f32) (d : Fin 64) (j : Fin 256) :
    closeV o l (ix2 d j) = Ideal.div (o (ix2 d j)) (∑ r : Fin 8, l (ix2 r j)) := by
  unfold closeV
  pointwise

theorem outV_apply (S : Fin 16 → FVec Ideal S1x128x256 .f32) (st : Fin 4 → Fin 16 → FVec Ideal S1x1x1x256 .f32) (vt : Fin 16 → FVec Ideal S64x128 .fp8e4m3) (i c : Fin 128) :
    outV S st vt (ix3 (0 : Fin 1) i c) = closeV (oAcc S st vt 16 le_rfl) (lAcc S st 16 le_rfl) (ix2 (⟨c.val % 64, by omega⟩ : Fin 64) (⟨c.val / 64 * 128 + i.val, by omega⟩ : Fin 256)) := by
  unfold outV
  generalize closeV (oAcc S st vt 16 le_rfl) (lAcc S st 16 le_rfl) = w
  pointwise
  by_cases h : c.val < 64
  · rw [dif_pos h]
    refine congrArg w (congrArg₂ ix2 (Fin.ext ?_) (Fin.ext ?_))
    · exact (Nat.mod_eq_of_lt h).symm
    · show i.val = c.val / 64 * 128 + i.val; omega
  · rw [dif_neg h]
    refine congrArg w (congrArg₂ ix2 (Fin.ext ?_) (Fin.ext ?_))
    · show c.val - 64 = c.val % 64; omega
    · show 128 + i.val = c.val / 64 * 128 + i.val; omega

end Cert.KernelIdeal.Tile
-- ==== Proof.KerAttn.lean ====
module

public import proofs.«01_k».proof.Proof.KerTile

/-! The third loop of the kernel: what its four tiles write to the output. -/

@[expose] public section

set_option maxRecDepth 16384

noncomputable section

namespace Cert.KernelIdeal.Tile

open Cert.KernelIdeal Cert.KernelIdeal.Gen Cert.KernelIdeal.Body
open Idealize.ShloMosaic Idealize.ShloMosaic.TcCoe Idealize.ShloMosaic.Tactic
open Cert.Scale

variable (arg7 : Memref sig .tc .vmem S1x1x16x1024 .f32) (arg12 : Memref sig .tc .vmem S16x4x256x128 .fp8e4m3) (arg13 : Memref sig .tc .vmem S2x2048x128 .fp8e4m3) (arg14 : Memref sig .tc .vmem S128x2048 .fp8e4m3)
  (arg17 arg18 : Memref sig .tc .vmem S2x16x256 .f32) (arg19 : Memref sig .tc .vmem S2x2048x256 .f32) (arg20 : Memref sig .tc .vmem S2x2x128x128 .f32) (arg21 : Memref sig .tc .vmem S2x4x16x256 .f32)
  (X7 : BufTy.Contents (Elt Ideal) arg7.view.ty) (X12 : BufTy.Contents (Elt Ideal) arg12.view.ty) (X13 : BufTy.Contents (Elt Ideal) arg13.view.ty) (X14 : BufTy.Contents (Elt Ideal) arg14.view.ty)
  (X17 : BufTy.Contents (Elt Ideal) arg17.view.ty) (X18 : BufTy.Contents (Elt Ideal) arg18.view.ty) (k : Fin k0_t3_loop.trips)

/-! ### The buffers a tile writes and reads back -/

theorem inb_s (b : Fin 2) (n : Fin 16) : ∀ a, (![b.val, 128 * n.val, 0] : Fin 3 → ℕ) a + S1x128x256.size a ≤ S2x2048x256.size a := by revert b n; decide

theorem inb_bw (b h : Fin 2) (n : Fin 16) : ∀ a, (![b.val, h.val, 8 * n.val, 0] : Fin 4 → ℕ) a + S1x1x8x128.size a ≤ S2x2x128x128.size a := by revert b h n; decide

theorem inb_tw (b : Fin 2) (j : Fin 4) : ∀ a, (![b.val, j.val, 0, 0] : Fin 4 → ℕ) a + S1x1x16x256.size a ≤ S2x4x16x256.size a := by revert b j; decide

theorem inb_tr (b : Fin 2) (j : Fin 4) (n : Fin 16) : ∀ a, (![b.val, j.val, n.val, 0] : Fin 4 → ℕ) a + S1x1x1x256.size a ≤ S2x4x16x256.size a := by revert b j n; decide

abbrev rS (b : Fin 2) (n : Fin 16) : Rect S2x2048x256 := Rect.unit (s := S2x2048x256) ![b.val, 128 * n.val, 0] S1x128x256.size (inb_s b n)
abbrev rBw (b h : Fin 2) (n : Fin 16) : Rect S2x2x128x128 := Rect.unit (s := S2x2x128x128) ![b.val, h.val, 8 * n.val, 0] S1x1x8x128.size (inb_bw b h n)
abbrev rTw (b : Fin 2) (j : Fin 4) : Rect S2x4x16x256 := Rect.unit (s := S2x4x16x256) ![b.val, j.val, 0, 0] S1x1x16x256.size (inb_tw b j)
abbrev rTr (b : Fin 2) (j : Fin 4) (n : Fin 16) : Rect S2x4x16x256 := Rect.unit (s := S2x4x16x256) ![b.val, j.val, n.val, 0] S1x1x1x256.size (inb_tr b j n)

def sPieces (b : Fin 2) (sc : Fin 16 → FVec Ideal S128x256 .f32) : List (View.Piece (Elt Ideal) S2x2048x256 .f32) :=
  (List.ofFn fun n : Fin 16 => (⟨rS b n, shapeCast S1x128x256 (sc n) (by decide)⟩ : View.Piece (Elt Ideal) S2x2048x256 .f32)).reverse

theorem slices_half (h : Fin 2) : S8x256.Slices ![0, h.val * 128] S8x128 := by revert h; decide

def bPiece (b : Fin 2) (sc : Fin 16 → FVec Ideal S128x256 .f32) (h : Fin 2) (n : Fin 16) : View.Piece (Elt Ideal) S2x2x128x128 .f32 :=
  ⟨rBw b h n, shapeCast S1x1x8x128 (halfV (sc n) (h.val * 128) (slices_half h)) (by decide)⟩

def bPieces (b : Fin 2) (sc : Fin 16 → FVec Ideal S128x256 .f32) : List (View.Piece (Elt Ideal) S2x2x128x128 .f32) :=
  (List.ofFn fun m : Fin 32 => bPiece b sc ⟨m.val % 2, Nat.mod_lt _ (by decide)⟩ ⟨m.val / 2, by omega⟩).reverse

def tPieces (b : Fin 2) (row : Fin 4 → FVec Ideal S1x1x16x256 .f32) : List (View.Piece (Elt Ideal) S2x4x16x256 .f32) :=
  (List.ofFn fun j : Fin 4 => (⟨rTw b j, row j⟩ : View.Piece (Elt Ideal) S2x4x16x256 .f32)).reverse

theorem inb_kd (v : Fin 2) (n : Fin 16) : ∀ a, (![v.val, 128 * n.val, 0] : Fin 3 → ℕ) a + S1x128x128.size a ≤ S2x2048x128.size a := by revert v n; decide
theorem inb_vt (v : Fin 2) (n : Fin 16) : ∀ a, (![64 * v.val, 128 * n.val] : Fin 2 → ℕ) a + S64x128.size a ≤ S128x2048.size a := by revert v n; decide
theorem inb_ks (v : Fin 2) : ∀ a, (![v.val, 0, 0] : Fin 3 → ℕ) a + S1x16x256.size a ≤ S2x16x256.size a := by revert v; decide

theorem casts_qm : S1x1x256x128.ShapeCasts S256x128 := by decide

/-- A block of the doubled keys. -/
def kdV (v : Fin 2) (n : Fin 16) : FVec Ideal S128x128 .fp8e4m3 :=
  shapeCast S128x128 (View.readAt (Elt Ideal) arg13.view (Rect.unit (s := S2x2048x128) ![v.val, 128 * n.val, 0] S1x128x128.size (inb_kd v n)).toLoadRect X13) casts_block

def qmV (off : Fin 4 → ℕ) (h : ∀ a, off a + S1x1x256x128.size a ≤ S16x4x256x128.size a) : FVec Ideal S256x128 .fp8e4m3 :=
  shapeCast S256x128 (View.readAt (Elt Ideal) arg12.view (Rect.unit (s := S16x4x256x128) off S1x1x256x128.size h).toLoadRect X12) casts_qm

def qsV (off : Fin 4 → ℕ) (h : ∀ a, off a + S1x1x1x256.size a ≤ S1x1x16x1024.size a) : FVec Ideal S1x1x1x256 .f32 :=
  View.readAt (Elt Ideal) arg7.view (Rect.unit (s := S1x1x16x1024) off S1x1x1x256.size h).toLoadRect X7

def ksV (v : Fin 2) : FVec Ideal S1x16x256 .f32 :=
  View.readAt (Elt Ideal) arg17.view (Rect.unit (s := S2x16x256) ![v.val, 0, 0] S1x16x256.size (inb_ks v)).toLoadRect X17

def vtV (v : Fin 2) (n : Fin 16) : FVec Ideal S64x128 .fp8e4m3 :=
  View.readAt (Elt Ideal) arg14.view (Rect.unit (s := S128x2048) ![64 * v.val, 128 * n.val] S64x128.size (inb_vt v n)).toLoadRect X14

abbrev scV (off : Fin 4 → ℕ) (h : ∀ a, off a + S1x1x256x128.size a ≤ S16x4x256x128.size a) (v : Fin 2) (n : Fin 16) : FVec Ideal S128x256 .f32 :=
  scoreV (kdV arg13 X13 v n) (qmV arg12 X12 off h)

section links
open Cert.KernelIdeal.Gen

theorem s_pieces0 : trip_k0_t3.sl.HW_arg19_16 arg12 arg13 X12 X13 k = sPieces 0 (scV arg12 arg13 X12 X13 (k0_off13 k) (k0_off13_inb k) 0) := rfl

theorem s_pieces1 : trip_k0_t3.sl.HW_arg19_32 arg12 arg13 X12 X13 k = sPieces 1 (scV arg12 arg13 X12 X13 (k0_off16 k) (k0_off16_inb k) 0) ++ trip_k0_t3.sl.HW_arg19_16 arg12 arg13 X12 X13 k := rfl

theorem s_pieces2 : trip_k0_t3.sl.HW_arg19_48 arg12 arg13 X12 X13 k = sPieces 0 (scV arg12 arg13 X12 X13 (k0_off19 k) (k0_off19_inb k) 1) ++ trip_k0_t3.sl.HW_arg19_32 arg12 arg13 X12 X13 k := rfl

theorem s_pieces3 : trip_k0_t3.sl.HW_arg19_64 arg12 arg13 X12 X13 k = sPieces 1 (scV arg12 arg13 X12 X13 (k0_off22 k) (k0_off22_inb k) 1) ++ trip_k0_t3.sl.HW_arg19_48 arg12 arg13 X12 X13 k := rfl

theorem b_pieces0 : trip_k0_t3.sl.HW_arg20_32 arg12 arg13 X12 X13 k = bPieces 0 (scV arg12 arg13 X12 X13 (k0_off13 k) (k0_off13_inb k) 0) := rfl

theorem b_pieces1 : trip_k0_t3.sl.HW_arg20_64 arg12 arg13 X12 X13 k = bPieces 1 (scV arg12 arg13 X12 X13 (k0_off16 k) (k0_off16_inb k) 0) ++ trip_k0_t3.sl.HW_arg20_32 arg12 arg13 X12 X13 k := rfl

theorem b_pieces2 : trip_k0_t3.sl.HW_arg20_96 arg12 arg13 X12 X13 k = bPieces 0 (scV arg12 arg13 X12 X13 (k0_off19 k) (k0_off19_inb k) 1) ++ trip_k0_t3.sl.HW_arg20_64 arg12 arg13 X12 X13 k := rfl

theorem b_pieces3 : trip_k0_t3.sl.HW_arg20_128 arg12 arg13 X12 X13 k = bPieces 1 (scV arg12 arg13 X12 X13 (k0_off22 k) (k0_off22_inb k) 1) ++ trip_k0_t3.sl.HW_arg20_96 arg12 arg13 X12 X13 k := rfl

theorem inb_br (b h : Fin 2) (r : Fin 8) : ∀ a, S1x1x16x128.size a = 0 ∨ (![b.val, h.val, r.val, 0] : Fin 4 → ℕ) a + (![1, 1, 8, 1] : Fin 4 → ℕ) a * (S1x1x16x128.size a - 1) < S2x2x128x128.size a := by revert b h r; decide

abbrev rBr (b h : Fin 2) (r : Fin 8) : LoadRect S2x2x128x128 := ⟨![b.val, h.val, r.val, 0], S1x1x16x128.size, ![1, 1, 8, 1], inb_br b h r⟩

theorem bm_tile0 : trip_k0_t3.sl.v3165 arg12 arg13 arg20 X12 X13 k = blockV fun h r => arg20.view.readCov (Val := Elt Ideal) (trip_k0_t3.sl.HW_arg20_32 arg12 arg13 X12 X13 k) (rBr 0 h r) := rfl

theorem t_pieces0 : trip_k0_t3.sl.HW_arg21_4 arg7 arg12 arg13 arg17 arg18 arg20 X7 X12 X13 X17 X18 k = tPieces 0 (rowV (trip_k0_t3.sl.v3165 arg12 arg13 arg20 X12 X13 k) (csV (qsV arg7 X7 (k0_off14 k) (k0_off14_inb k)) (ksV arg17 X17 0)) (ksV arg18 X18 0)) := rfl

theorem out_tile0 : trip_k0_t3.sl.v3791 arg7 arg12 arg13 arg14 arg17 arg18 arg19 arg20 arg21 X7 X12 X13 X14 X17 X18 k = outV (fun n => arg19.view.readCov (Val := Elt Ideal) (trip_k0_t3.sl.HW_arg19_16 arg12 arg13 X12 X13 k) (rS 0 n).toLoadRect)
    (fun j n => arg21.view.readCov (Val := Elt Ideal) (trip_k0_t3.sl.HW_arg21_4 arg7 arg12 arg13 arg17 arg18 arg20 X7 X12 X13 X17 X18 k) (rTr 0 j n).toLoadRect) (vtV arg14 X14 0) := rfl

theorem bm_tile1 : trip_k0_t3.sl.v4097 arg12 arg13 arg20 X12 X13 k = blockV fun h r => arg20.view.readCov (Val := Elt Ideal) (trip_k0_t3.sl.HW_arg20_64 arg12 arg13 X12 X13 k) (rBr 1 h r) := rfl

theorem t_pieces1 : trip_k0_t3.sl.HW_arg21_8 arg7 arg12 arg13 arg17 arg18 arg20 X7 X12 X13 X17 X18 k = tPieces 1 (rowV (trip_k0_t3.sl.v4097 arg12 arg13 arg20 X12 X13 k) (csV (qsV arg7 X7 (k0_off17 k) (k0_off17_inb k)) (ksV arg17 X17 0)) (ksV arg18 X18 0)) ++ trip_k0_t3.sl.HW_arg21_4 arg7 arg12 arg13 arg17 arg18 arg20 X7 X12 X13 X17 X18 k := rfl

theorem out_tile1 : trip_k0_t3.sl.v4723 arg7 arg12 arg13 arg14 arg17 arg18 arg19 arg20 arg21 X7 X12 X13 X14 X17 X18 k = outV (fun n => arg19.view.readCov (Val := Elt Ideal) (trip_k0_t3.sl.HW_arg19_32 arg12 arg13 X12 X13 k) (rS 1 n).toLoadRect)
    (fun j n => arg21.view.readCov (Val := Elt Ideal) (trip_k0_t3.sl.HW_arg21_8 arg7 arg12 arg13 arg17 arg18 arg20 X7 X12 X13 X17 X18 k) (rTr 1 j n).toLoadRect) (vtV arg14 X14 0) := rfl

theorem bm_tile2 : trip_k0_t3.sl.v5029 arg12 arg13 arg20 X12 X13 k = blockV fun h r => arg20.view.readCov (Val := Elt Ideal) (trip_k0_t3.sl.HW_arg20_96 arg12 arg13 X12 X13 k) (rBr 0 h r) := rfl

theorem t_pieces2 : trip_k0_t3.sl.HW_arg21_12 arg7 arg12 arg13 arg17 arg18 arg20 X7 X12 X13 X17 X18 k = tPieces 0 (rowV (trip_k0_t3.sl.v5029 arg12 arg13 arg20 X12 X13 k) (csV (qsV arg7 X7 (k0_off20 k) (k0_off20_inb k)) (ksV arg17 X17 1)) (ksV arg18 X18 1)) ++ trip_k0_t3.sl.HW_arg21_8 arg7 arg12 arg13 arg17 arg18 arg20 X7 X12 X13 X17 X18 k := rfl

theorem out_tile2 : trip_k0_t3.sl.v5655 arg7 arg12 arg13 arg14 arg17 arg18 arg19 arg20 arg21 X7 X12 X13 X14 X17 X18 k = outV (fun n => arg19.view.readCov (Val := Elt Ideal) (trip_k0_t3.sl.HW_arg19_48 arg12 arg13 X12 X13 k) (rS 0 n).toLoadRect)
    (fun j n => arg21.view.readCov (Val := Elt Ideal) (trip_k0_t3.sl.HW_arg21_12 arg7 arg12 arg13 arg17 arg18 arg20 X7 X12 X13 X17 X18 k) (rTr 0 j n).toLoadRect) (vtV arg14 X14 1) := rfl

theorem bm_tile3 : trip_k0_t3.sl.v5961 arg12 arg13 arg20 X12 X13 k = blockV fun h r => arg20.view.readCov (Val := Elt Ideal) (trip_k0_t3.sl.HW_arg20_128 arg12 arg13 X12 X13 k) (rBr 1 h r) := rfl

theorem t_pieces3 : trip_k0_t3.sl.HW_arg21_16 arg7 arg12 arg13 arg17 arg18 arg20 X7 X12 X13 X17 X18 k = tPieces 1 (rowV (trip_k0_t3.sl.v5961 arg12 arg13 arg20 X12 X13 k) (csV (qsV arg7 X7 (k0_off23 k) (k0_off23_inb k)) (ksV arg17 X17 1)) (ksV arg18 X18 1)) ++ trip_k0_t3.sl.HW_arg21_12 arg7 arg12 arg13 arg17 arg18 arg20 X7 X12 X13 X17 X18 k := rfl

/-- What tile three writes, in the same form as the others. -/
abbrev out3 : FVec Ideal S1x128x128 .bf16 := outV (fun n => arg19.view.readCov (Val := Elt Ideal) (trip_k0_t3.sl.HW_arg19_64 arg12 arg13 X12 X13 k) (rS 1 n).toLoadRect)
    (fun j n => arg21.view.readCov (Val := Elt Ideal) (trip_k0_t3.sl.HW_arg21_16 arg7 arg12 arg13 arg17 arg18 arg20 X7 X12 X13 X17 X18 k) (rTr 1 j n).toLoadRect) (vtV arg14 X14 1)

end links

/-! ### Reading back -/

theorem read_append {κ : Kind} {sp : Space} {s : Shape} {e : EltTy} {Val : EltTy → Type} (v : View sig κ sp s e) (f : v.ty.Contents Val)
    (L M : List (View.Piece Val s e)) (y : s.Idx) (w : Val e) (h : ∀ pc ∈ L, ∀ x, pc.1.emb x = y → pc.2 x = w)
    (hc : ∃ pc ∈ L, ∃ x, pc.1.emb x = y) : v.read Val (v.writes Val f (L ++ M)) y = w := by
  induction L with
  | nil => obtain ⟨pc, hm, _⟩ := hc; exact absurd hm List.not_mem_nil
  | cons pc L ih =>
    by_cases hy : ∃ x, pc.1.emb x = y
    · obtain ⟨x, hx⟩ := hy
      rw [← h pc List.mem_cons_self x hx, ← hx]
      exact View.read_writes_cons_emb v f pc.1 pc.2 (L ++ M) x
    · refine (View.read_slice_write_of_not_mem pc.1 _ _ _ ?_).trans (ih (fun q hq => h q (List.mem_cons_of_mem _ hq)) ?_)
      · intro hm
        obtain ⟨x, _, hx⟩ := Finset.mem_map.mp hm
        exact hy ⟨x, hx⟩
      · obtain ⟨q, hq, hx⟩ := hc
        rcases List.mem_cons.mp hq with rfl | hq
        · exact absurd hx hy
        · exact ⟨q, hq, hx⟩

theorem s_read (b : Fin 2) (sc : Fin 16 → FVec Ideal S128x256 .f32) (M : List (View.Piece (Elt Ideal) S2x2048x256 .f32)) (n : Fin 16) (r : Fin 128) (j : Fin 256) :
    arg19.view.readCov (Val := Elt Ideal) (sPieces b sc ++ M) (rS b n).toLoadRect (ix3 (0 : Fin 1) r j) = sc n (ix2 r j) := by
  refine read_append arg19.view _ _ _ _ _ ?_ ⟨_, List.mem_reverse.mpr (List.mem_ofFn.mpr ⟨n, rfl⟩), ix3 (0 : Fin 1) r j, rfl⟩
  intro pc hpc x hx
  obtain ⟨n', rfl⟩ := List.mem_ofFn.mp (List.mem_reverse.mp hpc)
  obtain ⟨z, r', j', rfl⟩ : ∃ (z : Fin 1) (r' : Fin 128) (j' : Fin 256), x = ix3 z r' j' := ⟨x 0, x 1, x 2, eq_ix3 x⟩
  have h1 : 128 * n'.val + 1 * r'.val = 128 * n.val + 1 * r.val := congrArg (fun y => (y (1 : Fin 3) : ℕ)) hx
  have h2 : 0 + 1 * j'.val = 0 + 1 * j.val := congrArg (fun y => (y (2 : Fin 3) : ℕ)) hx
  obtain rfl : n' = n := Fin.ext (by omega)
  obtain rfl : r' = r := Fin.ext (by omega)
  obtain rfl : j' = j := Fin.ext (by omega)
  obtain rfl := Subsingleton.elim z 0
  show shapeCast S1x128x256 (sc n') _ (ix3 (0 : Fin 1) r' j') = _
  generalize sc n' = w
  pointwise

theorem t_read (b : Fin 2) (row : Fin 4 → FVec Ideal S1x1x16x256 .f32) (M : List (View.Piece (Elt Ideal) S2x4x16x256 .f32)) (q : Fin 4) (n : Fin 16) (j : Fin 256) :
    arg21.view.readCov (Val := Elt Ideal) (tPieces b row ++ M) (rTr b q n).toLoadRect (ix4 (0 : Fin 1) (0 : Fin 1) (0 : Fin 1) j) = row q (ix4 (0 : Fin 1) (0 : Fin 1) n j) := by
  refine read_append arg21.view _ _ _ _ _ ?_ ⟨_, List.mem_reverse.mpr (List.mem_ofFn.mpr ⟨q, rfl⟩), ix4 (0 : Fin 1) (0 : Fin 1) n j, ?_⟩
  · intro pc hpc x hx
    obtain ⟨q', rfl⟩ := List.mem_ofFn.mp (List.mem_reverse.mp hpc)
    obtain ⟨z, z', n', j', rfl⟩ : ∃ (z z' : Fin 1) (n' : Fin 16) (j' : Fin 256), x = ix4 z z' n' j' := ⟨x 0, x 1, x 2, x 3, eq_ix4 x⟩
    obtain rfl := Subsingleton.elim z 0
    obtain rfl := Subsingleton.elim z' 0
    have h1 : q'.val + 1 * 0 = q.val + 1 * 0 := congrArg (fun y => (y (1 : Fin 4) : ℕ)) hx
    have h2 : 0 + 1 * n'.val = n.val + 1 * 0 := congrArg (fun y => (y (2 : Fin 4) : ℕ)) hx
    have h3 : 0 + 1 * j'.val = 0 + 1 * j.val := congrArg (fun y => (y (3 : Fin 4) : ℕ)) hx
    obtain rfl : q' = q := Fin.ext (by omega)
    obtain rfl : n' = n := Fin.ext (by omega)
    obtain rfl : j' = j := Fin.ext (by omega)
    rfl
  · refine funext fun a => Fin.ext ?_
    match a with
    | ⟨0, _⟩ => rfl
    | ⟨1, _⟩ => rfl
    | ⟨2, _⟩ => show 0 + 1 * n.val = n.val + 1 * 0; omega
    | ⟨3, _⟩ => rfl

theorem bPiece_val (b : Fin 2) (sc : Fin 16 → FVec Ideal S128x256 .f32) (h : Fin 2) (n : Fin 16) (r : Fin 8) (l : Fin 128) :
    (bPiece b sc h n).2 (ix4 (0 : Fin 1) (0 : Fin 1) r l) = eighthV (sc n) (ix2 r (⟨h.val * 128 + l.val, by omega⟩ : Fin 256)) := by
  have key : ∀ (w : FVec Ideal S8x256 .f32) (hs : S8x256.Slices ![0, h.val * 128] S8x128) (hc : S8x128.ShapeCasts S1x1x8x128),
      shapeCast S1x1x8x128 (extractStridedSlice S8x128 ![0, h.val * 128] w hs : FVec Ideal S8x128 .f32) hc (ix4 (0 : Fin 1) (0 : Fin 1) r l) = w (ix2 r (⟨h.val * 128 + l.val, by omega⟩ : Fin 256)) := by
    intro w hs hc
    pointwise
  unfold bPiece halfV
  dsimp only
  exact key (eighthV (sc n)) (slices_half h) (by decide)

theorem b_read (b : Fin 2) (sc : Fin 16 → FVec Ideal S128x256 .f32) (M : List (View.Piece (Elt Ideal) S2x2x128x128 .f32)) (h : Fin 2) (r : Fin 8) (n : Fin 16) (l : Fin 128) :
    arg20.view.readCov (Val := Elt Ideal) (bPieces b sc ++ M) (rBr b h r) (ix4 (0 : Fin 1) (0 : Fin 1) n l) = eighthV (sc n) (ix2 r (⟨h.val * 128 + l.val, by omega⟩ : Fin 256)) := by
  refine read_append arg20.view _ _ _ _ _ ?_ ⟨_, List.mem_reverse.mpr (List.mem_ofFn.mpr ⟨⟨2 * n.val + h.val, by omega⟩, rfl⟩), ix4 (0 : Fin 1) (0 : Fin 1) r l, ?_⟩
  · intro pc hpc x hx
    obtain ⟨m, rfl⟩ := List.mem_ofFn.mp (List.mem_reverse.mp hpc)
    obtain ⟨z, z', r', l', rfl⟩ : ∃ (z z' : Fin 1) (r' : Fin 8) (l' : Fin 128), x = ix4 z z' r' l' := ⟨x 0, x 1, x 2, x 3, eq_ix4 x⟩
    obtain rfl := Subsingleton.elim z 0
    obtain rfl := Subsingleton.elim z' 0
    have h1 : m.val % 2 + 1 * 0 = h.val + 1 * 0 := congrArg (fun y => (y (1 : Fin 4) : ℕ)) hx
    have h2 : 8 * (m.val / 2) + 1 * r'.val = r.val + 8 * n.val := congrArg (fun y => (y (2 : Fin 4) : ℕ)) hx
    have h3 : 0 + 1 * l'.val = 0 + 1 * l.val := congrArg (fun y => (y (3 : Fin 4) : ℕ)) hx
    obtain rfl : l' = l := Fin.ext (by omega)
    obtain rfl : r' = r := Fin.ext (by omega)
    have e1 : (⟨m.val / 2, by omega⟩ : Fin 16) = n := Fin.ext (show m.val / 2 = n.val by omega)
    have e2 : (⟨m.val % 2, Nat.mod_lt _ (by decide)⟩ : Fin 2) = h := Fin.ext (show m.val % 2 = h.val by omega)
    refine (bPiece_val b sc _ _ r' l').trans ?_
    rw [e1]
    exact congrArg (fun t => eighthV (sc n) (ix2 r' t)) (Fin.ext (show m.val % 2 * 128 + l'.val = h.val * 128 + l'.val by omega))
  · refine funext fun a => Fin.ext ?_
    match a with
    | ⟨0, _⟩ => rfl
    | ⟨1, _⟩ => show (2 * n.val + h.val) % 2 + 1 * 0 = h.val + 1 * 0; omega
    | ⟨2, _⟩ => show 8 * ((2 * n.val + h.val) / 2) + 1 * r.val = r.val + 8 * n.val; omega
    | ⟨3, _⟩ => rfl

section trip
variable (c : Dev nD) (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S1x2048x512 .fp8e4m3) (harg6 : arg6.IsWhole) (harg7 : arg7.IsWhole) (arg8 : Memref sig .tc .vmem S1x2048x128 .fp8e4m3) (harg8 : arg8.IsWhole) (arg9 : Memref sig .tc .vmem S1x1x16x128 .f32) (harg9 : arg9.IsWhole) (arg10 : Memref sig .tc .vmem S1x2048x128 .fp8e4m3) (harg10 : arg10.IsWhole) (arg11 : Memref sig .tc .vmem S1x1x16x128 .f32) (harg11 : arg11.IsWhole) (harg12 : arg12.IsWhole) (harg13 : arg13.IsWhole) (harg14 : arg14.IsWhole) (arg15 : Memref sig .tc .vmem S16x512 .f32) (harg15 : arg15.IsWhole) (arg16 : Memref sig .tc .vmem S16x512 .f32) (harg16 : arg16.IsWhole) (harg17 : arg17.IsWhole) (harg18 : arg18.IsWhole) (harg19 : arg19.IsWhole) (harg20 : arg20.IsWhole) (harg21 : arg21.IsWhole)

set_option maxHeartbeats 1000000 in
theorem tripL_k0_t3_fst (𝒱 : Variants) (bd : Option 𝒱.V) (f5 : BufTy.Contents (Elt Ideal) arg5.view.ty) (f19 : BufTy.Contents (Elt Ideal) arg19.view.ty) (f20 : BufTy.Contents (Elt Ideal) arg20.view.ty) (f21 : BufTy.Contents (Elt Ideal) arg21.view.ty) :
    (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X7 X12 X13 X14 X17 X18 k f5 f19 f20 f21).1
      = [⟨Rect.unit (s := S1x2048x512) (k0_off24 k) S1x128x128.size (k0_off24_inb k), out3 arg7 arg12 arg13 arg14 arg17 arg18 arg19 arg20 arg21 X7 X12 X13 X14 X17 X18 k⟩,
         ⟨Rect.unit (s := S1x2048x512) (k0_off21 k) S1x128x128.size (k0_off21_inb k), trip_k0_t3.sl.v5655 arg7 arg12 arg13 arg14 arg17 arg18 arg19 arg20 arg21 X7 X12 X13 X14 X17 X18 k⟩,
         ⟨Rect.unit (s := S1x2048x512) (k0_off18 k) S1x128x128.size (k0_off18_inb k), trip_k0_t3.sl.v4723 arg7 arg12 arg13 arg14 arg17 arg18 arg19 arg20 arg21 X7 X12 X13 X14 X17 X18 k⟩,
         ⟨Rect.unit (s := S1x2048x512) (k0_off15 k) S1x128x128.size (k0_off15_inb k), trip_k0_t3.sl.v3791 arg7 arg12 arg13 arg14 arg17 arg18 arg19 arg20 arg21 X7 X12 X13 X14 X17 X18 k⟩] := by
  unfold tripL_k0_t3 trip_k0_t3
  rfl

end trip

end Cert.KernelIdeal.Tile
-- ==== Proof.TileVal.lean ====
module

public import proofs.«01_k».proof.Proof.KerTile

/-! One entry of what a tile writes, as sums and suprema over its scores. -/

@[expose] public section

set_option maxRecDepth 16384

noncomputable section

namespace Cert.KernelIdeal.Tile

open Cert.KernelIdeal Cert.KernelIdeal.Gen Cert.KernelIdeal.Body
open Idealize.ShloMosaic Idealize.ShloMosaic.TcCoe Idealize.ShloMosaic.Tactic
open Cert.Scale

/-- The largest scaled score. -/
def topOf (a : Fin 16 → Fin 128 → EReal) (cs : Fin 16 → EReal) : EReal :=
  Finset.univ.sup fun n => (Finset.univ.sup fun s => a n s) * cs n

/-- The largest weight of a block. -/
def amOf (a : Fin 16 → Fin 128 → EReal) (cs : Fin 16 → EReal) (n : Fin 16) : EReal :=
  Ideal.exp ((Finset.univ.sup fun s => a n s) * cs n - topOf a cs)

/-- A weight over its block's scale. -/
def pqOf (a : Fin 16 → Fin 128 → EReal) (cs : Fin 16 → EReal) (n : Fin 16) (s : Fin 128) : EReal :=
  Ideal.exp2 (a n s * (cs n * log2e) - (topOf a cs * log2e + FloatOps.sitofp (F := Ideal) (φ := .f32) (kexp (amOf a cs n))))

/-- An entry of a tile's output, from the scores, their scales, the values' scales and the values. -/
def tileVal (a : Fin 16 → Fin 128 → EReal) (cs vs : Fin 16 → EReal) (v : Fin 16 → Fin 128 → EReal) : EReal :=
  Ideal.div
    (∑ n : Fin 16, (∑ s : Fin 128, v n s * min (Ideal.ofBits .f32 1138753536#32) (max (Ideal.ofBits .f32 3286237184#32) (pqOf a cs n s))) * (kscale (amOf a cs n) * vs n))
    (∑ r : Fin 8, ∑ n : Fin 16, (∑ g : Fin 16, pqOf a cs n ⟨g.val * 8 + r.val, by omega⟩) * kscale (amOf a cs n))

theorem row_zero (bm cs : FVec Ideal S16x256 .f32) (vs : FVec Ideal S1x16x256 .f32) (n : Fin 16) (j : Fin 256) :
    rowV bm cs vs 0 (ix4 (0 : Fin 1) (0 : Fin 1) n j) = cs (ix2 n j) * log2e := by
  unfold rowV
  pointwise

theorem row_one (bm cs : FVec Ideal S16x256 .f32) (vs : FVec Ideal S1x16x256 .f32) (n : Fin 16) (j : Fin 256) :
    rowV bm cs vs 1 (ix4 (0 : Fin 1) (0 : Fin 1) n j) = smV bm cs (ix2 (0 : Fin 1) j) * log2e + FloatOps.sitofp (F := Ideal) (φ := .f32) (kexp (amV bm cs (ix2 n j))) := by
  rw [← expoV_apply]
  unfold rowV
  generalize smV bm cs = w
  generalize expoV (amV bm cs) = e
  pointwise

theorem row_two (bm cs : FVec Ideal S16x256 .f32) (vs : FVec Ideal S1x16x256 .f32) (n : Fin 16) (j : Fin 256) :
    rowV bm cs vs 2 (ix4 (0 : Fin 1) (0 : Fin 1) n j) = kscale (amV bm cs (ix2 n j)) := by
  rw [← scaleV_apply]
  unfold rowV
  generalize scaleV (amV bm cs) = e
  pointwise

theorem row_three (bm cs : FVec Ideal S16x256 .f32) (vs : FVec Ideal S1x16x256 .f32) (n : Fin 16) (j : Fin 256) :
    rowV bm cs vs 3 (ix4 (0 : Fin 1) (0 : Fin 1) n j) = kscale (amV bm cs (ix2 n j)) * vs (ix3 (0 : Fin 1) n j) := by
  rw [← scaleV_apply]
  unfold rowV
  generalize scaleV (amV bm cs) = e
  pointwise

theorem lAcc_apply (S : Fin 16 → FVec Ideal S1x128x256 .f32) (st : Fin 4 → Fin 16 → FVec Ideal S1x1x1x256 .f32) (r : Fin 8) (j : Fin 256) (m : ℕ) (hm : m ≤ 16) :
    lAcc S st m hm (ix2 r j) = ∑ n : Fin m, (∑ g : Fin 16, pqV (S ⟨n.val, by omega⟩) (fun q => st q ⟨n.val, by omega⟩) (ix2 (⟨g.val * 8 + r.val, by omega⟩ : Fin 128) j)) * st 2 ⟨n.val, by omega⟩ (ix4 (0 : Fin 1) (0 : Fin 1) (0 : Fin 1) j) := by
  induction m with
  | zero => exact Ideal.ofBits_zero_f32
  | succ m ih =>
    rw [Fin.sum_univ_castSucc]
    show lStep _ _ _ _ = _
    rw [lStep_apply, ih]
    rfl

theorem oAcc_apply (S : Fin 16 → FVec Ideal S1x128x256 .f32) (st : Fin 4 → Fin 16 → FVec Ideal S1x1x1x256 .f32) (vt : Fin 16 → FVec Ideal S64x128 .fp8e4m3) (d : Fin 64) (j : Fin 256) (m : ℕ) (hm : m ≤ 16) :
    oAcc S st vt m hm (ix2 d j) = ∑ n : Fin m, (∑ s : Fin 128, vt ⟨n.val, by omega⟩ (ix2 d s) * min (Ideal.ofBits .f32 1138753536#32) (max (Ideal.ofBits .f32 3286237184#32) (pqV (S ⟨n.val, by omega⟩) (fun q => st q ⟨n.val, by omega⟩) (ix2 s j)))) * st 3 ⟨n.val, by omega⟩ (ix4 (0 : Fin 1) (0 : Fin 1) (0 : Fin 1) j) := by
  induction m with
  | zero => exact Ideal.ofBits_zero_f32
  | succ m ih =>
    rw [Fin.sum_univ_castSucc]
    show oStep _ _ _ _ _ = _
    rw [oStep_apply, ih]
    rfl

/-- What a tile writes at an index. -/
theorem outV_val (S : Fin 16 → FVec Ideal S1x128x256 .f32) (st : Fin 4 → Fin 16 → FVec Ideal S1x1x1x256 .f32) (vt : Fin 16 → FVec Ideal S64x128 .fp8e4m3)
    (sc : Fin 16 → FVec Ideal S128x256 .f32) (bm cs : FVec Ideal S16x256 .f32) (vs : FVec Ideal S1x16x256 .f32)
    (hS : ∀ n r j, S n (ix3 (0 : Fin 1) r j) = sc n (ix2 r j))
    (hst : ∀ q n j, st q n (ix4 (0 : Fin 1) (0 : Fin 1) (0 : Fin 1) j) = rowV bm cs vs q (ix4 (0 : Fin 1) (0 : Fin 1) n j))
    (hbm : ∀ n j, bm (ix2 n j) = Finset.univ.sup fun s : Fin 128 => sc n (ix2 s j))
    (i c : Fin 128) (d : Fin 64) (j : Fin 256) (hd : c.val % 64 = d.val) (hj : c.val / 64 * 128 + i.val = j.val) :
    outV S st vt (ix3 (0 : Fin 1) i c) = tileVal (fun n s => sc n (ix2 s j)) (fun n => cs (ix2 n j)) (fun n => vs (ix3 (0 : Fin 1) n j)) (fun n s => vt n (ix2 d s)) := by
  have e1 : (⟨c.val % 64, by omega⟩ : Fin 64) = d := Fin.ext hd
  have e2 : (⟨c.val / 64 * 128 + i.val, by omega⟩ : Fin 256) = j := Fin.ext hj
  have hm : smV bm cs (ix2 (0 : Fin 1) j) = topOf (fun n s => sc n (ix2 s j)) (fun n => cs (ix2 n j)) := by
    rw [smV_apply]; simp only [hbm]; rfl
  have ha : ∀ n, amV bm cs (ix2 n j) = amOf (fun n s => sc n (ix2 s j)) (fun n => cs (ix2 n j)) n := by
    intro n; rw [amV_apply, hm, hbm]; rfl
  have hp : ∀ n s, pqV (S n) (fun q => st q n) (ix2 s j) = pqOf (fun n s => sc n (ix2 s j)) (fun n => cs (ix2 n j)) n s := by
    intro n s
    rw [pqV_apply, hS, hst, hst, row_zero, row_one, hm, ha]; rfl
  rw [outV_apply, e1, e2, closeV_apply, oAcc_apply]
  simp only [lAcc_apply, hp, hst, row_two, row_three, ha]
  rfl

/-- The block maxima, from maxima over keys eight apart. -/
theorem blockV_val (B : Fin 2 → Fin 8 → FVec Ideal S1x1x16x128 .f32) (sc : Fin 16 → FVec Ideal S128x256 .f32)
    (hB : ∀ (h : Fin 2) (r : Fin 8) (n : Fin 16) (l : Fin 128), B h r (ix4 (0 : Fin 1) (0 : Fin 1) n l) = eighthV (sc n) (ix2 r (⟨h.val * 128 + l.val, by omega⟩ : Fin 256)))
    (n : Fin 16) (j : Fin 256) : blockV B (ix2 n j) = Finset.univ.sup fun s : Fin 128 => sc n (ix2 s j) := by
  rw [blockV_apply]
  have e : ∀ h, (⟨j.val / 128 * 128 + j.val % 128, h⟩ : Fin 256) = j := fun h => Fin.ext (by show j.val / 128 * 128 + j.val % 128 = j.val; omega)
  simp only [hB, eighthV_apply, e]
  refine le_antisymm (Finset.sup_le fun r _ => Finset.sup_le fun g _ => Finset.le_sup (f := fun s : Fin 128 => sc n (ix2 s j)) (Finset.mem_univ _)) (Finset.sup_le fun s _ => ?_)
  have hs : (⟨s.val / 8 * 8 + s.val % 8, by omega⟩ : Fin 128) = s := Fin.ext (by show s.val / 8 * 8 + s.val % 8 = s.val; omega)
  have h1 : sc n (ix2 s j) ≤ Finset.univ.sup fun g : Fin 16 => sc n (ix2 (⟨g.val * 8 + s.val % 8, by omega⟩ : Fin 128) j) := by
    have := Finset.le_sup (f := fun g : Fin 16 => sc n (ix2 (⟨g.val * 8 + s.val % 8, by omega⟩ : Fin 128) j)) (Finset.mem_univ (⟨s.val / 8, by omega⟩ : Fin 16))
    simp only [hs] at this
    exact this
  exact h1.trans (Finset.le_sup (f := fun r : Fin 8 => Finset.univ.sup fun g : Fin 16 => sc n (ix2 (⟨g.val * 8 + r.val, by omega⟩ : Fin 128) j)) (Finset.mem_univ (⟨s.val % 8, by omega⟩ : Fin 8)))

end Cert.KernelIdeal.Tile
-- ==== Proof.KerY.lean ====
module

public import proofs.«01_k».proof.Proof.KerAttn
public import proofs.«01_k».proof.Proof.TileVal

/-! What the third loop leaves in the output, from what its buffers hold when it starts. -/

@[expose] public section

set_option maxRecDepth 16384

noncomputable section

namespace Cert.KernelIdeal.Tile

open Cert.KernelIdeal Cert.KernelIdeal.Gen Cert.KernelIdeal.Body
open Idealize.ShloMosaic Idealize.ShloMosaic.TcCoe Idealize.ShloMosaic.Tactic
open Cert.Scale

variable (arg7 : Memref sig .tc .vmem S1x1x16x1024 .f32) (arg12 : Memref sig .tc .vmem S16x4x256x128 .fp8e4m3) (arg13 : Memref sig .tc .vmem S2x2048x128 .fp8e4m3) (arg14 : Memref sig .tc .vmem S128x2048 .fp8e4m3)
  (arg17 arg18 : Memref sig .tc .vmem S2x16x256 .f32) (arg19 : Memref sig .tc .vmem S2x2048x256 .f32) (arg20 : Memref sig .tc .vmem S2x2x128x128 .f32) (arg21 : Memref sig .tc .vmem S2x4x16x256 .f32)
  (X7 : BufTy.Contents (Elt Ideal) arg7.view.ty) (X12 : BufTy.Contents (Elt Ideal) arg12.view.ty) (X13 : BufTy.Contents (Elt Ideal) arg13.view.ty) (X14 : BufTy.Contents (Elt Ideal) arg14.view.ty)
  (X17 : BufTy.Contents (Elt Ideal) arg17.view.ty) (X18 : BufTy.Contents (Elt Ideal) arg18.view.ty) (k : Fin k0_t3_loop.trips)

/-! ### The tile's loads -/

theorem cast_block (w : S1x128x128.Idx → EReal) (h : S1x128x128.ShapeCasts S128x128) (s l : Fin 128) : shapeCast S128x128 w h (ix2 s l) = w (ix3 (0 : Fin 1) s l) := by
  pointwise

theorem cast_qm (w : S1x1x256x128.Idx → EReal) (h : S1x1x256x128.ShapeCasts S256x128) (j : Fin 256) (l : Fin 128) : shapeCast S256x128 w h (ix2 j l) = w (ix4 (0 : Fin 1) (0 : Fin 1) j l) := by
  pointwise

theorem kdV_apply (v : Fin 2) (n : Fin 16) (s l : Fin 128) : kdV arg13 X13 v n (ix2 s l) = arg13.view.read (Elt Ideal) X13 (ix3 v (⟨128 * n.val + s.val, by omega⟩ : Fin 2048) l) := by
  refine (cast_block _ _ s l).trans ?_
  rw [View.readAt_apply]
  refine congrArg _ (funext fun a => Fin.ext ?_)
  match a with
  | ⟨0, _⟩ => rfl
  | ⟨1, _⟩ => show 128 * n.val + 1 * s.val = 128 * n.val + s.val; omega
  | ⟨2, _⟩ => show 0 + 1 * l.val = l.val; omega

theorem qmV_apply (off : Fin 4 → ℕ) (h) (b : Fin 16) (t : Fin 4) (hoff : off = ![b.val, t.val, 0, 0]) (j : Fin 256) (l : Fin 128) :
    qmV arg12 X12 off h (ix2 j l) = arg12.view.read (Elt Ideal) X12 (ix4 b t j l) := by
  subst hoff
  refine (cast_qm _ _ j l).trans ?_
  rw [View.readAt_apply]
  refine congrArg _ (funext fun a => Fin.ext ?_)
  match a with
  | ⟨0, _⟩ => rfl
  | ⟨1, _⟩ => rfl
  | ⟨2, _⟩ => show 0 + 1 * j.val = j.val; omega
  | ⟨3, _⟩ => show 0 + 1 * l.val = l.val; omega

theorem qsV_apply (off : Fin 4 → ℕ) (h) (b : Fin 16) (t : Fin 4) (hoff : off = ![0, 0, b.val, 256 * t.val]) (j : Fin 256) :
    qsV arg7 X7 off h (ix4 (0 : Fin 1) (0 : Fin 1) (0 : Fin 1) j) = arg7.view.read (Elt Ideal) X7 (ix4 (0 : Fin 1) (0 : Fin 1) b (⟨256 * t.val + j.val, by omega⟩ : Fin 1024)) := by
  subst hoff
  unfold qsV
  rw [View.readAt_apply]
  refine congrArg _ (funext fun a => Fin.ext ?_)
  match a with
  | ⟨0, _⟩ => rfl
  | ⟨1, _⟩ => rfl
  | ⟨2, _⟩ => rfl
  | ⟨3, _⟩ => show 256 * t.val + 1 * j.val = 256 * t.val + j.val; omega

theorem ksV_apply (v : Fin 2) (n : Fin 16) (j : Fin 256) : ksV arg17 X17 v (ix3 (0 : Fin 1) n j) = arg17.view.read (Elt Ideal) X17 (ix3 v n j) := by
  unfold ksV
  rw [View.readAt_apply]
  refine congrArg _ (funext fun a => Fin.ext ?_)
  match a with
  | ⟨0, _⟩ => rfl
  | ⟨1, _⟩ => show 0 + 1 * n.val = n.val; omega
  | ⟨2, _⟩ => show 0 + 1 * j.val = j.val; omega

theorem vtV_apply (v : Fin 2) (n : Fin 16) (d : Fin 64) (s : Fin 128) : vtV arg14 X14 v n (ix2 d s) = arg14.view.read (Elt Ideal) X14 (ix2 (⟨64 * v.val + d.val, by omega⟩ : Fin 128) (⟨128 * n.val + s.val, by omega⟩ : Fin 2048)) := by
  unfold vtV
  rw [View.readAt_apply]
  refine congrArg _ (funext fun a => Fin.ext ?_)
  match a with
  | ⟨0, _⟩ => show 64 * v.val + 1 * d.val = 64 * v.val + d.val; omega
  | ⟨1, _⟩ => show 128 * n.val + 1 * s.val = 128 * n.val + s.val; omega

/-! ### A tile, from the buffers -/

/-- An entry of the output, from what the loop's buffers hold: row `i` of block `b`, head `2t + h`, lane `d`. -/
def yVal (r7 : S1x1x16x1024.Idx → EReal) (r12 : S16x4x256x128.Idx → EReal) (r13 : S2x2048x128.Idx → EReal) (r14 : S128x2048.Idx → EReal) (r17 r18 : S2x16x256.Idx → EReal)
    (b : Fin 16) (t : Fin 4) (v : Fin 2) (j : Fin 256) (d : Fin 64) : EReal :=
  tileVal (fun n s => ∑ l : Fin 128, r13 (ix3 v (⟨128 * n.val + s.val, by omega⟩ : Fin 2048) l) * r12 (ix4 b t j l))
    (fun n => r7 (ix4 (0 : Fin 1) (0 : Fin 1) b (⟨256 * t.val + j.val, by omega⟩ : Fin 1024)) * Ideal.ofBits .f32 1040187392#32 * r17 (ix3 v n j))
    (fun n => r18 (ix3 v n j)) (fun n s => r14 (ix2 (⟨64 * v.val + d.val, by omega⟩ : Fin 128) (⟨128 * n.val + s.val, by omega⟩ : Fin 2048)))

/-- A tile's maxima, read back. -/
def bRead (HB : List (View.Piece (Elt Ideal) S2x2x128x128 .f32)) (bf h : Fin 2) (r : Fin 8) : FVec Ideal S1x1x16x128 .f32 :=
  arg20.view.readCov (Val := Elt Ideal) HB (rBr bf h r)

theorem bRead_apply (bf : Fin 2) (sc : Fin 16 → FVec Ideal S128x256 .f32) (M : List (View.Piece (Elt Ideal) S2x2x128x128 .f32)) (h : Fin 2) (r : Fin 8) (n : Fin 16) (l : Fin 128) :
    bRead arg20 (bPieces bf sc ++ M) bf h r (ix4 (0 : Fin 1) (0 : Fin 1) n l) = eighthV (sc n) (ix2 r (⟨h.val * 128 + l.val, by omega⟩ : Fin 256)) := by
  unfold bRead
  exact b_read arg20 bf sc M h r n l

theorem tile_entry (b : Fin 16) (t : Fin 4) (v bf : Fin 2) (offq : Fin 4 → ℕ) (hq) (eq : offq = ![b.val, t.val, 0, 0]) (offs : Fin 4 → ℕ) (hs) (es : offs = ![0, 0, b.val, 256 * t.val])
    (HS MS : List (View.Piece (Elt Ideal) S2x2048x256 .f32)) (HB MB : List (View.Piece (Elt Ideal) S2x2x128x128 .f32)) (HT MT : List (View.Piece (Elt Ideal) S2x4x16x256 .f32)) (bm : FVec Ideal S16x256 .f32)
    (eS : HS = sPieces bf (scV arg12 arg13 X12 X13 offq hq v) ++ MS) (eB : HB = bPieces bf (scV arg12 arg13 X12 X13 offq hq v) ++ MB)
    (ebm : bm = blockV (bRead arg20 HB bf))
    (eT : HT = tPieces bf (rowV bm (csV (qsV arg7 X7 offs hs) (ksV arg17 X17 v)) (ksV arg18 X18 v)) ++ MT)
    (i c : Fin 128) (d : Fin 64) (j : Fin 256) (hd : c.val % 64 = d.val) (hj : c.val / 64 * 128 + i.val = j.val) :
    outV (fun n => arg19.view.readCov (Val := Elt Ideal) HS (rS bf n).toLoadRect) (fun q n => arg21.view.readCov (Val := Elt Ideal) HT (rTr bf q n).toLoadRect) (vtV arg14 X14 v) (ix3 (0 : Fin 1) i c)
      = yVal (arg7.view.read (Elt Ideal) X7) (arg12.view.read (Elt Ideal) X12) (arg13.view.read (Elt Ideal) X13) (arg14.view.read (Elt Ideal) X14) (arg17.view.read (Elt Ideal) X17) (arg18.view.read (Elt Ideal) X18) b t v j d := by
  subst eS eB ebm eT
  have hbm : ∀ (n : Fin 16) (j : Fin 256), blockV (bRead arg20 (bPieces bf (scV arg12 arg13 X12 X13 offq hq v) ++ MB) bf) (ix2 n j) = Finset.univ.sup fun s : Fin 128 => scV arg12 arg13 X12 X13 offq hq v n (ix2 s j) :=
    fun n j => blockV_val (bRead arg20 (bPieces bf (scV arg12 arg13 X12 X13 offq hq v) ++ MB) bf) (scV arg12 arg13 X12 X13 offq hq v) (fun h r n l => bRead_apply arg20 bf (scV arg12 arg13 X12 X13 offq hq v) MB h r n l) n j
  refine (outV_val _ _ _ (scV arg12 arg13 X12 X13 offq hq v) _ _ _ (fun n r j => s_read arg19 bf _ MS n r j) (fun q n j => t_read arg21 bf _ MT q n j)
    hbm i c d j hd hj).trans ?_
  unfold yVal
  simp only [scV, scoreV_apply, kdV_apply, qmV_apply arg12 X12 offq hq b t eq, csV_apply, qsV_apply arg7 X7 offs hs b t es, ksV_apply, vtV_apply]

/-- An entry of the output, at an index of the block. -/
def yBlk (r7 : S1x1x16x1024.Idx → EReal) (r12 : S16x4x256x128.Idx → EReal) (r13 : S2x2048x128.Idx → EReal) (r14 : S128x2048.Idx → EReal) (r17 r18 : S2x16x256.Idx → EReal) (y : S1x2048x512.Idx) : EReal :=
  yVal r7 r12 r13 r14 r17 r18 ⟨(y 1).val / 128, Nat.div_lt_of_lt_mul (y 1).isLt⟩ ⟨(y 2).val / 128, Nat.div_lt_of_lt_mul (y 2).isLt⟩ ⟨(y 2).val / 256, Nat.div_lt_of_lt_mul (y 2).isLt⟩
    ⟨(y 2).val / 64 % 2 * 128 + (y 1).val % 128, by omega⟩ ⟨(y 2).val % 64, by omega⟩

section trip
variable (c : Dev nD) (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S1x2048x512 .fp8e4m3) (harg6 : arg6.IsWhole) (harg7 : arg7.IsWhole) (arg8 : Memref sig .tc .vmem S1x2048x128 .fp8e4m3) (harg8 : arg8.IsWhole) (arg9 : Memref sig .tc .vmem S1x1x16x128 .f32) (harg9 : arg9.IsWhole) (arg10 : Memref sig .tc .vmem S1x2048x128 .fp8e4m3) (harg10 : arg10.IsWhole) (arg11 : Memref sig .tc .vmem S1x1x16x128 .f32) (harg11 : arg11.IsWhole) (harg12 : arg12.IsWhole) (harg13 : arg13.IsWhole) (harg14 : arg14.IsWhole) (arg15 : Memref sig .tc .vmem S16x512 .f32) (harg15 : arg15.IsWhole) (arg16 : Memref sig .tc .vmem S16x512 .f32) (harg16 : arg16.IsWhole) (harg17 : arg17.IsWhole) (harg18 : arg18.IsWhole) (harg19 : arg19.IsWhole) (harg20 : arg20.IsWhole) (harg21 : arg21.IsWhole)

/-- The buffers of the third loop, read. -/
abbrev yRead : S1x2048x512.Idx → EReal := yBlk (arg7.view.read (Elt Ideal) X7) (arg12.view.read (Elt Ideal) X12) (arg13.view.read (Elt Ideal) X13) (arg14.view.read (Elt Ideal) X14) (arg17.view.read (Elt Ideal) X17) (arg18.view.read (Elt Ideal) X18)

theorem trips3 : k0_t3_loop.trips = 16 := by decide

theorem trips_lt : k.val < 16 := k.isLt

/-- A tile's piece holds the output's entries on its rectangle. -/
theorem piece_entry (t : Fin 4) (v : Fin 2) (hv : v.val = t.val / 2) (off : Fin 3 → ℕ) (h : ∀ a, off a + S1x128x128.size a ≤ S1x2048x512.size a) (hoff : off = ![0, 128 * k.val, 128 * t.val])
    (w : FVec Ideal S1x128x128 .bf16)
    (hw : ∀ (i c : Fin 128) (d : Fin 64) (j : Fin 256), c.val % 64 = d.val → c.val / 64 * 128 + i.val = j.val →
      w (ix3 (0 : Fin 1) i c) = yVal (arg7.view.read (Elt Ideal) X7) (arg12.view.read (Elt Ideal) X12) (arg13.view.read (Elt Ideal) X13) (arg14.view.read (Elt Ideal) X14) (arg17.view.read (Elt Ideal) X17) (arg18.view.read (Elt Ideal) X18) ⟨k.val, trips_lt k⟩ t v j d)
    (x : S1x128x128.Idx) : w x = yRead arg7 arg12 arg13 arg14 arg17 arg18 X7 X12 X13 X14 X17 X18 ((Rect.unit (s := S1x2048x512) off S1x128x128.size h).emb x) := by
  subst hoff
  have hk := trips_lt k
  obtain ⟨z, i, c, rfl⟩ : ∃ (z : Fin 1) (i c : Fin 128), x = ix3 z i c := ⟨x 0, x 1, x 2, eq_ix3 x⟩
  obtain rfl := Subsingleton.elim z 0
  have e : (Rect.unit (s := S1x2048x512) ![0, 128 * k.val, 128 * t.val] S1x128x128.size h).emb (ix3 (0 : Fin 1) i c) = ix3 (0 : Fin 1) (⟨128 * k.val + i.val, by omega⟩ : Fin 2048) (⟨128 * t.val + c.val, by omega⟩ : Fin 512) := by
    refine funext fun a => Fin.ext ?_
    match a with
    | ⟨0, _⟩ => rfl
    | ⟨1, _⟩ => show 128 * k.val + 1 * i.val = 128 * k.val + i.val; omega
    | ⟨2, _⟩ => show 128 * t.val + 1 * c.val = 128 * t.val + c.val; omega
  rw [e, hw i c ⟨c.val % 64, by omega⟩ ⟨c.val / 64 * 128 + i.val, by omega⟩ rfl rfl]
  unfold yRead yBlk
  have e1 : (⟨k.val, hk⟩ : Fin 16) = ⟨(128 * k.val + i.val) / 128, by omega⟩ := Fin.ext (show k.val = (128 * k.val + i.val) / 128 by omega)
  have e2 : t = ⟨(128 * t.val + c.val) / 128, by omega⟩ := Fin.ext (show t.val = (128 * t.val + c.val) / 128 by omega)
  have e3 : v = ⟨(128 * t.val + c.val) / 256, by omega⟩ := Fin.ext (show v.val = (128 * t.val + c.val) / 256 by omega)
  have e4 : (⟨c.val / 64 * 128 + i.val, by omega⟩ : Fin 256) = ⟨(128 * t.val + c.val) / 64 % 2 * 128 + (128 * k.val + i.val) % 128, by omega⟩ := Fin.ext (show c.val / 64 * 128 + i.val = (128 * t.val + c.val) / 64 % 2 * 128 + (128 * k.val + i.val) % 128 by omega)
  have e5 : (⟨c.val % 64, by omega⟩ : Fin 64) = ⟨(128 * t.val + c.val) % 64, by omega⟩ := Fin.ext (show c.val % 64 = (128 * t.val + c.val) % 64 by omega)
  exact congr (congr (congr (congr (congrArg _ e1) e2) e3) e4) e5

theorem entry0 (x : S1x128x128.Idx) : trip_k0_t3.sl.v3791 arg7 arg12 arg13 arg14 arg17 arg18 arg19 arg20 arg21 X7 X12 X13 X14 X17 X18 k x = yRead arg7 arg12 arg13 arg14 arg17 arg18 X7 X12 X13 X14 X17 X18 ((Rect.unit (s := S1x2048x512) (k0_off15 k) S1x128x128.size (k0_off15_inb k)).emb x) :=
  piece_entry arg7 arg12 arg13 arg14 arg17 arg18 X7 X12 X13 X14 X17 X18 k 0 0 rfl _ _ (k0_off15_eq k) _ (fun i c d j hd hj => (congrFun (out_tile0 arg7 arg12 arg13 arg14 arg17 arg18 arg19 arg20 arg21 X7 X12 X13 X14 X17 X18 k) _).trans (tile_entry arg7 arg12 arg13 arg14 arg17 arg18 arg19 arg20 arg21 X7 X12 X13 X14 X17 X18 ⟨k.val, trips_lt k⟩ 0 0 0 (k0_off13 k) (k0_off13_inb k) (k0_off13_eq k) (k0_off14 k) (k0_off14_inb k) (k0_off14_eq k)
    _ _ _ _ _ _ _ ((s_pieces0 arg12 arg13 X12 X13 k).trans (List.append_nil _).symm) ((b_pieces0 arg12 arg13 X12 X13 k).trans (List.append_nil _).symm) (bm_tile0 arg12 arg13 arg20 X12 X13 k) ((t_pieces0 arg7 arg12 arg13 arg17 arg18 arg20 X7 X12 X13 X17 X18 k).trans (List.append_nil _).symm) i c d j hd hj)) x

theorem entry1 (x : S1x128x128.Idx) : trip_k0_t3.sl.v4723 arg7 arg12 arg13 arg14 arg17 arg18 arg19 arg20 arg21 X7 X12 X13 X14 X17 X18 k x = yRead arg7 arg12 arg13 arg14 arg17 arg18 X7 X12 X13 X14 X17 X18 ((Rect.unit (s := S1x2048x512) (k0_off18 k) S1x128x128.size (k0_off18_inb k)).emb x) :=
  piece_entry arg7 arg12 arg13 arg14 arg17 arg18 X7 X12 X13 X14 X17 X18 k 1 0 rfl _ _ (k0_off18_eq k) _ (fun i c d j hd hj => (congrFun (out_tile1 arg7 arg12 arg13 arg14 arg17 arg18 arg19 arg20 arg21 X7 X12 X13 X14 X17 X18 k) _).trans (tile_entry arg7 arg12 arg13 arg14 arg17 arg18 arg19 arg20 arg21 X7 X12 X13 X14 X17 X18 ⟨k.val, trips_lt k⟩ 1 0 1 (k0_off16 k) (k0_off16_inb k) (k0_off16_eq k) (k0_off17 k) (k0_off17_inb k) (k0_off17_eq k)
    _ _ _ _ _ _ _ (s_pieces1 arg12 arg13 X12 X13 k) (b_pieces1 arg12 arg13 X12 X13 k) (bm_tile1 arg12 arg13 arg20 X12 X13 k) (t_pieces1 arg7 arg12 arg13 arg17 arg18 arg20 X7 X12 X13 X17 X18 k) i c d j hd hj)) x

theorem entry2 (x : S1x128x128.Idx) : trip_k0_t3.sl.v5655 arg7 arg12 arg13 arg14 arg17 arg18 arg19 arg20 arg21 X7 X12 X13 X14 X17 X18 k x = yRead arg7 arg12 arg13 arg14 arg17 arg18 X7 X12 X13 X14 X17 X18 ((Rect.unit (s := S1x2048x512) (k0_off21 k) S1x128x128.size (k0_off21_inb k)).emb x) :=
  piece_entry arg7 arg12 arg13 arg14 arg17 arg18 X7 X12 X13 X14 X17 X18 k 2 1 rfl _ _ (k0_off21_eq k) _ (fun i c d j hd hj => (congrFun (out_tile2 arg7 arg12 arg13 arg14 arg17 arg18 arg19 arg20 arg21 X7 X12 X13 X14 X17 X18 k) _).trans (tile_entry arg7 arg12 arg13 arg14 arg17 arg18 arg19 arg20 arg21 X7 X12 X13 X14 X17 X18 ⟨k.val, trips_lt k⟩ 2 1 0 (k0_off19 k) (k0_off19_inb k) (k0_off19_eq k) (k0_off20 k) (k0_off20_inb k) (k0_off20_eq k)
    _ _ _ _ _ _ _ (s_pieces2 arg12 arg13 X12 X13 k) (b_pieces2 arg12 arg13 X12 X13 k) (bm_tile2 arg12 arg13 arg20 X12 X13 k) (t_pieces2 arg7 arg12 arg13 arg17 arg18 arg20 X7 X12 X13 X17 X18 k) i c d j hd hj)) x

theorem entry3 (x : S1x128x128.Idx) : out3 arg7 arg12 arg13 arg14 arg17 arg18 arg19 arg20 arg21 X7 X12 X13 X14 X17 X18 k x = yRead arg7 arg12 arg13 arg14 arg17 arg18 X7 X12 X13 X14 X17 X18 ((Rect.unit (s := S1x2048x512) (k0_off24 k) S1x128x128.size (k0_off24_inb k)).emb x) :=
  piece_entry arg7 arg12 arg13 arg14 arg17 arg18 X7 X12 X13 X14 X17 X18 k 3 1 rfl _ _ (k0_off24_eq k) _ (fun i c d j hd hj => (tile_entry arg7 arg12 arg13 arg14 arg17 arg18 arg19 arg20 arg21 X7 X12 X13 X14 X17 X18 ⟨k.val, trips_lt k⟩ 3 1 1 (k0_off22 k) (k0_off22_inb k) (k0_off22_eq k) (k0_off23 k) (k0_off23_inb k) (k0_off23_eq k)
    _ _ _ _ _ _ _ (s_pieces3 arg12 arg13 X12 X13 k) (b_pieces3 arg12 arg13 X12 X13 k) (bm_tile3 arg12 arg13 arg20 X12 X13 k) (t_pieces3 arg7 arg12 arg13 arg17 arg18 arg20 X7 X12 X13 X17 X18 k) i c d j hd hj)) x

theorem mem_t3 (𝒱 : Variants) (bd : Option 𝒱.V) (f5 : BufTy.Contents (Elt Ideal) arg5.view.ty) (f19 : BufTy.Contents (Elt Ideal) arg19.view.ty) (f20 : BufTy.Contents (Elt Ideal) arg20.view.ty) (f21 : BufTy.Contents (Elt Ideal) arg21.view.ty) (t : ℕ) (ht : t ≤ k0_t3_loop.trips) (pc : View.Piece (Elt Ideal) S1x2048x512 .bf16) :
    pc ∈ (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X7 X12 X13 X14 X17 X18 f5 f19 f20 f21 t).1 ↔ ∃ k : Fin k0_t3_loop.trips, k.val < t ∧ (
      pc = ⟨Rect.unit (s := S1x2048x512) (k0_off24 k) S1x128x128.size (k0_off24_inb k), out3 arg7 arg12 arg13 arg14 arg17 arg18 arg19 arg20 arg21 X7 X12 X13 X14 X17 X18 k⟩ ∨
      pc = ⟨Rect.unit (s := S1x2048x512) (k0_off21 k) S1x128x128.size (k0_off21_inb k), trip_k0_t3.sl.v5655 arg7 arg12 arg13 arg14 arg17 arg18 arg19 arg20 arg21 X7 X12 X13 X14 X17 X18 k⟩ ∨
      pc = ⟨Rect.unit (s := S1x2048x512) (k0_off18 k) S1x128x128.size (k0_off18_inb k), trip_k0_t3.sl.v4723 arg7 arg12 arg13 arg14 arg17 arg18 arg19 arg20 arg21 X7 X12 X13 X14 X17 X18 k⟩ ∨
      pc = ⟨Rect.unit (s := S1x2048x512) (k0_off15 k) S1x128x128.size (k0_off15_inb k), trip_k0_t3.sl.v3791 arg7 arg12 arg13 arg14 arg17 arg18 arg19 arg20 arg21 X7 X12 X13 X14 X17 X18 k⟩) := by
  induction t with
  | zero => rw [pb_k0_t3.eq_1]; exact ⟨fun h => absurd h List.not_mem_nil, fun ⟨k, hk, _⟩ => absurd hk (Nat.not_lt_zero _)⟩
  | succ t ih =>
    rw [pb_k0_t3_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X7 X12 X13 X14 X17 X18 f5 f19 f20 f21 ⟨t, ht⟩, List.mem_append, tripL_k0_t3_fst, ih (Nat.le_of_succ_le ht)]
    simp only [List.mem_cons, List.not_mem_nil, or_false]
    constructor
    · rintro (h | ⟨k, hk, h⟩)
      · exact ⟨⟨t, ht⟩, Nat.lt_succ_self t, h⟩
      · exact ⟨k, Nat.lt_succ_of_lt hk, h⟩
    · rintro ⟨k, hk, h⟩
      rcases Nat.lt_succ_iff_lt_or_eq.mp hk with hk | hk
      · exact .inr ⟨k, hk, h⟩
      · obtain rfl : k = ⟨t, ht⟩ := Fin.ext hk
        exact .inl h

/-- What the third loop leaves in the output. -/
theorem y_left (𝒱 : Variants) (bd : Option 𝒱.V) (f5 g5 : BufTy.Contents (Elt Ideal) arg5.view.ty) (f19 : BufTy.Contents (Elt Ideal) arg19.view.ty) (f20 : BufTy.Contents (Elt Ideal) arg20.view.ty) (f21 : BufTy.Contents (Elt Ideal) arg21.view.ty) (y : S1x2048x512.Idx) :
    arg5.view.read (Elt Ideal) (arg5.view.writes (Elt Ideal) g5 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X7 X12 X13 X14 X17 X18 f5 f19 f20 f21 k0_t3_loop.trips).1) y
      = yRead arg7 arg12 arg13 arg14 arg17 arg18 X7 X12 X13 X14 X17 X18 y := by
  refine read_writes_of_agree arg5.view g5 (yRead arg7 arg12 arg13 arg14 arg17 arg18 X7 X12 X13 X14 X17 X18) _ y ?_ ?_
  · intro pc hpc x
    obtain ⟨k, -, h⟩ := (mem_t3 arg7 arg12 arg13 arg14 arg17 arg18 arg19 arg20 arg21 X7 X12 X13 X14 X17 X18 c i arg2 harg2 arg3 harg3 arg4 harg4 arg5 harg5 arg6 harg6 harg7 arg8 harg8 arg9 harg9 arg10 harg10 arg11 harg11 harg12 harg13 harg14 arg15 harg15 arg16 harg16 harg17 harg18 harg19 harg20 harg21 𝒱 bd f5 f19 f20 f21 _ le_rfl pc).mp hpc
    rcases h with rfl | rfl | rfl | rfl
    · exact entry3 arg7 arg12 arg13 arg14 arg17 arg18 arg19 arg20 arg21 X7 X12 X13 X14 X17 X18 k x
    · exact entry2 arg7 arg12 arg13 arg14 arg17 arg18 arg19 arg20 arg21 X7 X12 X13 X14 X17 X18 k x
    · exact entry1 arg7 arg12 arg13 arg14 arg17 arg18 arg19 arg20 arg21 X7 X12 X13 X14 X17 X18 k x
    · exact entry0 arg7 arg12 arg13 arg14 arg17 arg18 arg19 arg20 arg21 X7 X12 X13 X14 X17 X18 k x
  · have h1 : (y 1).val < 2048 := (y 1).isLt
    have h0 : (y 0).val < 1 := (y 0).isLt
    have h2 : (y 2).val < 512 := (y 2).isLt
    have hk : (y 1).val / 128 < k0_t3_loop.trips := Nat.lt_of_lt_of_eq (by omega) trips3.symm
    have cov : ∀ (t : Fin 4) (off : Fin 3 → ℕ) (h : ∀ a, off a + S1x128x128.size a ≤ S1x2048x512.size a) (hoff : off = ![0, 128 * ((y 1).val / 128), 128 * t.val]) (ht : (y 2).val / 128 = t.val),
        (Rect.unit (s := S1x2048x512) off S1x128x128.size h).emb (ix3 (0 : Fin 1) (⟨(y 1).val % 128, by omega⟩ : Fin 128) (⟨(y 2).val % 128, by omega⟩ : Fin 128)) = y := by
      intro t off h hoff ht
      subst hoff
      refine funext fun a => Fin.ext ?_
      match a with
      | ⟨0, _⟩ => show 0 + 1 * 0 = (y 0).val; omega
      | ⟨1, _⟩ => show 128 * ((y 1).val / 128) + 1 * ((y 1).val % 128) = (y 1).val; omega
      | ⟨2, _⟩ => show 128 * t.val + 1 * ((y 2).val % 128) = (y 2).val; omega
    rcases (show (y 2).val / 128 = 0 ∨ (y 2).val / 128 = 1 ∨ (y 2).val / 128 = 2 ∨ (y 2).val / 128 = 3 by omega) with e | e | e | e
    · exact ⟨_, (mem_t3 arg7 arg12 arg13 arg14 arg17 arg18 arg19 arg20 arg21 X7 X12 X13 X14 X17 X18 c i arg2 harg2 arg3 harg3 arg4 harg4 arg5 harg5 arg6 harg6 harg7 arg8 harg8 arg9 harg9 arg10 harg10 arg11 harg11 harg12 harg13 harg14 arg15 harg15 arg16 harg16 harg17 harg18 harg19 harg20 harg21 𝒱 bd f5 f19 f20 f21 _ le_rfl _).mpr ⟨⟨(y 1).val / 128, hk⟩, hk, .inr (.inr (.inr rfl))⟩, _, cov 0 _ (k0_off15_inb _) (k0_off15_eq _) e⟩
    · exact ⟨_, (mem_t3 arg7 arg12 arg13 arg14 arg17 arg18 arg19 arg20 arg21 X7 X12 X13 X14 X17 X18 c i arg2 harg2 arg3 harg3 arg4 harg4 arg5 harg5 arg6 harg6 harg7 arg8 harg8 arg9 harg9 arg10 harg10 arg11 harg11 harg12 harg13 harg14 arg15 harg15 arg16 harg16 harg17 harg18 harg19 harg20 harg21 𝒱 bd f5 f19 f20 f21 _ le_rfl _).mpr ⟨⟨(y 1).val / 128, hk⟩, hk, .inr (.inr (.inl rfl))⟩, _, cov 1 _ (k0_off18_inb _) (k0_off18_eq _) e⟩
    · exact ⟨_, (mem_t3 arg7 arg12 arg13 arg14 arg17 arg18 arg19 arg20 arg21 X7 X12 X13 X14 X17 X18 c i arg2 harg2 arg3 harg3 arg4 harg4 arg5 harg5 arg6 harg6 harg7 arg8 harg8 arg9 harg9 arg10 harg10 arg11 harg11 harg12 harg13 harg14 arg15 harg15 arg16 harg16 harg17 harg18 harg19 harg20 harg21 𝒱 bd f5 f19 f20 f21 _ le_rfl _).mpr ⟨⟨(y 1).val / 128, hk⟩, hk, .inr (.inl rfl)⟩, _, cov 2 _ (k0_off21_inb _) (k0_off21_eq _) e⟩
    · exact ⟨_, (mem_t3 arg7 arg12 arg13 arg14 arg17 arg18 arg19 arg20 arg21 X7 X12 X13 X14 X17 X18 c i arg2 harg2 arg3 harg3 arg4 harg4 arg5 harg5 arg6 harg6 harg7 arg8 harg8 arg9 harg9 arg10 harg10 arg11 harg11 harg12 harg13 harg14 arg15 harg15 arg16 harg16 harg17 harg18 harg19 harg20 harg21 𝒱 bd f5 f19 f20 f21 _ le_rfl _).mpr ⟨⟨(y 1).val / 128, hk⟩, hk, .inl rfl⟩, _, cov 3 _ (k0_off24_inb _) (k0_off24_eq _) e⟩

end trip

end Cert.KernelIdeal.Tile
-- ==== Proof.KerBufs.lean ====
module

public import proofs.«01_k».proof.Proof.KerQ
public import Idealize.ShloMosaic.Lib.KernelVsHost

/-! What the kernel's scratch buffers hold when its third loop starts: the keys' codes twice per lane row, the values' codes
transposed, the scales spread along the rows, and the queries' codes with the other head's lanes cleared. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Cert.Scale

/-! ### The keys' codes, each head in both halves of the lanes -/

theorem low_pick {α : Type} (l : Fin 128) (a b : α) :
    (if IntOp.cmpi CmpIPredicate.slt (BitVec.ofNat 32 l.val) 64#32 = 1#1 then a else b) = if l.val < 64 then a else b := by
  show (if BitVec.ofBool ((BitVec.ofNat 32 l.val).slt 64#32) = 1#1 then a else b) = _
  rw [low_lane]
  by_cases h : l.val < 64
  · rw [decide_eq_true h, if_pos (by decide), if_pos h]
  · rw [decide_eq_false h, if_neg (by decide), if_neg h]

noncomputable def lowMask : IVec S1x128 1 := cmpi CmpIPredicate.slt run.sl.v0 run.sl.v1

theorem mask_pick (f g : S128x128.Idx → EReal) (h1 : S1x128.ShapeCasts S1x128) (h2 : S1x128.Broadcasts S128x128) (r l : Fin 128) :
    select (broadcastTo S128x128 (shapeCast S1x128 lowMask h1) h2) f g (ix2 r l) = if l.val < 64 then f (ix2 r l) else g (ix2 r l) := by
  rw [← low_pick]
  pointwise [lowMask, run.sl.v0, run.sl.v1]
  rfl

theorem rot_half (w : S128x128.Idx → EReal) (h : S128x128.Rotates 1 none) (r l : Fin 128) :
    dynamicRotate (1 : Fin 2) 64#32 none w h (ix2 r l) = w (ix2 r (⟨(l.val + 64) % 128, by omega⟩ : Fin 128)) := by
  refine dynamicRotate_apply (s := S128x128) (1 : Fin 2) 64#32 w h (ix2 r l) _ fun b => ?_
  match b with
  | ⟨0, _⟩ => rfl
  | ⟨1, _⟩ =>
    show (l.val + 64) % 128 = if (1 : Fin 2) = 1 then (l.val + 128 - 64 % 128) % 128 else l.val
    rw [if_pos rfl]
    omega

/-- A block's codes with the low head in both halves. -/
noncomputable def dupLo (w : S128x128.Idx → EReal) : S1x128x128.Idx → EReal :=
  shapeCast S1x128x128 (truncf (F := Ideal) .fp8e4m3 (select (broadcastTo S128x128 (shapeCast S1x128 lowMask (by decide)) (by decide)) w
    (dynamicRotate (1 : Fin 2) 64#32 none w (by decide)) : FVec Ideal S128x128 .f32) (by decide)) (by decide)

/-- A block's codes with the high head in both halves. -/
noncomputable def dupHi (w : S128x128.Idx → EReal) : S1x128x128.Idx → EReal :=
  shapeCast S1x128x128 (truncf (F := Ideal) .fp8e4m3 (select (broadcastTo S128x128 (shapeCast S1x128 lowMask (by decide)) (by decide))
    (dynamicRotate (1 : Fin 2) 64#32 none w (by decide)) w : FVec Ideal S128x128 .f32) (by decide)) (by decide)

theorem narrow_piece (w : FVec Ideal S128x128 .f32) (h1 : FTy.fp8e4m3.bits < FTy.f32.bits) (h : S128x128.ShapeCasts S1x128x128) (z : Fin 1) (r l : Fin 128) :
    (shapeCast S1x128x128 (truncf .fp8e4m3 w h1 : FVec Ideal S128x128 .fp8e4m3) h : FVec Ideal S1x128x128 .fp8e4m3) (ix3 z r l) = w (ix2 r l) := by
  obtain rfl := Subsingleton.elim z 0
  pointwise

theorem dupLo_apply (w : S128x128.Idx → EReal) (z : Fin 1) (r l : Fin 128) :
    dupLo w (ix3 z r l) = w (ix2 r (⟨l.val % 64, by omega⟩ : Fin 128)) := by
  refine (narrow_piece _ (by decide) (by decide) z r l).trans ((mask_pick _ _ _ _ r l).trans ?_)
  by_cases h : l.val < 64
  · rw [if_pos h]
    exact congrArg (fun t => w (ix2 r t)) (Fin.ext (by show l.val = l.val % 64; omega))
  · rw [if_neg h, rot_half]
    exact congrArg (fun t => w (ix2 r t)) (Fin.ext (by show (l.val + 64) % 128 = l.val % 64; omega))

theorem dupHi_apply (w : S128x128.Idx → EReal) (z : Fin 1) (r l : Fin 128) :
    dupHi w (ix3 z r l) = w (ix2 r (⟨64 + l.val % 64, by omega⟩ : Fin 128)) := by
  refine (narrow_piece _ (by decide) (by decide) z r l).trans ((mask_pick _ _ _ _ r l).trans ?_)
  by_cases h : l.val < 64
  · rw [if_pos h, rot_half]
    exact congrArg (fun t => w (ix2 r t)) (Fin.ext (by show (l.val + 64) % 128 = 64 + l.val % 64; omega))
  · rw [if_neg h]
    exact congrArg (fun t => w (ix2 r t)) (Fin.ext (by show l.val = 64 + l.val % 64; omega))

theorem dup_inb (v : Fin 2) (n : Fin 16) (a : Fin 3) : (![v.val, n.val * 128, 0] : Fin 3 → ℕ) a + S1x128x128.size a ≤ S2x2048x128.size a := by
  match a with
  | ⟨0, _⟩ => show v.val + 1 ≤ 2; omega
  | ⟨1, _⟩ => show n.val * 128 + 128 ≤ 2048; omega
  | ⟨2, _⟩ => exact Nat.le_refl 128

/-- The codes of block `n` of a key or value block, as the kernel computes them. -/
abbrev blkCode (arg : Memref sig .tc .vmem S1x2048x128 .bf16) (X : BufTy.Contents (Elt Ideal) arg.view.ty) (inv : FVec Ideal S16x128 .f32) (n : Fin 16) : S128x128.Idx → EReal :=
  codeBlk (View.readAt (Elt Ideal) arg.view (Rect.unit (s := S1x2048x128) ![0, n.val * 128, 0] S1x128x128.size (rows_inb n)).toLoadRect X) inv n.val casts_block (slices_row n)

theorem blkCode_apply (arg : Memref sig .tc .vmem S1x2048x128 .bf16) (X : BufTy.Contents (Elt Ideal) arg.view.ty) (inv : FVec Ideal S16x128 .f32)
    (hinv : ∀ (n : Fin 16) (l : Fin 128), inv (ix2 n l) = kinv (bamax (arg.view.read (Elt Ideal) X) n ⟨l.val / 64, by omega⟩)) (n : Fin 16) (r l : Fin 128) :
    blkCode arg X inv n (ix2 r l) = kcode (arg.view.read (Elt Ideal) X) (ix3 (0 : Fin 1) (⟨n.val * 128 + r.val, by omega⟩ : Fin 2048) l) := by
  refine (codeBlk_apply _ _ n _ _ r l).trans ?_
  rw [load_block arg X (n.val * 128) (rows_inb n) r l (by omega), hinv]
  unfold kcode
  refine congrArg (fun t => min _ (max _ (_ * kinv (bamax _ t _)))) (Fin.ext ?_)
  show n.val = (n.val * 128 + r.val) / 128
  omega

/-- The pieces the doubled key codes are written by. -/
noncomputable def dupPieces (w : Fin 16 → S128x128.Idx → EReal) : List (View.Piece (Elt Ideal) S2x2048x128 .fp8e4m3) :=
  ((List.ofFn fun n : Fin 16 => [(⟨Rect.unit (s := S2x2048x128) ![0, n.val * 128, 0] S1x128x128.size (dup_inb 0 n), dupLo (w n)⟩ : View.Piece (Elt Ideal) S2x2048x128 .fp8e4m3),
    ⟨Rect.unit (s := S2x2048x128) ![1, n.val * 128, 0] S1x128x128.size (dup_inb 1 n), dupHi (w n)⟩]).flatten).reverse

theorem mem_dup (w : Fin 16 → S128x128.Idx → EReal) (n : Fin 16) :
    (⟨Rect.unit (s := S2x2048x128) ![0, n.val * 128, 0] S1x128x128.size (dup_inb 0 n), dupLo (w n)⟩ : View.Piece (Elt Ideal) S2x2048x128 .fp8e4m3) ∈ dupPieces w
      ∧ (⟨Rect.unit (s := S2x2048x128) ![1, n.val * 128, 0] S1x128x128.size (dup_inb 1 n), dupHi (w n)⟩ : View.Piece (Elt Ideal) S2x2048x128 .fp8e4m3) ∈ dupPieces w := by
  have h := List.mem_ofFn (f := fun n : Fin 16 => [(⟨Rect.unit (s := S2x2048x128) ![0, n.val * 128, 0] S1x128x128.size (dup_inb 0 n), dupLo (w n)⟩ : View.Piece (Elt Ideal) S2x2048x128 .fp8e4m3),
    ⟨Rect.unit (s := S2x2048x128) ![1, n.val * 128, 0] S1x128x128.size (dup_inb 1 n), dupHi (w n)⟩]) |>.mpr ⟨n, rfl⟩
  exact ⟨List.mem_reverse.mpr (List.mem_flatten.mpr ⟨_, h, .head _⟩), List.mem_reverse.mpr (List.mem_flatten.mpr ⟨_, h, .tail _ (.head _)⟩)⟩

section
variable (arg3 : Memref sig .tc .vmem S1x2048x128 .bf16) (X3 : BufTy.Contents (Elt Ideal) arg3.view.ty) (arg4 : Memref sig .tc .vmem S1x2048x128 .bf16) (X4 : BufTy.Contents (Elt Ideal) arg4.view.ty)
  (arg13 : Memref sig .tc .vmem S2x2048x128 .fp8e4m3) (arg14 : Memref sig .tc .vmem S128x2048 .fp8e4m3) (arg17 arg18 : Memref sig .tc .vmem S2x16x256 .f32)

theorem dup_pieces : run.sl.H13_32 arg3 X3 = dupPieces (blkCode arg3 X3 (run.sl.v398 arg3 X3)) := rfl

/-- The doubled key codes. -/
theorem kdup_left (G13 : BufTy.Contents (Elt Ideal) arg13.view.ty) (v : Fin 2) (s : Fin 2048) (l : Fin 128) :
    arg13.view.read (Elt Ideal) (arg13.view.writes (Elt Ideal) G13 (run.sl.H13_32 arg3 X3)) (ix3 v s l)
      = kcode (arg3.view.read (Elt Ideal) X3) (ix3 (0 : Fin 1) s (⟨64 * v.val + l.val % 64, by omega⟩ : Fin 128)) := by
  rw [dup_pieces]
  have hinv : ∀ (n : Fin 16) (l : Fin 128), run.sl.v398 arg3 X3 (ix2 n l) = kinv (bamax (arg3.view.read (Elt Ideal) X3) n ⟨l.val / 64, by omega⟩) := fun n l => by rw [k_inv, invV_apply, k_pick]
  refine read_writes_of_agree arg13.view G13 (fun y : S2x2048x128.Idx => kcode (arg3.view.read (Elt Ideal) X3) (ix3 (0 : Fin 1) (y 1) (⟨64 * (y 0).val + (y 2).val % 64, by have : (y 0).val < 2 := (y 0).isLt; omega⟩ : Fin 128))) _ (ix3 v s l) ?_ ?_
  · intro pc hpc x
    obtain ⟨L, hL, h⟩ := List.mem_flatten.mp (List.mem_reverse.mp hpc)
    obtain ⟨n, rfl⟩ := List.mem_ofFn.mp hL
    simp only [List.mem_cons, List.not_mem_nil, or_false] at h
    rcases h with rfl | rfl
    · obtain ⟨z, r, j, rfl⟩ : ∃ (z : Fin 1) (r j : Fin 128), x = ix3 z r j := ⟨x 0, x 1, x 2, funext fun a => by match a with | ⟨0, _⟩ => rfl | ⟨1, _⟩ => rfl | ⟨2, _⟩ => rfl⟩
      refine (dupLo_apply _ z r j).trans ((blkCode_apply arg3 X3 _ hinv n r _).trans ?_)
      refine congrArg₂ (fun a b => kcode (arg3.view.read (Elt Ideal) X3) (ix3 (0 : Fin 1) a b)) (Fin.ext ?_) (Fin.ext ?_)
      · show n.val * 128 + r.val = n.val * 128 + 1 * r.val; omega
      · show j.val % 64 = 64 * (0 + 1 * z.val) + (0 + 1 * j.val) % 64; omega
    · obtain ⟨z, r, j, rfl⟩ : ∃ (z : Fin 1) (r j : Fin 128), x = ix3 z r j := ⟨x 0, x 1, x 2, funext fun a => by match a with | ⟨0, _⟩ => rfl | ⟨1, _⟩ => rfl | ⟨2, _⟩ => rfl⟩
      refine (dupHi_apply _ z r j).trans ((blkCode_apply arg3 X3 _ hinv n r _).trans ?_)
      refine congrArg₂ (fun a b => kcode (arg3.view.read (Elt Ideal) X3) (ix3 (0 : Fin 1) a b)) (Fin.ext ?_) (Fin.ext ?_)
      · show n.val * 128 + r.val = n.val * 128 + 1 * r.val; omega
      · show 64 + j.val % 64 = 64 * (1 + 1 * z.val) + (0 + 1 * j.val) % 64; omega
  · have cov : ∀ (u : ℕ) (hu : u = v.val) (h : ∀ a, (![u, s.val / 128 * 128, 0] : Fin 3 → ℕ) a + S1x128x128.size a ≤ S2x2048x128.size a), (Rect.unit (s := S2x2048x128) ![u, s.val / 128 * 128, 0] S1x128x128.size h).emb (ix3 (0 : Fin 1) (⟨s.val % 128, by omega⟩ : Fin 128) l) = ix3 v s l := by
      intro u hu h
      refine funext fun a => Fin.ext ?_
      match a with
      | ⟨0, _⟩ => show u + 1 * 0 = v.val; omega
      | ⟨1, _⟩ => show s.val / 128 * 128 + 1 * (s.val % 128) = s.val; omega
      | ⟨2, _⟩ => show 0 + 1 * l.val = l.val; omega
    rcases (show v.val = 0 ∨ v.val = 1 by omega) with e | e
    · exact ⟨_, (mem_dup _ ⟨s.val / 128, by omega⟩).1, _, cov 0 e.symm (dup_inb 0 ⟨s.val / 128, by omega⟩)⟩
    · exact ⟨_, (mem_dup _ ⟨s.val / 128, by omega⟩).2, _, cov 1 e.symm (dup_inb 1 ⟨s.val / 128, by omega⟩)⟩

/-! ### The values' codes, transposed -/

noncomputable def turnV (w : S128x128.Idx → EReal) : S128x128.Idx → EReal :=
  shapeCast S128x128 (truncf (F := Ideal) .fp8e4m3 (transpose S128x128 [1, 0] w (by decide) : FVec Ideal S128x128 .f32) (by decide)) (by decide)

theorem turnV_apply (w : S128x128.Idx → EReal) (r l : Fin 128) : turnV w (ix2 r l) = w (ix2 l r) := by
  pointwise [turnV]

theorem turn_inb (n : Fin 16) (a : Fin 2) : (![0, n.val * 128] : Fin 2 → ℕ) a + S128x128.size a ≤ S128x2048.size a := by
  match a with
  | ⟨0, _⟩ => exact Nat.le_refl 128
  | ⟨1, _⟩ => show n.val * 128 + 128 ≤ 2048; omega

noncomputable def turnPieces (w : Fin 16 → S128x128.Idx → EReal) : List (View.Piece (Elt Ideal) S128x2048 .fp8e4m3) :=
  (List.ofFn fun n : Fin 16 => ⟨Rect.unit (s := S128x2048) ![0, n.val * 128] S128x128.size (turn_inb n), turnV (w n)⟩).reverse

theorem turn_pieces : run.sl.H14_16 arg4 X4 = turnPieces (blkCode arg4 X4 (run.sl.v810 arg4 X4)) := rfl

/-- The transposed value codes. -/
theorem vt_left (G14 : BufTy.Contents (Elt Ideal) arg14.view.ty) (d : Fin 128) (s : Fin 2048) :
    arg14.view.read (Elt Ideal) (arg14.view.writes (Elt Ideal) G14 (run.sl.H14_16 arg4 X4)) (ix2 d s)
      = kcode (arg4.view.read (Elt Ideal) X4) (ix3 (0 : Fin 1) s d) := by
  rw [turn_pieces]
  have hinv : ∀ (n : Fin 16) (l : Fin 128), run.sl.v810 arg4 X4 (ix2 n l) = kinv (bamax (arg4.view.read (Elt Ideal) X4) n ⟨l.val / 64, by omega⟩) := fun n l => by rw [v_inv, invV_apply, v_pick]
  refine read_writes_of_agree arg14.view G14 (fun y : S128x2048.Idx => kcode (arg4.view.read (Elt Ideal) X4) (ix3 (0 : Fin 1) (y 1) (y 0))) _ (ix2 d s) ?_ ?_
  · intro pc hpc x
    obtain ⟨n, rfl⟩ := List.mem_ofFn.mp (List.mem_reverse.mp hpc)
    obtain ⟨r, j, rfl⟩ : ∃ (r j : Fin 128), x = ix2 r j := ⟨x 0, x 1, funext fun a => by match a with | ⟨0, _⟩ => rfl | ⟨1, _⟩ => rfl⟩
    refine (turnV_apply _ r j).trans ((blkCode_apply arg4 X4 _ hinv n j r).trans ?_)
    refine congrArg₂ (fun a b => kcode (arg4.view.read (Elt Ideal) X4) (ix3 (0 : Fin 1) a b)) (Fin.ext ?_) (Fin.ext ?_)
    · show n.val * 128 + j.val = n.val * 128 + 1 * j.val; omega
    · show r.val = 0 + 1 * r.val; omega
  · refine ⟨_, List.mem_reverse.mpr (List.mem_ofFn.mpr ⟨⟨s.val / 128, by omega⟩, rfl⟩), ix2 d (⟨s.val % 128, by omega⟩ : Fin 128), ?_⟩
    refine funext fun a => Fin.ext ?_
    match a with
    | ⟨0, _⟩ => show 0 + 1 * d.val = d.val; omega
    | ⟨1, _⟩ => show s.val / 128 * 128 + 1 * (s.val % 128) = s.val; omega

/-! ### The keys' and the values' scales, spread along the rows -/

noncomputable def wideV (a : FVec Ideal S16x1 .f32) : S1x16x256.Idx → EReal :=
  shapeCast S1x16x256 (bitcastToFloat (F := Ideal) .f32 (shli (addi (broadcastTo S16x256 (shapeCast S16x1 (expoV a) (by decide)) (by decide)) (broadcast S16x256 127#32)) (broadcast S16x256 23#32))) (by decide)

theorem wideV_apply (a : FVec Ideal S16x1 .f32) (z : Fin 1) (n : Fin 16) (j : Fin 256) : wideV a (ix3 z n j) = kscale (a (ix2 n (0 : Fin 1))) := by
  obtain rfl := Subsingleton.elim z 0
  rw [← scaleV_apply]
  unfold wideV scaleV
  generalize expoV a = e
  pointwise

theorem wide_inb (v : Fin 2) (a : Fin 3) : (![v.val, 0, 0] : Fin 3 → ℕ) a + S1x16x256.size a ≤ S2x16x256.size a := by
  match a with
  | ⟨0, _⟩ => show v.val + 1 ≤ 2; omega
  | ⟨1, _⟩ => exact Nat.le_refl 16
  | ⟨2, _⟩ => exact Nat.le_refl 256

noncomputable def widePieces (a b : FVec Ideal S16x1 .f32) : List (View.Piece (Elt Ideal) S2x16x256 .f32) :=
  [⟨Rect.unit (s := S2x16x256) ![1, 0, 0] S1x16x256.size (wide_inb 1), wideV b⟩, ⟨Rect.unit (s := S2x16x256) ![0, 0, 0] S1x16x256.size (wide_inb 0), wideV a⟩]

theorem ks_wide : run.sl.H17_2 arg3 X3 = widePieces (loV (run.sl.v99 arg3 X3)) (hiV (run.sl.v99 arg3 X3)) := rfl

theorem vs_wide : run.sl.H18_2 arg4 X4 = widePieces (loV (run.sl.v511 arg4 X4)) (hiV (run.sl.v511 arg4 X4)) := rfl

/-- The spread scales. -/
theorem wide_left (arg17 : Memref sig .tc .vmem S2x16x256 .f32) (G17 : BufTy.Contents (Elt Ideal) arg17.view.ty) (x : FVec Ideal S1x2048x128 .bf16) (A : FVec Ideal S16x128 .f32)
    (hA : ∀ (n : Fin 16) (l : Fin 128), A (ix2 n l) = Finset.univ.sup fun r : Fin 128 => mag (x (ix3 (0 : Fin 1) (⟨n.val * 128 + r.val, by omega⟩ : Fin 2048) l)))
    (v : Fin 2) (n : Fin 16) (j : Fin 256) :
    arg17.view.read (Elt Ideal) (arg17.view.writes (Elt Ideal) G17 (widePieces (loV A) (hiV A))) (ix3 v n j) = kscale (bamax x n v) := by
  have h0 : ∀ i, 0 ≤ A i := by
    intro i
    obtain ⟨a, b, rfl⟩ : ∃ a b, i = ix2 a b := ⟨i 0, i 1, funext fun a => by match a with | ⟨0, _⟩ => rfl | ⟨1, _⟩ => rfl⟩
    rw [hA]
    exact le_trans (mag_nonneg _) (Finset.le_sup (f := fun r : Fin 128 => mag (x (ix3 (0 : Fin 1) (⟨a.val * 128 + r.val, by omega⟩ : Fin 2048) b))) (Finset.mem_univ (0 : Fin 128)))
  have hlo : ∀ n, loV A (ix2 n (0 : Fin 1)) = bamax x n 0 := fun n => (loV_apply A h0 n).trans (congrArg (Finset.sup _) (funext fun d => (hA n _).trans
    (congrArg (Finset.sup _) (funext fun r => congrArg (fun l => mag (x (ix3 (0 : Fin 1) (⟨n.val * 128 + r.val, by omega⟩ : Fin 2048) l))) (Fin.ext (by show d.val = 0 * 64 + d.val; omega))))))
  have hhi : ∀ n, hiV A (ix2 n (0 : Fin 1)) = bamax x n 1 := fun n => (hiV_apply A h0 n).trans (congrArg (Finset.sup _) (funext fun d => (hA n _).trans
    (congrArg (Finset.sup _) (funext fun r => congrArg (fun l => mag (x (ix3 (0 : Fin 1) (⟨n.val * 128 + r.val, by omega⟩ : Fin 2048) l))) (Fin.ext (by show 64 + d.val = 1 * 64 + d.val; omega))))))
  refine read_writes_of_agree arg17.view G17 (fun y : S2x16x256.Idx => kscale (bamax x (y 1) (y 0))) _ (ix3 v n j) ?_ ?_
  · have key : ∀ (u : Fin 2) (w : FVec Ideal S16x1 .f32) (hw : ∀ n, w (ix2 n (0 : Fin 1)) = bamax x n u) (h) (y : S1x16x256.Idx),
        wideV w y = (fun y : S2x16x256.Idx => kscale (bamax x (y 1) (y 0))) ((Rect.unit (s := S2x16x256) ![u.val, 0, 0] S1x16x256.size h).emb y) := by
      intro u w hw h y
      obtain ⟨z, a, b, rfl⟩ : ∃ (z : Fin 1) (a : Fin 16) (b : Fin 256), y = ix3 z a b := ⟨y 0, y 1, y 2, funext fun a => by match a with | ⟨0, _⟩ => rfl | ⟨1, _⟩ => rfl | ⟨2, _⟩ => rfl⟩
      rw [wideV_apply, hw]
      refine congrArg₂ (fun p q => kscale (bamax x p q)) (Fin.ext ?_) (Fin.ext ?_)
      · show a.val = 0 + 1 * a.val; omega
      · show u.val = u.val + 1 * z.val; omega
    intro pc hpc y
    simp only [widePieces, List.mem_cons, List.not_mem_nil, or_false] at hpc
    rcases hpc with rfl | rfl
    · exact key 1 _ hhi (wide_inb 1) y
    · exact key 0 _ hlo (wide_inb 0) y
  · have cov : ∀ (u : ℕ) (hu : u = v.val) (h : ∀ a, (![u, 0, 0] : Fin 3 → ℕ) a + S1x16x256.size a ≤ S2x16x256.size a), (Rect.unit (s := S2x16x256) ![u, 0, 0] S1x16x256.size h).emb (ix3 (0 : Fin 1) n j) = ix3 v n j := by
      intro u hu h
      refine funext fun a => Fin.ext ?_
      match a with
      | ⟨0, _⟩ => show u + 1 * 0 = v.val; omega
      | ⟨1, _⟩ => show 0 + 1 * n.val = n.val; omega
      | ⟨2, _⟩ => show 0 + 1 * j.val = j.val; omega
    rcases (show v.val = 0 ∨ v.val = 1 by omega) with e | e
    · exact ⟨_, .tail _ (.head _), _, cov 0 e.symm (wide_inb 0)⟩
    · exact ⟨_, .head _, _, cov 1 e.symm (wide_inb 1)⟩

end

/-! ### The queries' codes, the other head's lanes cleared -/

/-- A pair of heads' codes with the high head cleared. -/
noncomputable def qmLo (q : FVec Ideal S128x512 .f32) (o : ℕ) (h : S128x512.Slices ![0, o] S128x128) : S1x1x128x128.Idx → EReal :=
  shapeCast S1x1x128x128 (truncf (F := Ideal) .fp8e4m3 (select (broadcastTo S128x128 (shapeCast S1x128 lowMask (by decide)) (by decide))
    (extractStridedSlice S128x128 ![0, o] q h) (broadcast S128x128 (Ideal.ofBits .f32 0#32)) : FVec Ideal S128x128 .f32) (by decide)) (by decide)

/-- A pair of heads' codes with the low head cleared. -/
noncomputable def qmHi (q : FVec Ideal S128x512 .f32) (o : ℕ) (h : S128x512.Slices ![0, o] S128x128) : S1x1x128x128.Idx → EReal :=
  shapeCast S1x1x128x128 (truncf (F := Ideal) .fp8e4m3 (select (broadcastTo S128x128 (shapeCast S1x128 lowMask (by decide)) (by decide))
    (broadcast S128x128 (Ideal.ofBits .f32 0#32)) (extractStridedSlice S128x128 ![0, o] q h) : FVec Ideal S128x128 .f32) (by decide)) (by decide)

theorem narrow_piece4 (w : FVec Ideal S128x128 .f32) (h1 : FTy.fp8e4m3.bits < FTy.f32.bits) (h : S128x128.ShapeCasts S1x1x128x128) (z z' : Fin 1) (r l : Fin 128) :
    (shapeCast S1x1x128x128 (truncf .fp8e4m3 w h1 : FVec Ideal S128x128 .fp8e4m3) h : FVec Ideal S1x1x128x128 .fp8e4m3) (ix4 z z' r l) = w (ix2 r l) := by
  obtain rfl := Subsingleton.elim z 0
  obtain rfl := Subsingleton.elim z' 0
  pointwise

theorem slice_apply (q : FVec Ideal S128x512 .f32) (t : Fin 4) (o : ℕ) (ho : o = t.val * 128) (h : S128x512.Slices ![0, o] S128x128) (r l : Fin 128) :
    extractStridedSlice S128x128 ![0, o] q h (ix2 r l) = q (ix2 r (⟨t.val * 128 + l.val, by omega⟩ : Fin 512)) := by
  subst ho
  refine congrArg q (funext fun a => Fin.ext ?_)
  match a with
  | ⟨0, _⟩ => exact Nat.zero_add _
  | ⟨1, _⟩ => rfl

theorem qmLo_apply (q : FVec Ideal S128x512 .f32) (t : Fin 4) (o : ℕ) (ho : o = t.val * 128) (h : S128x512.Slices ![0, o] S128x128) (z z' : Fin 1) (r l : Fin 128) :
    qmLo q o h (ix4 z z' r l) = if l.val < 64 then q (ix2 r (⟨t.val * 128 + l.val, by omega⟩ : Fin 512)) else 0 := by
  refine (narrow_piece4 _ (by decide) (by decide) z z' r l).trans ((mask_pick _ _ _ _ r l).trans ?_)
  rw [slice_apply q t o ho h, ← zero_f32]
  rfl

theorem qmHi_apply (q : FVec Ideal S128x512 .f32) (t : Fin 4) (o : ℕ) (ho : o = t.val * 128) (h : S128x512.Slices ![0, o] S128x128) (z z' : Fin 1) (r l : Fin 128) :
    qmHi q o h (ix4 z z' r l) = if l.val < 64 then 0 else q (ix2 r (⟨t.val * 128 + l.val, by omega⟩ : Fin 512)) := by
  refine (narrow_piece4 _ (by decide) (by decide) z z' r l).trans ((mask_pick _ _ _ _ r l).trans ?_)
  rw [slice_apply q t o ho h, ← zero_f32]
  rfl

section
variable (c : Dev nD) (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S1x2048x512 .fp8e4m3) (harg6 : arg6.IsWhole) (arg7 : Memref sig .tc .vmem S1x1x16x1024 .f32) (harg7 : arg7.IsWhole) (arg8 : Memref sig .tc .vmem S1x2048x128 .fp8e4m3) (harg8 : arg8.IsWhole) (arg9 : Memref sig .tc .vmem S1x1x16x128 .f32) (harg9 : arg9.IsWhole) (arg10 : Memref sig .tc .vmem S1x2048x128 .fp8e4m3) (harg10 : arg10.IsWhole) (arg11 : Memref sig .tc .vmem S1x1x16x128 .f32) (harg11 : arg11.IsWhole) (arg12 : Memref sig .tc .vmem S16x4x256x128 .fp8e4m3) (harg12 : arg12.IsWhole) (arg13 : Memref sig .tc .vmem S2x2048x128 .fp8e4m3) (harg13 : arg13.IsWhole) (arg14 : Memref sig .tc .vmem S128x2048 .fp8e4m3) (harg14 : arg14.IsWhole) (arg15 : Memref sig .tc .vmem S16x512 .f32) (harg15 : arg15.IsWhole) (arg16 : Memref sig .tc .vmem S16x512 .f32) (harg16 : arg16.IsWhole) (arg17 : Memref sig .tc .vmem S2x16x256 .f32) (harg17 : arg17.IsWhole) (arg18 : Memref sig .tc .vmem S2x16x256 .f32) (harg18 : arg18.IsWhole) (arg19 : Memref sig .tc .vmem S2x2048x256 .f32) (harg19 : arg19.IsWhole) (arg20 : Memref sig .tc .vmem S2x2x128x128 .f32) (harg20 : arg20.IsWhole) (arg21 : Memref sig .tc .vmem S2x4x16x256 .f32) (harg21 : arg21.IsWhole)
variable (X2 : BufTy.Contents (Elt Ideal) arg2.view.ty) (X16 : BufTy.Contents (Elt Ideal) arg16.view.ty)

noncomputable def qmPieces (q : FVec Ideal S128x512 .f32) (k : Fin k0_t2_loop.trips) : List (View.Piece (Elt Ideal) S16x4x256x128 .fp8e4m3) :=
  [⟨Rect.unit (s := S16x4x256x128) (k0_off12 k) S1x1x128x128.size (k0_off12_inb k), qmHi q 384 (by decide)⟩,
   ⟨Rect.unit (s := S16x4x256x128) (k0_off11 k) S1x1x128x128.size (k0_off11_inb k), qmLo q 384 (by decide)⟩,
   ⟨Rect.unit (s := S16x4x256x128) (k0_off10 k) S1x1x128x128.size (k0_off10_inb k), qmHi q 256 (by decide)⟩,
   ⟨Rect.unit (s := S16x4x256x128) (k0_off9 k) S1x1x128x128.size (k0_off9_inb k), qmLo q 256 (by decide)⟩,
   ⟨Rect.unit (s := S16x4x256x128) (k0_off8 k) S1x1x128x128.size (k0_off8_inb k), qmHi q 128 (by decide)⟩,
   ⟨Rect.unit (s := S16x4x256x128) (k0_off7 k) S1x1x128x128.size (k0_off7_inb k), qmLo q 128 (by decide)⟩,
   ⟨Rect.unit (s := S16x4x256x128) (k0_off6 k) S1x1x128x128.size (k0_off6_inb k), qmHi q 0 (by decide)⟩,
   ⟨Rect.unit (s := S16x4x256x128) (k0_off5 k) S1x1x128x128.size (k0_off5_inb k), qmLo q 0 (by decide)⟩]

theorem tripL_k0_t2_snd (𝒱 : Variants) (bd : Option 𝒱.V) (k : Fin k0_t2_loop.trips) :
    (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 lowMask X2 X16 k).2 = qmPieces (qtrip arg2 arg16 X2 X16 k) k := by
  unfold tripL_k0_t2 trip_k0_t2
  rfl

theorem mem_qm (𝒱 : Variants) (bd : Option 𝒱.V) (t : ℕ) (ht : t ≤ k0_t2_loop.trips) (pc : View.Piece (Elt Ideal) S16x4x256x128 .fp8e4m3) :
    pc ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 lowMask X2 X16 t).2 ↔ ∃ k : Fin k0_t2_loop.trips, k.val < t ∧ pc ∈ qmPieces (qtrip arg2 arg16 X2 X16 k) k := by
  induction t with
  | zero => rw [pb_k0_t2.eq_1]; exact ⟨fun h => absurd h List.not_mem_nil, fun ⟨k, hk, _⟩ => absurd hk (Nat.not_lt_zero _)⟩
  | succ t ih =>
    rw [pb_k0_t2_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 lowMask X2 X16 ⟨t, ht⟩, List.mem_append, tripL_k0_t2_snd, ih (Nat.le_of_succ_le ht)]
    constructor
    · rintro (h | ⟨k, hk, h⟩)
      · exact ⟨⟨t, ht⟩, Nat.lt_succ_self t, h⟩
      · exact ⟨k, Nat.lt_succ_of_lt hk, h⟩
    · rintro ⟨k, hk, h⟩
      rcases Nat.lt_succ_iff_lt_or_eq.mp hk with hk | hk
      · exact .inr ⟨k, hk, h⟩
      · obtain rfl : k = ⟨t, ht⟩ := Fin.ext hk
        exact .inl h

/-- The queries' codes by pair of heads: the first 128 rows of a pair's 256 hold its low head's lanes, the rest its high head's. -/
def qmask (x : FVec Ideal S1x2048x512 .bf16) (y : S16x4x256x128.Idx) : EReal :=
  if (y 3).val / 64 = (y 2).val / 128 then
    qcode x (ix3 (0 : Fin 1) (⟨(y 0).val * 128 + (y 2).val % 128, by have : (y 0).val < 16 := (y 0).isLt; omega⟩ : Fin 2048)
      (⟨(y 1).val * 128 + (y 3).val, by have : (y 1).val < 4 := (y 1).isLt; have : (y 3).val < 128 := (y 3).isLt; omega⟩ : Fin 512))
  else 0

theorem qm_piece (hinv : ∀ (n : Fin 16) (l : Fin 512), arg16.view.read (Elt Ideal) X16 (ix2 n l) = kinv (qamax (arg2.view.read (Elt Ideal) X2) n ⟨l.val / 64, by omega⟩))
    (k : Fin k0_t2_loop.trips) (t : Fin 4) (half : Fin 2) (off : Fin 4 → ℕ) (hoff : off = ![k.val, t.val, half.val * 128, 0]) (h : ∀ a, off a + S1x1x128x128.size a ≤ S16x4x256x128.size a)
    (w : S1x1x128x128.Idx → EReal) (hw : ∀ (z z' : Fin 1) (r l : Fin 128), w (ix4 z z' r l) = if l.val / 64 = half.val then qtrip arg2 arg16 X2 X16 k (ix2 r (⟨t.val * 128 + l.val, by omega⟩ : Fin 512)) else 0)
    (x : S1x1x128x128.Idx) : w x = qmask (arg2.view.read (Elt Ideal) X2) ((Rect.unit (s := S16x4x256x128) off S1x1x128x128.size h).emb x) := by
  subst hoff
  have hk : k.val < 16 := Nat.lt_of_lt_of_le k.isLt k0_t2_abs.2.1
  obtain ⟨z, z', r, l, rfl⟩ : ∃ (z z' : Fin 1) (r l : Fin 128), x = ix4 z z' r l := ⟨x 0, x 1, x 2, x 3, funext fun a => by match a with | ⟨0, _⟩ => rfl | ⟨1, _⟩ => rfl | ⟨2, _⟩ => rfl | ⟨3, _⟩ => rfl⟩
  have hidx : (Rect.unit (s := S16x4x256x128) ![k.val, t.val, half.val * 128, 0] S1x1x128x128.size h).emb (ix4 z z' r l) = ix4 (⟨k.val, hk⟩ : Fin 16) t (⟨half.val * 128 + r.val, by omega⟩ : Fin 256) l := by
    refine funext fun a => Fin.ext ?_
    match a with
    | ⟨0, _⟩ => show k.val + 1 * z.val = k.val; omega
    | ⟨1, _⟩ => show t.val + 1 * z'.val = t.val; omega
    | ⟨2, _⟩ => show half.val * 128 + 1 * r.val = half.val * 128 + r.val; omega
    | ⟨3, _⟩ => show 0 + 1 * l.val = l.val; omega
  rw [hidx, hw, qtrip_apply arg2 arg16 X2 X16 hinv k r _ hk]
  show _ = if l.val / 64 = (half.val * 128 + r.val) / 128 then _ else _
  rw [show (half.val * 128 + r.val) / 128 = half.val by omega]
  by_cases e : l.val / 64 = half.val
  · rw [if_pos e, if_pos e]
    refine congrArg (fun a => qcode (arg2.view.read (Elt Ideal) X2) (ix3 (0 : Fin 1) a _)) (Fin.ext ?_)
    show k.val * 128 + r.val = k.val * 128 + (half.val * 128 + r.val) % 128
    omega
  · rw [if_neg e, if_neg e]

theorem lo_if {l : Fin 128} (a : EReal) : (if l.val < 64 then a else 0) = if l.val / 64 = (0 : Fin 2).val then a else 0 :=
  if_congr (by show l.val < 64 ↔ l.val / 64 = 0; omega) rfl rfl

theorem hi_if {l : Fin 128} (a : EReal) : (if l.val < 64 then 0 else a) = if l.val / 64 = (1 : Fin 2).val then a else 0 := by
  by_cases h : l.val < 64
  · exact (if_pos h).trans (if_neg (show ¬ l.val / 64 = (1 : Fin 2).val by show ¬ l.val / 64 = 1; omega)).symm
  · exact (if_neg h).trans (if_pos (show l.val / 64 = (1 : Fin 2).val by show l.val / 64 = 1; omega)).symm

/-- The queries' codes by pair of heads, after the second loop. -/
theorem qm_left (𝒱 : Variants) (bd : Option 𝒱.V) (hinv : ∀ (n : Fin 16) (l : Fin 512), arg16.view.read (Elt Ideal) X16 (ix2 n l) = kinv (qamax (arg2.view.read (Elt Ideal) X2) n ⟨l.val / 64, by omega⟩))
    (G12 : BufTy.Contents (Elt Ideal) arg12.view.ty) (y : S16x4x256x128.Idx) :
    arg12.view.read (Elt Ideal) (arg12.view.writes (Elt Ideal) G12 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 lowMask X2 X16 (Scf.trips k0_t2_loop.lb k0_t2_loop.ub k0_t2_loop.st)).2) y = qmask (arg2.view.read (Elt Ideal) X2) y := by
  refine read_writes_of_agree arg12.view G12 (qmask (arg2.view.read (Elt Ideal) X2)) _ y ?_ ?_
  · intro pc hpc x
    obtain ⟨k, -, h⟩ := (mem_qm c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X16 𝒱 bd _ (Nat.le_refl _) pc).mp hpc
    simp only [qmPieces, List.mem_cons, List.not_mem_nil, or_false] at h
    rcases h with rfl | rfl | rfl | rfl | rfl | rfl | rfl | rfl
    · exact qm_piece arg2 arg16 X2 X16 hinv k 3 1 _ (k0_off12_eq k) (k0_off12_inb k) _ (fun z z' r l => (qmHi_apply _ 3 _ rfl (by decide) z z' r l).trans (hi_if _)) x
    · exact qm_piece arg2 arg16 X2 X16 hinv k 3 0 _ (k0_off11_eq k) (k0_off11_inb k) _ (fun z z' r l => (qmLo_apply _ 3 _ rfl (by decide) z z' r l).trans (lo_if _)) x
    · exact qm_piece arg2 arg16 X2 X16 hinv k 2 1 _ (k0_off10_eq k) (k0_off10_inb k) _ (fun z z' r l => (qmHi_apply _ 2 _ rfl (by decide) z z' r l).trans (hi_if _)) x
    · exact qm_piece arg2 arg16 X2 X16 hinv k 2 0 _ (k0_off9_eq k) (k0_off9_inb k) _ (fun z z' r l => (qmLo_apply _ 2 _ rfl (by decide) z z' r l).trans (lo_if _)) x
    · exact qm_piece arg2 arg16 X2 X16 hinv k 1 1 _ (k0_off8_eq k) (k0_off8_inb k) _ (fun z z' r l => (qmHi_apply _ 1 _ rfl (by decide) z z' r l).trans (hi_if _)) x
    · exact qm_piece arg2 arg16 X2 X16 hinv k 1 0 _ (k0_off7_eq k) (k0_off7_inb k) _ (fun z z' r l => (qmLo_apply _ 1 _ rfl (by decide) z z' r l).trans (lo_if _)) x
    · exact qm_piece arg2 arg16 X2 X16 hinv k 0 1 _ (k0_off6_eq k) (k0_off6_inb k) _ (fun z z' r l => (qmHi_apply _ 0 _ rfl (by decide) z z' r l).trans (hi_if _)) x
    · exact qm_piece arg2 arg16 X2 X16 hinv k 0 0 _ (k0_off5_eq k) (k0_off5_inb k) _ (fun z z' r l => (qmLo_apply _ 0 _ rfl (by decide) z z' r l).trans (lo_if _)) x
  · have h0 : (y 0).val < 16 := (y 0).isLt
    have h1 : (y 1).val < 4 := (y 1).isLt
    have h2 : (y 2).val < 256 := (y 2).isLt
    have hk : (y 0).val < k0_t2_loop.trips := Nat.lt_of_lt_of_eq h0 trips2.symm
    have cov : ∀ (t : Fin 4) (half : Fin 2) (off : Fin 4 → ℕ) (h : ∀ a, off a + S1x1x128x128.size a ≤ S16x4x256x128.size a) (hoff : off = ![(y 0).val, t.val, half.val * 128, 0])
        (ht : (y 1).val = t.val) (hh : (y 2).val / 128 = half.val), (Rect.unit (s := S16x4x256x128) off S1x1x128x128.size h).emb (ix4 (0 : Fin 1) (0 : Fin 1) (⟨(y 2).val % 128, by omega⟩ : Fin 128) (y 3)) = y := by
      intro t half off h hoff ht hh
      subst hoff
      refine funext fun a => Fin.ext ?_
      match a with
      | ⟨0, _⟩ => show (y 0).val + 1 * 0 = (y 0).val; omega
      | ⟨1, _⟩ => show t.val + 1 * 0 = (y 1).val; omega
      | ⟨2, _⟩ => show half.val * 128 + 1 * ((y 2).val % 128) = (y 2).val; omega
      | ⟨3, _⟩ => show 0 + 1 * (y 3).val = (y 3).val; omega
    have mem := fun pc h => (mem_qm c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X16 𝒱 bd _ (Nat.le_refl _) pc).mpr ⟨⟨(y 0).val, hk⟩, hk, h⟩
    rcases (show (y 2).val / 128 = 0 ∨ (y 2).val / 128 = 1 by omega) with f | f <;>
      rcases (show (y 1).val = 0 ∨ (y 1).val = 1 ∨ (y 1).val = 2 ∨ (y 1).val = 3 by omega) with e | e | e | e
    · exact ⟨_, mem _ (.tail _ (.tail _ (.tail _ (.tail _ (.tail _ (.tail _ (.tail _ (.head _)))))))), _, cov 0 0 _ (k0_off5_inb _) (k0_off5_eq _) e f⟩
    · exact ⟨_, mem _ (.tail _ (.tail _ (.tail _ (.tail _ (.tail _ (.head _)))))), _, cov 1 0 _ (k0_off7_inb _) (k0_off7_eq _) e f⟩
    · exact ⟨_, mem _ (.tail _ (.tail _ (.tail _ (.head _)))), _, cov 2 0 _ (k0_off9_inb _) (k0_off9_eq _) e f⟩
    · exact ⟨_, mem _ (.tail _ (.head _)), _, cov 3 0 _ (k0_off11_inb _) (k0_off11_eq _) e f⟩
    · exact ⟨_, mem _ (.tail _ (.tail _ (.tail _ (.tail _ (.tail _ (.tail _ (.head _))))))), _, cov 0 1 _ (k0_off6_inb _) (k0_off6_eq _) e f⟩
    · exact ⟨_, mem _ (.tail _ (.tail _ (.tail _ (.tail _ (.head _))))), _, cov 1 1 _ (k0_off8_inb _) (k0_off8_eq _) e f⟩
    · exact ⟨_, mem _ (.tail _ (.tail _ (.head _))), _, cov 2 1 _ (k0_off10_inb _) (k0_off10_eq _) e f⟩
    · exact ⟨_, mem _ (.head _), _, cov 3 1 _ (k0_off12_inb _) (k0_off12_eq _) e f⟩

end

end Cert.KernelIdeal.Body
-- ==== Proof.KerOut.lean ====
module

public import proofs.«01_k».proof.Proof.KerY
public import proofs.«01_k».proof.Proof.KerBufs

/-! The kernel's attention result at a grid point, from the point's input blocks. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Cert.Scale

/-- The attention result of a point, from its input blocks. -/
def valY (x2 : FVec Ideal S1x2048x512 .bf16) (x3 x4 : FVec Ideal S1x2048x128 .bf16) : FVec Ideal S1x2048x512 .bf16 :=
  Tile.yBlk (fun i => kscale (qamax x2 (i 2) ⟨(i 3).val / 128, Nat.div_lt_of_lt_mul (i 3).isLt⟩)) (qmask x2)
    (fun i => kcode x3 (ix3 (0 : Fin 1) (i 1) (⟨64 * (i 0).val + (i 2).val % 64, by have : (i 0).val < 2 := (i 0).isLt; omega⟩ : Fin 128)))
    (fun i => kcode x4 (ix3 (0 : Fin 1) (i 1) (i 0))) (fun i => kscale (bamax x3 (i 1) (i 0))) (fun i => kscale (bamax x4 (i 1) (i 0)))

theorem ix3_split {a b c : ℕ} (x : (⟨3, ![a, b, c]⟩ : Shape).Idx) : x = ix3 (x 0) (x 1) (x 2) :=
  funext fun a => by match a with | ⟨0, _⟩ => rfl | ⟨1, _⟩ => rfl | ⟨2, _⟩ => rfl

theorem ix4_unit' {c d : ℕ} (x : (⟨4, ![1, 1, c, d]⟩ : Shape).Idx) : x = ix4 (0 : Fin 1) (0 : Fin 1) (x 2) (x 3) :=
  funext fun a => by
    match a with
    | ⟨0, _⟩ => exact Fin.ext (Nat.lt_one_iff.mp (x 0).isLt)
    | ⟨1, _⟩ => exact Fin.ext (Nat.lt_one_iff.mp (x 1).isLt)
    | ⟨2, _⟩ => rfl
    | ⟨3, _⟩ => rfl

section
variable (c : Dev nD) (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S1x2048x512 .fp8e4m3) (harg6 : arg6.IsWhole) (arg7 : Memref sig .tc .vmem S1x1x16x1024 .f32) (harg7 : arg7.IsWhole) (arg8 : Memref sig .tc .vmem S1x2048x128 .fp8e4m3) (harg8 : arg8.IsWhole) (arg9 : Memref sig .tc .vmem S1x1x16x128 .f32) (harg9 : arg9.IsWhole) (arg10 : Memref sig .tc .vmem S1x2048x128 .fp8e4m3) (harg10 : arg10.IsWhole) (arg11 : Memref sig .tc .vmem S1x1x16x128 .f32) (harg11 : arg11.IsWhole) (arg12 : Memref sig .tc .vmem S16x4x256x128 .fp8e4m3) (harg12 : arg12.IsWhole) (arg13 : Memref sig .tc .vmem S2x2048x128 .fp8e4m3) (harg13 : arg13.IsWhole) (arg14 : Memref sig .tc .vmem S128x2048 .fp8e4m3) (harg14 : arg14.IsWhole) (arg15 : Memref sig .tc .vmem S16x512 .f32) (harg15 : arg15.IsWhole) (arg16 : Memref sig .tc .vmem S16x512 .f32) (harg16 : arg16.IsWhole) (arg17 : Memref sig .tc .vmem S2x16x256 .f32) (harg17 : arg17.IsWhole) (arg18 : Memref sig .tc .vmem S2x16x256 .f32) (harg18 : arg18.IsWhole) (arg19 : Memref sig .tc .vmem S2x2048x256 .f32) (harg19 : arg19.IsWhole) (arg20 : Memref sig .tc .vmem S2x2x128x128 .f32) (harg20 : arg20.IsWhole) (arg21 : Memref sig .tc .vmem S2x4x16x256 .f32) (harg21 : arg21.IsWhole)
  (X2 : BufTy.Contents (Elt Ideal) arg2.view.ty) (X3 : BufTy.Contents (Elt Ideal) arg3.view.ty) (X4 : BufTy.Contents (Elt Ideal) arg4.view.ty) (G5 : BufTy.Contents (Elt Ideal) arg5.view.ty) (G6 : BufTy.Contents (Elt Ideal) arg6.view.ty) (G7 : BufTy.Contents (Elt Ideal) arg7.view.ty) (G8 : BufTy.Contents (Elt Ideal) arg8.view.ty) (G9 : BufTy.Contents (Elt Ideal) arg9.view.ty) (G10 : BufTy.Contents (Elt Ideal) arg10.view.ty) (G11 : BufTy.Contents (Elt Ideal) arg11.view.ty) (G12 : BufTy.Contents (Elt Ideal) arg12.view.ty) (G13 : BufTy.Contents (Elt Ideal) arg13.view.ty) (G14 : BufTy.Contents (Elt Ideal) arg14.view.ty) (G15 : BufTy.Contents (Elt Ideal) arg15.view.ty) (G16 : BufTy.Contents (Elt Ideal) arg16.view.ty) (G17 : BufTy.Contents (Elt Ideal) arg17.view.ty) (G18 : BufTy.Contents (Elt Ideal) arg18.view.ty) (G19 : BufTy.Contents (Elt Ideal) arg19.view.ty) (G20 : BufTy.Contents (Elt Ideal) arg20.view.ty) (G21 : BufTy.Contents (Elt Ideal) arg21.view.ty)

theorem run_c5 : (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).1 = arg5.view.writes (Elt Ideal) G5 (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (arg7.view.writes (Elt Ideal) arg7.view.junk (run.sl.H7_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15)) (arg12.view.writes (Elt Ideal) G12 (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (cmpi CmpIPredicate.slt run.sl.v0 run.sl.v1) X2 (arg16.view.writes (Elt Ideal) arg16.view.junk (run.sl.H16_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15)) (Scf.trips k0_t2_loop.lb k0_t2_loop.ub k0_t2_loop.st)).2) (arg13.view.writes (Elt Ideal) arg13.view.junk (run.sl.H13_32 (F := Ideal) arg3 X3)) (arg14.view.writes (Elt Ideal) arg14.view.junk (run.sl.H14_16 (F := Ideal) arg4 X4)) (arg17.view.writes (Elt Ideal) arg17.view.junk (run.sl.H17_2 (F := Ideal) arg3 X3)) (arg18.view.writes (Elt Ideal) arg18.view.junk (run.sl.H18_2 (F := Ideal) arg4 X4)) G5 G19 G20 G21 k0_t3_loop.trips).1 := by
  exact Eq.refl _

theorem read7 : arg7.view.read (Elt Ideal) (arg7.view.writes (Elt Ideal) arg7.view.junk (run.sl.H7_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15)) = fun i => kscale (qamax (arg2.view.read (Elt Ideal) X2) (i 2) ⟨(i 3).val / 128, Nat.div_lt_of_lt_mul (i 3).isLt⟩) := by
  funext y
  obtain ⟨n, l, rfl⟩ : ∃ (n : Fin 16) (l : Fin 1024), y = ix4 (0 : Fin 1) (0 : Fin 1) n l := ⟨y 2, y 3, ix4_unit' y⟩
  exact qs_left c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15 _ n l

theorem read12 : arg12.view.read (Elt Ideal) (arg12.view.writes (Elt Ideal) G12 (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (cmpi CmpIPredicate.slt run.sl.v0 run.sl.v1) X2 (arg16.view.writes (Elt Ideal) arg16.view.junk (run.sl.H16_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15)) (Scf.trips k0_t2_loop.lb k0_t2_loop.ub k0_t2_loop.st)).2) = qmask (arg2.view.read (Elt Ideal) X2) := by
  funext y
  exact qm_left c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 _ Variants.none none (fun n l => inv_left c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15 _ n l) G12 y

theorem read13 : arg13.view.read (Elt Ideal) (arg13.view.writes (Elt Ideal) arg13.view.junk (run.sl.H13_32 (F := Ideal) arg3 X3)) = fun i => kcode (arg3.view.read (Elt Ideal) X3) (ix3 (0 : Fin 1) (i 1) (⟨64 * (i 0).val + (i 2).val % 64, by have : (i 0).val < 2 := (i 0).isLt; omega⟩ : Fin 128)) := by
  funext y
  obtain ⟨a, b, d, rfl⟩ : ∃ (a : Fin 2) (b : Fin 2048) (d : Fin 128), y = ix3 a b d := ⟨y 0, y 1, y 2, ix3_split y⟩
  exact kdup_left arg3 X3 arg13 _ a b d

theorem read14 : arg14.view.read (Elt Ideal) (arg14.view.writes (Elt Ideal) arg14.view.junk (run.sl.H14_16 (F := Ideal) arg4 X4)) = fun i => kcode (arg4.view.read (Elt Ideal) X4) (ix3 (0 : Fin 1) (i 1) (i 0)) := by
  funext y
  obtain ⟨a, b, rfl⟩ : ∃ (a : Fin 128) (b : Fin 2048), y = ix2 a b := ⟨y 0, y 1, funext fun a => by match a with | ⟨0, _⟩ => rfl | ⟨1, _⟩ => rfl⟩
  exact vt_left arg4 X4 arg14 _ a b

theorem read17 : arg17.view.read (Elt Ideal) (arg17.view.writes (Elt Ideal) arg17.view.junk (run.sl.H17_2 (F := Ideal) arg3 X3)) = fun i => kscale (bamax (arg3.view.read (Elt Ideal) X3) (i 1) (i 0)) := by
  funext y
  obtain ⟨a, b, d, rfl⟩ : ∃ (a : Fin 2) (b : Fin 16) (d : Fin 256), y = ix3 a b d := ⟨y 0, y 1, y 2, ix3_split y⟩
  rw [ks_wide]
  exact wide_left arg17 _ _ _ (k_rows arg3 X3) a b d

theorem read18 : arg18.view.read (Elt Ideal) (arg18.view.writes (Elt Ideal) arg18.view.junk (run.sl.H18_2 (F := Ideal) arg4 X4)) = fun i => kscale (bamax (arg4.view.read (Elt Ideal) X4) (i 1) (i 0)) := by
  funext y
  obtain ⟨a, b, d, rfl⟩ : ∃ (a : Fin 2) (b : Fin 16) (d : Fin 256), y = ix3 a b d := ⟨y 0, y 1, y 2, ix3_split y⟩
  rw [vs_wide]
  exact wide_left arg18 _ _ _ (v_rows arg4 X4) a b d

/-- The attention result a point leaves. -/
theorem run_y5 : arg5.view.read (Elt Ideal) (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).1 = valY (arg2.view.read (Elt Ideal) X2) (arg3.view.read (Elt Ideal) X3) (arg4.view.read (Elt Ideal) X4) := by
  rw [run_c5]
  funext y
  refine (Tile.y_left arg7 arg12 arg13 arg14 arg17 arg18 arg19 arg20 arg21 _ _ _ _ _ _ c i arg2 harg2 arg3 harg3 arg4 harg4 arg5 harg5 arg6 harg6 harg7 arg8 harg8 arg9 harg9 arg10 harg10 arg11 harg11 harg12 harg13 harg14 arg15 harg15 arg16 harg16 harg17 harg18 harg19 harg20 harg21 Variants.none none _ _ _ _ _ y).trans ?_
  unfold Tile.yRead valY
  rw [read7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15, read12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G12 G15, read13 arg3 arg13 X3, read14 arg4 arg14 X4, read17 arg3 arg17 X3, read18 arg4 arg18 X4]

end

end Cert.KernelIdeal.Body
-- ==== Proof.Exact.lean ====
module

public import proofs.«01_k».proof.Proof.FrameIdeal
public import proofs.«01_k».proof.Proof.KerOut

/-! The launch with its results kept: each output block ends at what its point leaves,
as a function of the point's input blocks. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Scale

/-- The value of each output block of a point, from the point's input blocks. -/
def valQs (x : FVec Ideal S1x2048x512 .bf16) : FVec Ideal S1x1x16x1024 .f32 := fun y => kscale (qamax x (y 2) ⟨(y 3).val / 128, Nat.div_lt_of_lt_mul (y 3).isLt⟩)

def valKs (x : FVec Ideal S1x2048x128 .bf16) : FVec Ideal S1x1x16x128 .f32 := fun y => kscale (bamax x (y 2) ⟨(y 3).val / 64, Nat.div_lt_of_lt_mul (y 3).isLt⟩)

theorem ix4_unit {c d : ℕ} (x : (⟨4, ![1, 1, c, d]⟩ : Shape).Idx) : x = ix4 (0 : Fin 1) (0 : Fin 1) (x 2) (x 3) :=
  funext fun a => by
    match a with
    | ⟨0, _⟩ => exact Fin.ext (Nat.lt_one_iff.mp (x 0).isLt)
    | ⟨1, _⟩ => exact Fin.ext (Nat.lt_one_iff.mp (x 1).isLt)
    | ⟨2, _⟩ => rfl
    | ⟨3, _⟩ => rfl

section
variable (c : Dev nD) (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S1x2048x512 .fp8e4m3) (harg6 : arg6.IsWhole) (arg7 : Memref sig .tc .vmem S1x1x16x1024 .f32) (harg7 : arg7.IsWhole) (arg8 : Memref sig .tc .vmem S1x2048x128 .fp8e4m3) (harg8 : arg8.IsWhole) (arg9 : Memref sig .tc .vmem S1x1x16x128 .f32) (harg9 : arg9.IsWhole) (arg10 : Memref sig .tc .vmem S1x2048x128 .fp8e4m3) (harg10 : arg10.IsWhole) (arg11 : Memref sig .tc .vmem S1x1x16x128 .f32) (harg11 : arg11.IsWhole) (arg12 : Memref sig .tc .vmem S16x4x256x128 .fp8e4m3) (harg12 : arg12.IsWhole) (arg13 : Memref sig .tc .vmem S2x2048x128 .fp8e4m3) (harg13 : arg13.IsWhole) (arg14 : Memref sig .tc .vmem S128x2048 .fp8e4m3) (harg14 : arg14.IsWhole) (arg15 : Memref sig .tc .vmem S16x512 .f32) (harg15 : arg15.IsWhole) (arg16 : Memref sig .tc .vmem S16x512 .f32) (harg16 : arg16.IsWhole) (arg17 : Memref sig .tc .vmem S2x16x256 .f32) (harg17 : arg17.IsWhole) (arg18 : Memref sig .tc .vmem S2x16x256 .f32) (harg18 : arg18.IsWhole) (arg19 : Memref sig .tc .vmem S2x2048x256 .f32) (harg19 : arg19.IsWhole) (arg20 : Memref sig .tc .vmem S2x2x128x128 .f32) (harg20 : arg20.IsWhole) (arg21 : Memref sig .tc .vmem S2x4x16x256 .f32) (harg21 : arg21.IsWhole)
  (X2 : BufTy.Contents (Elt Ideal) arg2.view.ty) (X3 : BufTy.Contents (Elt Ideal) arg3.view.ty) (X4 : BufTy.Contents (Elt Ideal) arg4.view.ty) (G5 : BufTy.Contents (Elt Ideal) arg5.view.ty) (G6 : BufTy.Contents (Elt Ideal) arg6.view.ty) (G7 : BufTy.Contents (Elt Ideal) arg7.view.ty) (G8 : BufTy.Contents (Elt Ideal) arg8.view.ty) (G9 : BufTy.Contents (Elt Ideal) arg9.view.ty) (G10 : BufTy.Contents (Elt Ideal) arg10.view.ty) (G11 : BufTy.Contents (Elt Ideal) arg11.view.ty) (G12 : BufTy.Contents (Elt Ideal) arg12.view.ty) (G13 : BufTy.Contents (Elt Ideal) arg13.view.ty) (G14 : BufTy.Contents (Elt Ideal) arg14.view.ty) (G15 : BufTy.Contents (Elt Ideal) arg15.view.ty) (G16 : BufTy.Contents (Elt Ideal) arg16.view.ty) (G17 : BufTy.Contents (Elt Ideal) arg17.view.ty) (G18 : BufTy.Contents (Elt Ideal) arg18.view.ty) (G19 : BufTy.Contents (Elt Ideal) arg19.view.ty) (G20 : BufTy.Contents (Elt Ideal) arg20.view.ty) (G21 : BufTy.Contents (Elt Ideal) arg21.view.ty)

theorem run_c6 : (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.1 = arg6.view.writes (Elt Ideal) G6 (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (cmpi CmpIPredicate.slt run.sl.v0 run.sl.v1) X2 (arg16.view.writes (Elt Ideal) arg16.view.junk (run.sl.H16_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15)) (Scf.trips k0_t2_loop.lb k0_t2_loop.ub k0_t2_loop.st)).1 := by
  exact Eq.refl _
set_option maxHeartbeats 1000000 in
theorem run_c7 : (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.1 = arg7.view.writes (Elt Ideal) arg7.view.junk (run.sl.H7_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15) := by
  exact Eq.refl _
theorem run_c8 : (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.1 = arg8.view.writes (Elt Ideal) arg8.view.junk (run.sl.H8_16 (F := Ideal) arg3 X3) := by
  exact Eq.refl _
set_option maxHeartbeats 1000000 in
theorem run_c9 : (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.1 = arg9.view.writes (Elt Ideal) arg9.view.junk (run.sl.H9_1 (F := Ideal) arg3 X3) := by
  exact Eq.refl _
theorem run_c10 : (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.2.1 = arg10.view.writes (Elt Ideal) arg10.view.junk (run.sl.H10_16 (F := Ideal) arg4 X4) := by
  exact Eq.refl _
set_option maxHeartbeats 1000000 in
theorem run_c11 : (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.2.2.1 = arg11.view.writes (Elt Ideal) arg11.view.junk (run.sl.H11_1 (F := Ideal) arg4 X4) := by
  exact Eq.refl _

theorem run_y6 : arg6.view.read (Elt Ideal) (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.1 = qcode (arg2.view.read (Elt Ideal) X2) := by
  rw [run_c6]
  funext y
  exact qc_left c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 _ _ _ _ (fun n l => inv_left c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15 _ n l) G6 y

theorem run_y7 : arg7.view.read (Elt Ideal) (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.1 = valQs (arg2.view.read (Elt Ideal) X2) := by
  rw [run_c7]
  funext y
  obtain ⟨n, l, rfl⟩ : ∃ (n : Fin 16) (l : Fin 1024), y = ix4 (0 : Fin 1) (0 : Fin 1) n l := ⟨y 2, y 3, ix4_unit y⟩
  exact qs_left c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 G15 _ n l

theorem run_y8 : arg8.view.read (Elt Ideal) (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.1 = kcode (arg3.view.read (Elt Ideal) X3) := by
  rw [run_c8]
  funext y
  exact kc_left arg8 arg3 X3 _ y

theorem run_y9 : arg9.view.read (Elt Ideal) (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.1 = valKs (arg3.view.read (Elt Ideal) X3) := by
  rw [run_c9]
  funext y
  obtain ⟨n, l, rfl⟩ : ∃ (n : Fin 16) (l : Fin 128), y = ix4 (0 : Fin 1) (0 : Fin 1) n l := ⟨y 2, y 3, ix4_unit y⟩
  exact ks_left arg9 arg3 X3 _ n l

theorem run_y10 : arg10.view.read (Elt Ideal) (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.2.1 = kcode (arg4.view.read (Elt Ideal) X4) := by
  rw [run_c10]
  funext y
  exact vc_left arg4 X4 arg10 _ y

theorem run_y11 : arg11.view.read (Elt Ideal) (run (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21).2.2.2.2.2.2.1 = valKs (arg4.view.read (Elt Ideal) X4) := by
  rw [run_c11]
  funext y
  obtain ⟨n, l, rfl⟩ : ∃ (n : Fin 16) (l : Fin 128), y = ix4 (0 : Fin 1) (0 : Fin 1) n l := ⟨y 2, y 3, ix4_unit y⟩
  exact vs_left arg4 X4 arg11 _ n l

end

/-- What a point leaves is determined by its input blocks. -/
theorem left_codes (c : Dev nD) (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S1x2048x512 .fp8e4m3) (harg6 : arg6.IsWhole) (arg7 : Memref sig .tc .vmem S1x1x16x1024 .f32) (harg7 : arg7.IsWhole) (arg8 : Memref sig .tc .vmem S1x2048x128 .fp8e4m3) (harg8 : arg8.IsWhole) (arg9 : Memref sig .tc .vmem S1x1x16x128 .f32) (harg9 : arg9.IsWhole) (arg10 : Memref sig .tc .vmem S1x2048x128 .fp8e4m3) (harg10 : arg10.IsWhole) (arg11 : Memref sig .tc .vmem S1x1x16x128 .f32) (harg11 : arg11.IsWhole) (arg12 : Memref sig .tc .vmem S16x4x256x128 .fp8e4m3) (harg12 : arg12.IsWhole) (arg13 : Memref sig .tc .vmem S2x2048x128 .fp8e4m3) (harg13 : arg13.IsWhole) (arg14 : Memref sig .tc .vmem S128x2048 .fp8e4m3) (harg14 : arg14.IsWhole) (arg15 : Memref sig .tc .vmem S16x512 .f32) (harg15 : arg15.IsWhole) (arg16 : Memref sig .tc .vmem S16x512 .f32) (harg16 : arg16.IsWhole) (arg17 : Memref sig .tc .vmem S2x16x256 .f32) (harg17 : arg17.IsWhole) (arg18 : Memref sig .tc .vmem S2x16x256 .f32) (harg18 : arg18.IsWhole) (arg19 : Memref sig .tc .vmem S2x2048x256 .f32) (harg19 : arg19.IsWhole) (arg20 : Memref sig .tc .vmem S2x2x128x128 .f32) (harg20 : arg20.IsWhole) (arg21 : Memref sig .tc .vmem S2x4x16x256 .f32) (harg21 : arg21.IsWhole) (x2 : Vec Ideal S1x2048x512 .bf16) (x3 : Vec Ideal S1x2048x128 .bf16) (x4 : Vec Ideal S1x2048x128 .bf16) (y5 : Vec Ideal S1x2048x512 .bf16) (y6 : Vec Ideal S1x2048x512 .fp8e4m3) (y7 : Vec Ideal S1x1x16x1024 .f32) (y8 : Vec Ideal S1x2048x128 .fp8e4m3) (y9 : Vec Ideal S1x1x16x128 .f32) (y10 : Vec Ideal S1x2048x128 .fp8e4m3) (y11 : Vec Ideal S1x1x16x128 .f32)
    (h : Left (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x2 x3 x4 y5 y6 y7 y8 y9 y10 y11) :
    y5 = valY x2 x3 x4 ∧ y6 = qcode x2 ∧ y7 = valQs x2 ∧ y8 = kcode x3 ∧ y9 = valKs x3 ∧ y10 = kcode x4 ∧ y11 = valKs x4 := by
  unfold Left at h
  obtain ⟨X2, X3, X4, G5, G6, G7, G8, G9, G10, G11, G12, G13, G14, G15, G16, G17, G18, G19, G20, G21, e2, e3, e4, h5, h6, h7, h8, h9, h10, h11⟩ := h
  subst e2 e3 e4
  exact ⟨h5.symm.trans (run_y5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21), h6.symm.trans (run_y6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21), h7.symm.trans (run_y7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21), h8.symm.trans (run_y8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21),
    h9.symm.trans (run_y9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21), h10.symm.trans (run_y10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21), h11.symm.trans (run_y11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X2 X3 X4 G5 G6 G7 G8 G9 G10 G11 G12 G13 G14 G15 G16 G17 G18 G19 G20 G21)⟩

end Cert.KernelIdeal.Body
-- ==== Proof.Kept.lean ====
module

public import proofs.«01_k».proof.Proof.Exact

/-! The launch with its results kept, and the arrays they end in as functions of the argument arrays. -/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Scale

local notation "𝕄" => MT nD τ sig Unit (Elt Ideal) ℕ (UR sig nD τ) ℕ

variable (m : (ℓ : Loc nD τ sig) → Buf (Elt Ideal) ℓ) (ρ : Dev nD → PrngReg)

/-- What the output blocks of a point are left at. -/
def kept : Dev nD → Fin cfg0.N → Outs Ideal := fun c t =>
  ⟨valY (iblk m c 0 t) (iblk m c 1 t) (iblk m c 2 t), qcode (iblk m c 0 t), valQs (iblk m c 0 t), kcode (iblk m c 1 t), valKs (iblk m c 1 t), kcode (iblk m c 2 t), valKs (iblk m c 2 t)⟩

/-- No result is forgotten. -/
def fgt : Fin cfg0.W → Bool := fun _ => false

/-- What the body is called with at point `t`, -/
def keptPre (c : Dev nD) (t : Fin cfg0.N) : sProp 𝕄 :=
  iprop((dats m (kept m) 0 c).Φ t.castSucc ∗ (dats m (kept m) 0 c).owesAt () t.castSucc
    ∗ (∃ d, owns (c : Thread nD τ) (st0_0 t) fullShare ((dats m (kept m) 0 c).before 0 t d))
    ∗ (∃ d, owns (c : Thread nD τ) (st0_1 t) fullShare ((dats m (kept m) 0 c).before 1 t d))
    ∗ (∃ d, owns (c : Thread nD τ) (st0_2 t) fullShare ((dats m (kept m) 0 c).before 2 t d))
    ∗ (∃ d, owns (c : Thread nD τ) (st0_3 t) fullShare ((dats m (kept m) 0 c).before 3 t d))
    ∗ (∃ d, owns (c : Thread nD τ) (st0_4 t) fullShare ((dats m (kept m) 0 c).before 4 t d))
    ∗ (∃ d, owns (c : Thread nD τ) (st0_5 t) fullShare ((dats m (kept m) 0 c).before 5 t d))
    ∗ (∃ d, owns (c : Thread nD τ) (st0_6 t) fullShare ((dats m (kept m) 0 c).before 6 t d))
    ∗ (∃ d, owns (c : Thread nD τ) (st0_7 t) fullShare ((dats m (kept m) 0 c).before 7 t d))
    ∗ (∃ d, owns (c : Thread nD τ) (st0_8 t) fullShare ((dats m (kept m) 0 c).before 8 t d))
    ∗ (∃ d, owns (c : Thread nD τ) (st0_9 t) fullShare ((dats m (kept m) 0 c).before 9 t d)))

/-- and what it returns. -/
def keptPost (c : Dev nD) (t : Fin cfg0.N) : sProp 𝕄 :=
  iprop((dats m (kept m) 0 c).Φ t.succ ∗ (dats m (kept m) 0 c).owesAt () t.succ
    ∗ owns (c : Thread nD τ) (st0_0 t) fullShare ((dats m (kept m) 0 c).after 0 t)
    ∗ owns (c : Thread nD τ) (st0_1 t) fullShare ((dats m (kept m) 0 c).after 1 t)
    ∗ owns (c : Thread nD τ) (st0_2 t) fullShare ((dats m (kept m) 0 c).after 2 t)
    ∗ owns (c : Thread nD τ) (st0_3 t) fullShare ((dats m (kept m) 0 c).after 3 t)
    ∗ owns (c : Thread nD τ) (st0_4 t) fullShare ((dats m (kept m) 0 c).after 4 t)
    ∗ owns (c : Thread nD τ) (st0_5 t) fullShare ((dats m (kept m) 0 c).after 5 t)
    ∗ owns (c : Thread nD τ) (st0_6 t) fullShare ((dats m (kept m) 0 c).after 6 t)
    ∗ owns (c : Thread nD τ) (st0_7 t) fullShare ((dats m (kept m) 0 c).after 7 t)
    ∗ owns (c : Thread nD τ) (st0_8 t) fullShare ((dats m (kept m) 0 c).after 8 t)
    ∗ owns (c : Thread nD τ) (st0_9 t) fullShare ((dats m (kept m) 0 c).after 9 t))

theorem leftAt_kept (c : Dev nD) (t : Fin cfg0.N) (y5 : Vec Ideal S1x2048x512 .bf16) (y6 : Vec Ideal S1x2048x512 .fp8e4m3) (y7 : Vec Ideal S1x1x16x1024 .f32) (y8 : Vec Ideal S1x2048x128 .fp8e4m3) (y9 : Vec Ideal S1x1x16x128 .f32) (y10 : Vec Ideal S1x2048x128 .fp8e4m3) (y11 : Vec Ideal S1x1x16x128 .f32)
    (h : LeftAt m c t y5 y6 y7 y8 y9 y10 y11) :
    y5 = (kept m c t).y5 ∧ y6 = (kept m c t).y6 ∧ y7 = (kept m c t).y7 ∧ y8 = (kept m c t).y8 ∧ y9 = (kept m c t).y9 ∧ y10 = (kept m c t).y10 ∧ y11 = (kept m c t).y11 :=
  left_codes _ _ _ _ _ _ _ _ _ _ _ _ _ _ _ _ _ _ _ _ _ _ _ _ _ _ _ _ _ _ _ _ _ _ _ _ _ _ _ _ _ _ _ _ _ _ _ _ _ _ _ _ h

theorem sound_kept (c : Dev nD) (t : Fin cfg0.N) :
    keptPre m c t ⊢ wp frame (wpE (defs₀ (F := Ideal)) Variants.none c none) Set.univ (bodyAt0 t) (fun _ => keptPost m c t) := by
  unfold keptPre keptPost
  simp only [before0_0, before0_1, before0_2]
  rw [show (dats m (kept m) 0 c).Φ t.succ = Pipeline.ΦA spec0 c from rfl, show (dats m (kept m) 0 c).Φ t.castSucc = Pipeline.ΦA spec0 c from rfl,
    show (dats m (kept m) 0 c).owesAt () t.succ = (dats m (kept m) 0 c).owesAt () t.castSucc from rfl, after0_0, after0_1, after0_2, after0_3,
    after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_point m c t _)
  isplitl [HΦ]; · iexact HΦ
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iintro ⟨HΦ, H0, H1, H2, ⟨%y5, %y6, %y7, %y8, %y9, %y10, %y11, %hy, H3, H4, H5, H6, H7, H8, H9⟩⟩
  obtain ⟨h5, h6, h7, h8, h9, h10, h11⟩ := leftAt_kept m c t _ _ _ _ _ _ _ hy
  rw [← h5, ← h6, ← h7, ← h8, ← h9, ← h10, ← h11]
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation. -/
theorem kept_obligation (c : Dev nD) : BodyObligation (dats m (kept m) 0 c) (defs₀ (F := Ideal)) Variants.none () Set.univ fgt := fun t => by
  rw [bigSep_W0, bigSep_W0, defs₀_row]
  exact triple_restated (sound_kept m c t) rfl .rfl fun _ => .rfl

set_option backward.isDefEq.respectTransparency.types false in
set_option maxHeartbeats 800000 in
/-- The launch. -/
theorem run_kept : θ_run defs (onTc (τ := τ) (main (F := Ideal))) (s₀ m ρ)
    (fun r => Pipeline.RDat.FramePost (cfgs 0) (fun c => (dats m (kept m) 0 c).toRForget fgt) (V m) r ∧ r.2.sem = fun _ => 0) :=
  Pipeline.θ_run_frame_forget (Q' := _) cfgs (dats m (kept m)) (0 : Fin 1) launch0 defs₀ Variants.none fgt m ρ main
    (hbody := fun c => (kept_obligation m c).loose) (hshare := fun c => (dats m (kept m) 0 c).share_full fun _ => rfl)
    (howed := fun _ _ => rfl) (V := V m)
    (hmain := hmain m Variants.none) (hA := A_eq m (kept m)) (hΦ := fun _ _ => rfl)

/-! ## The arrays -/

theorem at3 : ∀ t : Fin grid0.N, (win0_0.index t 0 = t.val / 8 ∧ win0_0.index t 1 = 0 ∧ win0_0.index t 2 = t.val % 8)
    ∧ (win0_1.index t 0 = t.val / 8 ∧ win0_1.index t 1 = 0 ∧ win0_1.index t 2 = t.val % 8)
    ∧ (win0_2.index t 0 = t.val / 8 ∧ win0_2.index t 1 = 0 ∧ win0_2.index t 2 = t.val % 8)
    ∧ (win0_4.index t 0 = t.val / 8 ∧ win0_4.index t 1 = 0 ∧ win0_4.index t 2 = t.val % 8)
    ∧ (win0_6.index t 0 = t.val / 8 ∧ win0_6.index t 1 = 0 ∧ win0_6.index t 2 = t.val % 8)
    ∧ (win0_8.index t 0 = t.val / 8 ∧ win0_8.index t 1 = 0 ∧ win0_8.index t 2 = t.val % 8) := by decide +kernel

theorem at4 : ∀ t : Fin grid0.N, (win0_5.index t 0 = t.val / 8 ∧ win0_5.index t 1 = t.val % 8 ∧ win0_5.index t 2 = 0 ∧ win0_5.index t 3 = 0)
    ∧ (win0_7.index t 0 = t.val / 8 ∧ win0_7.index t 1 = t.val % 8 ∧ win0_7.index t 2 = 0 ∧ win0_7.index t 3 = 0)
    ∧ (win0_9.index t 0 = t.val / 8 ∧ win0_9.index t 1 = t.val % 8 ∧ win0_9.index t 2 = 0 ∧ win0_9.index t 3 = 0) := by decide +kernel

theorem points : cfg0.N = 64 := by decide +kernel

/-- The batch and the pair of key heads of a point. -/
def ptB (t : Fin cfg0.N) : Fin 8 := ⟨t.val / 8, Nat.div_lt_of_lt_mul (Nat.lt_of_lt_of_eq t.isLt points)⟩
def ptP (t : Fin cfg0.N) : Fin 8 := ⟨t.val % 8, Nat.mod_lt _ (by decide)⟩
def pt (b p : Fin 8) : Fin cfg0.N := ⟨b.val * 8 + p.val, Nat.lt_of_lt_of_eq (by omega) points.symm⟩

theorem ptB_pt (b p : Fin 8) : ptB (pt b p) = b := Fin.ext (by show (b.val * 8 + p.val) / 8 = b.val; omega)
theorem ptP_pt (b p : Fin 8) : ptP (pt b p) = p := Fin.ext (by show (b.val * 8 + p.val) % 8 = p.val; omega)

/-- Where a lane of a point's query block sits among all query lanes, and the same for keys and values. -/
def wideQ (p : Fin 8) (l : Fin 512) : Fin 4096 := ⟨p.val * 512 + l.val, by omega⟩
def wideK (p : Fin 8) (l : Fin 128) : Fin 1024 := ⟨p.val * 128 + l.val, by omega⟩

/-- The greatest magnitude of query head `h` of batch `b` over row block `n`. -/
def qmaxG (x : S8x2048x4096.Idx → EReal) (b : Fin 8) (n : Fin 16) (h : Fin 64) : EReal :=
  Finset.univ.sup fun d : Fin 64 => Finset.univ.sup fun r : Fin 128 =>
    mag (x (ix3 b (⟨n.val * 128 + r.val, by omega⟩ : Fin 2048) (⟨h.val * 64 + d.val, by omega⟩ : Fin 4096)))

def kmaxG (x : S8x2048x1024.Idx → EReal) (b : Fin 8) (n : Fin 16) (h : Fin 16) : EReal :=
  Finset.univ.sup fun d : Fin 64 => Finset.univ.sup fun r : Fin 128 =>
    mag (x (ix3 b (⟨n.val * 128 + r.val, by omega⟩ : Fin 2048) (⟨h.val * 64 + d.val, by omega⟩ : Fin 1024)))

def clipG (x s : EReal) : EReal := min (Ideal.ofBits .f32 1138753536#32) (max (Ideal.ofBits .f32 3286237184#32) (x * s))

/-- The query codes and scales over the whole array, and the same for keys and values. -/
def qcG (x : S8x2048x4096.Idx → EReal) : S8x2048x4096.Idx → EReal := fun y =>
  clipG (x y) (kinv (qmaxG x (y 0) ⟨(y 1).val / 128, Nat.div_lt_of_lt_mul (y 1).isLt⟩ ⟨(y 2).val / 64, Nat.div_lt_of_lt_mul (y 2).isLt⟩))
def kcG (x : S8x2048x1024.Idx → EReal) : S8x2048x1024.Idx → EReal := fun y =>
  clipG (x y) (kinv (kmaxG x (y 0) ⟨(y 1).val / 128, Nat.div_lt_of_lt_mul (y 1).isLt⟩ ⟨(y 2).val / 64, Nat.div_lt_of_lt_mul (y 2).isLt⟩))
def qsG (x : S8x2048x4096.Idx → EReal) : S8x8x16x1024.Idx → EReal := fun y =>
  kscale (qmaxG x (y 0) (y 2) ⟨(y 1).val * 8 + (y 3).val / 128, by have h : (y 1).val < 8 := (y 1).isLt; have h' : (y 3).val < 1024 := (y 3).isLt; omega⟩)
def ksG (x : S8x2048x1024.Idx → EReal) : S8x8x16x128.Idx → EReal := fun y =>
  kscale (kmaxG x (y 0) (y 2) ⟨(y 1).val * 2 + (y 3).val / 64, by have h : (y 1).val < 8 := (y 1).isLt; have h' : (y 3).val < 128 := (y 3).isLt; omega⟩)

theorem in0 (c : Dev nD) (t : Fin cfg0.N) (r : Fin 2048) (l : Fin 512) :
    iblk m c 0 t (ix3 (0 : Fin 1) r l) = m ((c : Thread nD τ).loc main_arg0) (ix3 (ptB t) r (wideQ (ptP t) l)) := by
  obtain ⟨e0, e1, e2⟩ := (at3 t).1
  refine congrArg (m ((c : Thread nD τ).loc main_arg0)) (funext fun a => Fin.ext ?_)
  refine (Pipeline.Window.rect_emb_val win0_0 t _ a).trans ?_
  match a with
  | ⟨0, _⟩ => show win0_0.index t 0 * 1 + 0 = t.val / 8; rw [e0]; omega
  | ⟨1, _⟩ => show win0_0.index t 1 * 2048 + r.val = r.val; rw [e1]; omega
  | ⟨2, _⟩ => show win0_0.index t 2 * 512 + l.val = t.val % 8 * 512 + l.val; rw [e2]

theorem in1 (c : Dev nD) (t : Fin cfg0.N) (r : Fin 2048) (l : Fin 128) :
    iblk m c 1 t (ix3 (0 : Fin 1) r l) = m ((c : Thread nD τ).loc main_arg1) (ix3 (ptB t) r (wideK (ptP t) l)) := by
  obtain ⟨e0, e1, e2⟩ := (at3 t).2.1
  refine congrArg (m ((c : Thread nD τ).loc main_arg1)) (funext fun a => Fin.ext ?_)
  refine (Pipeline.Window.rect_emb_val win0_1 t _ a).trans ?_
  match a with
  | ⟨0, _⟩ => show win0_1.index t 0 * 1 + 0 = t.val / 8; rw [e0]; omega
  | ⟨1, _⟩ => show win0_1.index t 1 * 2048 + r.val = r.val; rw [e1]; omega
  | ⟨2, _⟩ => show win0_1.index t 2 * 128 + l.val = t.val % 8 * 128 + l.val; rw [e2]

theorem in2 (c : Dev nD) (t : Fin cfg0.N) (r : Fin 2048) (l : Fin 128) :
    iblk m c 2 t (ix3 (0 : Fin 1) r l) = m ((c : Thread nD τ).loc main_arg2) (ix3 (ptB t) r (wideK (ptP t) l)) := by
  obtain ⟨e0, e1, e2⟩ := (at3 t).2.2.1
  refine congrArg (m ((c : Thread nD τ).loc main_arg2)) (funext fun a => Fin.ext ?_)
  refine (Pipeline.Window.rect_emb_val win0_2 t _ a).trans ?_
  match a with
  | ⟨0, _⟩ => show win0_2.index t 0 * 1 + 0 = t.val / 8; rw [e0]; omega
  | ⟨1, _⟩ => show win0_2.index t 1 * 2048 + r.val = r.val; rw [e1]; omega
  | ⟨2, _⟩ => show win0_2.index t 2 * 128 + l.val = t.val % 8 * 128 + l.val; rw [e2]

theorem qmax_blk (x : FVec Ideal S1x2048x512 .bf16) (X : S8x2048x4096.Idx → EReal) (b p : Fin 8) (hx : ∀ r l, x (ix3 (0 : Fin 1) r l) = X (ix3 b r (wideQ p l))) (n : Fin 16) (h : Fin 8) :
    qamax x n h = qmaxG X b n ⟨p.val * 8 + h.val, by omega⟩ := by
  refine congrArg (Finset.sup _) (funext fun d => congrArg (Finset.sup _) (funext fun r => congrArg mag ((hx _ _).trans ?_)))
  refine congrArg (fun j => X (ix3 b (⟨n.val * 128 + r.val, by omega⟩ : Fin 2048) j)) (Fin.ext ?_)
  show p.val * 512 + (h.val * 64 + d.val) = (p.val * 8 + h.val) * 64 + d.val
  omega

theorem kmax_blk (x : FVec Ideal S1x2048x128 .bf16) (X : S8x2048x1024.Idx → EReal) (b p : Fin 8) (hx : ∀ r l, x (ix3 (0 : Fin 1) r l) = X (ix3 b r (wideK p l))) (n : Fin 16) (h : Fin 2) :
    bamax x n h = kmaxG X b n ⟨p.val * 2 + h.val, by omega⟩ := by
  refine congrArg (Finset.sup _) (funext fun d => congrArg (Finset.sup _) (funext fun r => congrArg mag ((hx _ _).trans ?_)))
  refine congrArg (fun j => X (ix3 b (⟨n.val * 128 + r.val, by omega⟩ : Fin 2048) j)) (Fin.ext ?_)
  show p.val * 128 + (h.val * 64 + d.val) = (p.val * 2 + h.val) * 64 + d.val
  omega

theorem qcode_blk (x : FVec Ideal S1x2048x512 .bf16) (X : S8x2048x4096.Idx → EReal) (b p : Fin 8) (hx : ∀ r l, x (ix3 (0 : Fin 1) r l) = X (ix3 b r (wideQ p l))) (r : Fin 2048) (l : Fin 512) :
    qcode x (ix3 (0 : Fin 1) r l) = qcG X (ix3 b r (wideQ p l)) := by
  unfold qcode qcG clipG
  rw [hx, qmax_blk x X b p hx]
  refine congrArg (fun j => min _ (max _ (_ * kinv (qmaxG X b _ j)))) (Fin.ext ?_)
  show p.val * 8 + l.val / 64 = (p.val * 512 + l.val) / 64
  omega

theorem kcode_blk (x : FVec Ideal S1x2048x128 .bf16) (X : S8x2048x1024.Idx → EReal) (b p : Fin 8) (hx : ∀ r l, x (ix3 (0 : Fin 1) r l) = X (ix3 b r (wideK p l))) (r : Fin 2048) (l : Fin 128) :
    kcode x (ix3 (0 : Fin 1) r l) = kcG X (ix3 b r (wideK p l)) := by
  unfold kcode kcG clipG
  rw [hx, kmax_blk x X b p hx]
  refine congrArg (fun j => min _ (max _ (_ * kinv (kmaxG X b _ j)))) (Fin.ext ?_)
  show p.val * 2 + l.val / 64 = (p.val * 128 + l.val) / 64
  omega

theorem ix3_unit {b c : ℕ} (x : (⟨3, ![1, b, c]⟩ : Shape).Idx) : x = ix3 (0 : Fin 1) (x 1) (x 2) :=
  funext fun a => by
    match a with
    | ⟨0, _⟩ => exact Fin.ext (Nat.lt_one_iff.mp (x 0).isLt)
    | ⟨1, _⟩ => rfl
    | ⟨2, _⟩ => rfl

theorem emb4 (t : Fin cfg0.N) (r : Fin 2048) (l : Fin 512) : ((cfg0.win 4).blk t).view.emb (ix3 (0 : Fin 1) r l) = (ix3 (ptB t) r (wideQ (ptP t) l) : S8x2048x4096.Idx) := by
  obtain ⟨e0, e1, e2⟩ := (at3 t).2.2.2.1
  refine funext fun a => Fin.ext ?_
  refine (Pipeline.Window.rect_emb_val win0_4 t _ a).trans ?_
  match a with
  | ⟨0, _⟩ => show win0_4.index t 0 * 1 + 0 = t.val / 8; rw [e0]; omega
  | ⟨1, _⟩ => show win0_4.index t 1 * 2048 + r.val = r.val; rw [e1]; omega
  | ⟨2, _⟩ => show win0_4.index t 2 * 512 + l.val = t.val % 8 * 512 + l.val; rw [e2]

theorem final4 (c : Dev nD) : (dats m (kept m) 0 c).arrAt 4 cfg0.N = qcG (m ((c : Thread nD τ).loc main_arg0)) := by
  refine (dats m (kept m) 0 c).arrAt_eq_of_cover 4 (qcG (m ((c : Thread nD τ).loc main_arg0))) (fun t _ => ?_) fun i => ?_
  · show (cfg0.win 4).cut (grid0.coords t) ((dats m (kept m) 0 c).after 4 t) = _
    rw [after0_4]
    funext y
    obtain ⟨r, l, rfl⟩ : ∃ (r : Fin 2048) (l : Fin 512), y = ix3 (0 : Fin 1) r l := ⟨y 1, y 2, ix3_unit y⟩
    show qcode (iblk m c 0 t) (ix3 (0 : Fin 1) r l) = qcG _ (((cfg0.win 4).blk t).view.emb (ix3 (0 : Fin 1) r l))
    rw [emb4]
    exact qcode_blk _ _ _ _ (in0 m c t) r l
  · obtain ⟨b, r, l, rfl⟩ : ∃ (b : Fin 8) (r : Fin 2048) (l : Fin 4096), i = (ix3 b r l : S8x2048x4096.Idx) := ⟨i 0, i 1, i 2, funext fun a => by match a with | ⟨0, _⟩ => rfl | ⟨1, _⟩ => rfl | ⟨2, _⟩ => rfl⟩
    refine ⟨pt b ⟨l.val / 512, by omega⟩, flush0_4 _, ?_⟩
    have h := emb4 (pt b ⟨l.val / 512, by omega⟩) r ⟨l.val % 512, by omega⟩
    rw [ptB_pt, ptP_pt] at h
    have e : wideQ ⟨l.val / 512, by omega⟩ ⟨l.val % 512, by omega⟩ = l := Fin.ext (by show l.val / 512 * 512 + l.val % 512 = l.val; omega)
    rw [e] at h
    rw [← h]
    exact View.emb_mem_set _ _

theorem emb6 (t : Fin cfg0.N) (r : Fin 2048) (l : Fin 128) : ((cfg0.win 6).blk t).view.emb (ix3 (0 : Fin 1) r l) = (ix3 (ptB t) r (wideK (ptP t) l) : S8x2048x1024.Idx) := by
  obtain ⟨e0, e1, e2⟩ := (at3 t).2.2.2.2.1
  refine funext fun a => Fin.ext ?_
  refine (Pipeline.Window.rect_emb_val win0_6 t _ a).trans ?_
  match a with
  | ⟨0, _⟩ => show win0_6.index t 0 * 1 + 0 = t.val / 8; rw [e0]; omega
  | ⟨1, _⟩ => show win0_6.index t 1 * 2048 + r.val = r.val; rw [e1]; omega
  | ⟨2, _⟩ => show win0_6.index t 2 * 128 + l.val = t.val % 8 * 128 + l.val; rw [e2]

theorem final6 (c : Dev nD) : (dats m (kept m) 0 c).arrAt 6 cfg0.N = kcG (m ((c : Thread nD τ).loc main_arg1)) := by
  refine (dats m (kept m) 0 c).arrAt_eq_of_cover 6 (kcG (m ((c : Thread nD τ).loc main_arg1))) (fun t _ => ?_) fun i => ?_
  · show (cfg0.win 6).cut (grid0.coords t) ((dats m (kept m) 0 c).after 6 t) = _
    rw [after0_6]
    funext y
    obtain ⟨r, l, rfl⟩ : ∃ (r : Fin 2048) (l : Fin 128), y = ix3 (0 : Fin 1) r l := ⟨y 1, y 2, ix3_unit y⟩
    show kcode (iblk m c 1 t) (ix3 (0 : Fin 1) r l) = kcG _ (((cfg0.win 6).blk t).view.emb (ix3 (0 : Fin 1) r l))
    rw [emb6]
    exact kcode_blk _ _ _ _ (in1 m c t) r l
  · obtain ⟨b, r, l, rfl⟩ : ∃ (b : Fin 8) (r : Fin 2048) (l : Fin 1024), i = (ix3 b r l : S8x2048x1024.Idx) := ⟨i 0, i 1, i 2, funext fun a => by match a with | ⟨0, _⟩ => rfl | ⟨1, _⟩ => rfl | ⟨2, _⟩ => rfl⟩
    refine ⟨pt b ⟨l.val / 128, by omega⟩, flush0_6 _, ?_⟩
    have h := emb6 (pt b ⟨l.val / 128, by omega⟩) r ⟨l.val % 128, by omega⟩
    rw [ptB_pt, ptP_pt] at h
    have e : wideK ⟨l.val / 128, by omega⟩ ⟨l.val % 128, by omega⟩ = l := Fin.ext (by show l.val / 128 * 128 + l.val % 128 = l.val; omega)
    rw [e] at h
    rw [← h]
    exact View.emb_mem_set _ _

theorem emb8 (t : Fin cfg0.N) (r : Fin 2048) (l : Fin 128) : ((cfg0.win 8).blk t).view.emb (ix3 (0 : Fin 1) r l) = (ix3 (ptB t) r (wideK (ptP t) l) : S8x2048x1024.Idx) := by
  obtain ⟨e0, e1, e2⟩ := (at3 t).2.2.2.2.2
  refine funext fun a => Fin.ext ?_
  refine (Pipeline.Window.rect_emb_val win0_8 t _ a).trans ?_
  match a with
  | ⟨0, _⟩ => show win0_8.index t 0 * 1 + 0 = t.val / 8; rw [e0]; omega
  | ⟨1, _⟩ => show win0_8.index t 1 * 2048 + r.val = r.val; rw [e1]; omega
  | ⟨2, _⟩ => show win0_8.index t 2 * 128 + l.val = t.val % 8 * 128 + l.val; rw [e2]

theorem final8 (c : Dev nD) : (dats m (kept m) 0 c).arrAt 8 cfg0.N = kcG (m ((c : Thread nD τ).loc main_arg2)) := by
  refine (dats m (kept m) 0 c).arrAt_eq_of_cover 8 (kcG (m ((c : Thread nD τ).loc main_arg2))) (fun t _ => ?_) fun i => ?_
  · show (cfg0.win 8).cut (grid0.coords t) ((dats m (kept m) 0 c).after 8 t) = _
    rw [after0_8]
    funext y
    obtain ⟨r, l, rfl⟩ : ∃ (r : Fin 2048) (l : Fin 128), y = ix3 (0 : Fin 1) r l := ⟨y 1, y 2, ix3_unit y⟩
    show kcode (iblk m c 2 t) (ix3 (0 : Fin 1) r l) = kcG _ (((cfg0.win 8).blk t).view.emb (ix3 (0 : Fin 1) r l))
    rw [emb8]
    exact kcode_blk _ _ _ _ (in2 m c t) r l
  · obtain ⟨b, r, l, rfl⟩ : ∃ (b : Fin 8) (r : Fin 2048) (l : Fin 1024), i = (ix3 b r l : S8x2048x1024.Idx) := ⟨i 0, i 1, i 2, funext fun a => by match a with | ⟨0, _⟩ => rfl | ⟨1, _⟩ => rfl | ⟨2, _⟩ => rfl⟩
    refine ⟨pt b ⟨l.val / 128, by omega⟩, flush0_8 _, ?_⟩
    have h := emb8 (pt b ⟨l.val / 128, by omega⟩) r ⟨l.val % 128, by omega⟩
    rw [ptB_pt, ptP_pt] at h
    have e : wideK ⟨l.val / 128, by omega⟩ ⟨l.val % 128, by omega⟩ = l := Fin.ext (by show l.val / 128 * 128 + l.val % 128 = l.val; omega)
    rw [e] at h
    rw [← h]
    exact View.emb_mem_set _ _

theorem emb5 (t : Fin cfg0.N) (n : Fin 16) (l : Fin 1024) : ((cfg0.win 5).blk t).view.emb (ix4 (0 : Fin 1) (0 : Fin 1) n l) = (ix4 (ptB t) (ptP t) n l : S8x8x16x1024.Idx) := by
  obtain ⟨e0, e1, e2, e3⟩ := (at4 t).1
  refine funext fun a => Fin.ext ?_
  refine (Pipeline.Window.rect_emb_val win0_5 t _ a).trans ?_
  match a with
  | ⟨0, _⟩ => show win0_5.index t 0 * 1 + 0 = t.val / 8; rw [e0]; omega
  | ⟨1, _⟩ => show win0_5.index t 1 * 1 + 0 = t.val % 8; rw [e1]; omega
  | ⟨2, _⟩ => show win0_5.index t 2 * 16 + n.val = n.val; rw [e2]; omega
  | ⟨3, _⟩ => show win0_5.index t 3 * 1024 + l.val = l.val; rw [e3]; omega

theorem final5 (c : Dev nD) : (dats m (kept m) 0 c).arrAt 5 cfg0.N = qsG (m ((c : Thread nD τ).loc main_arg0)) := by
  refine (dats m (kept m) 0 c).arrAt_eq_of_cover 5 (qsG (m ((c : Thread nD τ).loc main_arg0))) (fun t _ => ?_) fun i => ?_
  · show (cfg0.win 5).cut (grid0.coords t) ((dats m (kept m) 0 c).after 5 t) = _
    rw [after0_5]
    funext y
    obtain ⟨n, l, rfl⟩ : ∃ (n : Fin 16) (l : Fin 1024), y = ix4 (0 : Fin 1) (0 : Fin 1) n l := ⟨y 2, y 3, ix4_unit y⟩
    show valQs (iblk m c 0 t) (ix4 (0 : Fin 1) (0 : Fin 1) n l) = qsG _ (((cfg0.win 5).blk t).view.emb (ix4 (0 : Fin 1) (0 : Fin 1) n l))
    rw [emb5]
    exact congrArg kscale (qmax_blk _ _ _ _ (in0 m c t) n _)
  · obtain ⟨b, p, n, l, rfl⟩ : ∃ (b p : Fin 8) (n : Fin 16) (l : Fin 1024), i = (ix4 b p n l : S8x8x16x1024.Idx) := ⟨i 0, i 1, i 2, i 3, funext fun a => by match a with | ⟨0, _⟩ => rfl | ⟨1, _⟩ => rfl | ⟨2, _⟩ => rfl | ⟨3, _⟩ => rfl⟩
    refine ⟨pt b p, flush0_5 _, ?_⟩
    have h := emb5 (pt b p) n l
    rw [ptB_pt, ptP_pt] at h
    rw [← h]
    exact View.emb_mem_set _ _

theorem emb7 (t : Fin cfg0.N) (n : Fin 16) (l : Fin 128) : ((cfg0.win 7).blk t).view.emb (ix4 (0 : Fin 1) (0 : Fin 1) n l) = (ix4 (ptB t) (ptP t) n l : S8x8x16x128.Idx) := by
  obtain ⟨e0, e1, e2, e3⟩ := (at4 t).2.1
  refine funext fun a => Fin.ext ?_
  refine (Pipeline.Window.rect_emb_val win0_7 t _ a).trans ?_
  match a with
  | ⟨0, _⟩ => show win0_7.index t 0 * 1 + 0 = t.val / 8; rw [e0]; omega
  | ⟨1, _⟩ => show win0_7.index t 1 * 1 + 0 = t.val % 8; rw [e1]; omega
  | ⟨2, _⟩ => show win0_7.index t 2 * 16 + n.val = n.val; rw [e2]; omega
  | ⟨3, _⟩ => show win0_7.index t 3 * 128 + l.val = l.val; rw [e3]; omega

theorem final7 (c : Dev nD) : (dats m (kept m) 0 c).arrAt 7 cfg0.N = ksG (m ((c : Thread nD τ).loc main_arg1)) := by
  refine (dats m (kept m) 0 c).arrAt_eq_of_cover 7 (ksG (m ((c : Thread nD τ).loc main_arg1))) (fun t _ => ?_) fun i => ?_
  · show (cfg0.win 7).cut (grid0.coords t) ((dats m (kept m) 0 c).after 7 t) = _
    rw [after0_7]
    funext y
    obtain ⟨n, l, rfl⟩ : ∃ (n : Fin 16) (l : Fin 128), y = ix4 (0 : Fin 1) (0 : Fin 1) n l := ⟨y 2, y 3, ix4_unit y⟩
    show valKs (iblk m c 1 t) (ix4 (0 : Fin 1) (0 : Fin 1) n l) = ksG _ (((cfg0.win 7).blk t).view.emb (ix4 (0 : Fin 1) (0 : Fin 1) n l))
    rw [emb7]
    exact congrArg kscale (kmax_blk _ _ _ _ (in1 m c t) n _)
  · obtain ⟨b, p, n, l, rfl⟩ : ∃ (b p : Fin 8) (n : Fin 16) (l : Fin 128), i = (ix4 b p n l : S8x8x16x128.Idx) := ⟨i 0, i 1, i 2, i 3, funext fun a => by match a with | ⟨0, _⟩ => rfl | ⟨1, _⟩ => rfl | ⟨2, _⟩ => rfl | ⟨3, _⟩ => rfl⟩
    refine ⟨pt b p, flush0_7 _, ?_⟩
    have h := emb7 (pt b p) n l
    rw [ptB_pt, ptP_pt] at h
    rw [← h]
    exact View.emb_mem_set _ _

theorem emb9 (t : Fin cfg0.N) (n : Fin 16) (l : Fin 128) : ((cfg0.win 9).blk t).view.emb (ix4 (0 : Fin 1) (0 : Fin 1) n l) = (ix4 (ptB t) (ptP t) n l : S8x8x16x128.Idx) := by
  obtain ⟨e0, e1, e2, e3⟩ := (at4 t).2.2
  refine funext fun a => Fin.ext ?_
  refine (Pipeline.Window.rect_emb_val win0_9 t _ a).trans ?_
  match a with
  | ⟨0, _⟩ => show win0_9.index t 0 * 1 + 0 = t.val / 8; rw [e0]; omega
  | ⟨1, _⟩ => show win0_9.index t 1 * 1 + 0 = t.val % 8; rw [e1]; omega
  | ⟨2, _⟩ => show win0_9.index t 2 * 16 + n.val = n.val; rw [e2]; omega
  | ⟨3, _⟩ => show win0_9.index t 3 * 128 + l.val = l.val; rw [e3]; omega

theorem final9 (c : Dev nD) : (dats m (kept m) 0 c).arrAt 9 cfg0.N = ksG (m ((c : Thread nD τ).loc main_arg2)) := by
  refine (dats m (kept m) 0 c).arrAt_eq_of_cover 9 (ksG (m ((c : Thread nD τ).loc main_arg2))) (fun t _ => ?_) fun i => ?_
  · show (cfg0.win 9).cut (grid0.coords t) ((dats m (kept m) 0 c).after 9 t) = _
    rw [after0_9]
    funext y
    obtain ⟨n, l, rfl⟩ : ∃ (n : Fin 16) (l : Fin 128), y = ix4 (0 : Fin 1) (0 : Fin 1) n l := ⟨y 2, y 3, ix4_unit y⟩
    show valKs (iblk m c 2 t) (ix4 (0 : Fin 1) (0 : Fin 1) n l) = ksG _ (((cfg0.win 9).blk t).view.emb (ix4 (0 : Fin 1) (0 : Fin 1) n l))
    rw [emb9]
    exact congrArg kscale (kmax_blk _ _ _ _ (in2 m c t) n _)
  · obtain ⟨b, p, n, l, rfl⟩ : ∃ (b p : Fin 8) (n : Fin 16) (l : Fin 128), i = (ix4 b p n l : S8x8x16x128.Idx) := ⟨i 0, i 1, i 2, i 3, funext fun a => by match a with | ⟨0, _⟩ => rfl | ⟨1, _⟩ => rfl | ⟨2, _⟩ => rfl | ⟨3, _⟩ => rfl⟩
    refine ⟨pt b p, flush0_9 _, ?_⟩
    have h := emb9 (pt b p) n l
    rw [ptB_pt, ptP_pt] at h
    rw [← h]
    exact View.emb_mem_set _ _

/-! ### The attention result -/

theorem at3y : ∀ t : Fin grid0.N, win0_3.index t 0 = t.val / 8 ∧ win0_3.index t 1 = 0 ∧ win0_3.index t 2 = t.val % 8 := by decide +kernel

theorem emb3 (t : Fin cfg0.N) (r : Fin 2048) (l : Fin 512) : ((cfg0.win 3).blk t).view.emb (ix3 (0 : Fin 1) r l) = (ix3 (ptB t) r (wideQ (ptP t) l) : S8x2048x4096.Idx) := by
  obtain ⟨e0, e1, e2⟩ := at3y t
  refine funext fun a => Fin.ext ?_
  refine (Pipeline.Window.rect_emb_val win0_3 t _ a).trans ?_
  match a with
  | ⟨0, _⟩ => show win0_3.index t 0 * 1 + 0 = t.val / 8; rw [e0]; omega
  | ⟨1, _⟩ => show win0_3.index t 1 * 2048 + r.val = r.val; rw [e1]; omega
  | ⟨2, _⟩ => show win0_3.index t 2 * 512 + l.val = t.val % 8 * 512 + l.val; rw [e2]

/-- The score of a key of block `n` against a row of a query head, before scaling. -/
def scoreG (x0 : S8x2048x4096.Idx → EReal) (x1 : S8x2048x1024.Idx → EReal) (b : Fin 8) (r : Fin 2048) (c : Fin 4096) (n : Fin 16) (s : Fin 128) : EReal :=
  ∑ d : Fin 64, kcG x1 (ix3 b (⟨128 * n.val + s.val, by omega⟩ : Fin 2048) (⟨64 * (c.val / 256) + d.val, by omega⟩ : Fin 1024)) * qcG x0 (ix3 b r (⟨64 * (c.val / 64) + d.val, by omega⟩ : Fin 4096))

/-- The scale of the scores of block `n`. -/
def cscaleG (x0 : S8x2048x4096.Idx → EReal) (x1 : S8x2048x1024.Idx → EReal) (b : Fin 8) (r : Fin 2048) (c : Fin 4096) (n : Fin 16) : EReal :=
  kscale (qmaxG x0 b ⟨r.val / 128, by omega⟩ ⟨c.val / 64, by omega⟩) * Ideal.ofBits .f32 1040187392#32 * kscale (kmaxG x1 b n ⟨c.val / 256, by omega⟩)

/-- The attention result over the whole arrays. -/
def yV (x0 : S8x2048x4096.Idx → EReal) (x1 x2 : S8x2048x1024.Idx → EReal) (b : Fin 8) (r : Fin 2048) (c : Fin 4096) : EReal :=
  Tile.tileVal (scoreG x0 x1 b r c) (cscaleG x0 x1 b r c) (fun n => kscale (kmaxG x2 b n ⟨c.val / 256, by omega⟩))
    (fun n s => kcG x2 (ix3 b (⟨128 * n.val + s.val, by omega⟩ : Fin 2048) (⟨64 * (c.val / 256) + c.val % 64, by omega⟩ : Fin 1024)))

def yG (x0 : S8x2048x4096.Idx → EReal) (x1 x2 : S8x2048x1024.Idx → EReal) : S8x2048x4096.Idx → EReal := fun y => yV x0 x1 x2 (y 0) (y 1) (y 2)

theorem half_sum (f : Fin 128 → EReal) (g : Fin 64 → EReal) (h : ℕ) (hh : h < 2) (hz : ∀ l, l.val / 64 ≠ h → f l = 0) (hg : ∀ d : Fin 64, f ⟨64 * h + d.val, by omega⟩ = g d) :
    ∑ l, f l = ∑ d, g d := by
  refine (Finset.sum_of_injOn (fun d : Fin 64 => (⟨64 * h + d.val, by omega⟩ : Fin 128)) (fun a _ b _ e => ?_) (fun _ _ => Finset.mem_coe.2 (Finset.mem_univ _)) (fun l _ hl => hz l fun e => hl ?_) (fun d _ => (hg d).symm)).symm
  · have := congrArg Fin.val e
    exact Fin.ext (by dsimp only at this; omega)
  · exact ⟨⟨l.val % 64, by omega⟩, Finset.mem_coe.2 (Finset.mem_univ _), Fin.ext (by dsimp only; omega)⟩

theorem tile_congr {a a' : Fin 16 → Fin 128 → EReal} {cs cs' vs vs' : Fin 16 → EReal} {v v' : Fin 16 → Fin 128 → EReal} (h1 : ∀ n s, a n s = a' n s) (h2 : ∀ n, cs n = cs' n)
    (h3 : ∀ n, vs n = vs' n) (h4 : ∀ n s, v n s = v' n s) : Tile.tileVal a cs vs v = Tile.tileVal a' cs' vs' v' := by
  rw [funext fun n => funext (h1 n), funext h2, funext h3, funext fun n => funext (h4 n)]

theorem y_blk (x2 : FVec Ideal S1x2048x512 .bf16) (x3 x4 : FVec Ideal S1x2048x128 .bf16) (X0 : S8x2048x4096.Idx → EReal) (X1 X2 : S8x2048x1024.Idx → EReal) (b p : Fin 8)
    (h0 : ∀ r l, x2 (ix3 (0 : Fin 1) r l) = X0 (ix3 b r (wideQ p l))) (h1 : ∀ r l, x3 (ix3 (0 : Fin 1) r l) = X1 (ix3 b r (wideK p l)))
    (h2 : ∀ r l, x4 (ix3 (0 : Fin 1) r l) = X2 (ix3 b r (wideK p l))) (r : Fin 2048) (l : Fin 512) :
    valY x2 x3 x4 (ix3 (0 : Fin 1) r l) = yG X0 X1 X2 (ix3 b r (wideQ p l)) := by
  refine tile_congr (fun n s => ?_) (fun n => ?_) (fun n => ?_) fun n s => ?_
  · refine half_sum _ _ (l.val / 64 % 2) (by omega) (fun j hj => ?_) fun d => ?_
    · have e : qmask x2 (ix4 (⟨r.val / 128, by omega⟩ : Fin 16) (⟨l.val / 128, by omega⟩ : Fin 4) (⟨l.val / 64 % 2 * 128 + r.val % 128, by omega⟩ : Fin 256) j) = 0 := by
        refine if_neg ?_
        show ¬ j.val / 64 = (l.val / 64 % 2 * 128 + r.val % 128) / 128
        omega
      exact (congrArg (_ * ·) e).trans (mul_zero _)
    · have e : qmask x2 (ix4 (⟨r.val / 128, by omega⟩ : Fin 16) (⟨l.val / 128, by omega⟩ : Fin 4) (⟨l.val / 64 % 2 * 128 + r.val % 128, by omega⟩ : Fin 256) (⟨64 * (l.val / 64 % 2) + d.val, by omega⟩ : Fin 128))
          = qcG X0 (ix3 b r (⟨64 * ((wideQ p l).val / 64) + d.val, by omega⟩ : Fin 4096)) := by
        refine (if_pos ?_).trans ((qcode_blk x2 X0 b p h0 _ _).trans ?_)
        · show (64 * (l.val / 64 % 2) + d.val) / 64 = (l.val / 64 % 2 * 128 + r.val % 128) / 128
          omega
        · refine congrArg₂ (fun i j => qcG X0 (ix3 b i j)) (Fin.ext ?_) (Fin.ext ?_)
          · show r.val / 128 * 128 + (l.val / 64 % 2 * 128 + r.val % 128) % 128 = r.val
            omega
          · show p.val * 512 + (l.val / 128 * 128 + (64 * (l.val / 64 % 2) + d.val)) = 64 * ((p.val * 512 + l.val) / 64) + d.val
            omega
      refine congrArg₂ (· * ·) ((kcode_blk x3 X1 b p h1 _ _).trans ?_) e
      refine congrArg (fun j => kcG X1 (ix3 b _ j)) (Fin.ext ?_)
      show p.val * 128 + (64 * (l.val / 256) + (64 * (l.val / 64 % 2) + d.val) % 64) = 64 * ((p.val * 512 + l.val) / 256) + d.val
      omega
  · refine congrArg₂ (fun u w => kscale u * Ideal.ofBits .f32 1040187392#32 * kscale w) ((qmax_blk x2 X0 b p h0 _ _).trans ?_) ((kmax_blk x3 X1 b p h1 _ _).trans ?_)
    · refine congrArg (qmaxG X0 b _) (Fin.ext ?_)
      show p.val * 8 + (256 * (l.val / 128) + (l.val / 64 % 2 * 128 + r.val % 128)) / 128 = (p.val * 512 + l.val) / 64
      omega
    · refine congrArg (kmaxG X1 b n) (Fin.ext ?_)
      show p.val * 2 + l.val / 256 = (p.val * 512 + l.val) / 256
      omega
  · refine congrArg kscale ((kmax_blk x4 X2 b p h2 _ _).trans ?_)
    refine congrArg (kmaxG X2 b n) (Fin.ext ?_)
    show p.val * 2 + l.val / 256 = (p.val * 512 + l.val) / 256
    omega
  · refine (kcode_blk x4 X2 b p h2 _ _).trans ?_
    refine congrArg (fun j => kcG X2 (ix3 b _ j)) (Fin.ext ?_)
    show p.val * 128 + (64 * (l.val / 256) + l.val % 64) = 64 * ((p.val * 512 + l.val) / 256) + (p.val * 512 + l.val) % 64
    omega

theorem final3 (c : Dev nD) : (dats m (kept m) 0 c).arrAt 3 cfg0.N = yG (m ((c : Thread nD τ).loc main_arg0)) (m ((c : Thread nD τ).loc main_arg1)) (m ((c : Thread nD τ).loc main_arg2)) := by
  refine (dats m (kept m) 0 c).arrAt_eq_of_cover 3 (yG (m ((c : Thread nD τ).loc main_arg0)) (m ((c : Thread nD τ).loc main_arg1)) (m ((c : Thread nD τ).loc main_arg2))) (fun t _ => ?_) fun i => ?_
  · show (cfg0.win 3).cut (grid0.coords t) ((dats m (kept m) 0 c).after 3 t) = _
    rw [after0_3]
    funext y
    obtain ⟨r, l, rfl⟩ : ∃ (r : Fin 2048) (l : Fin 512), y = ix3 (0 : Fin 1) r l := ⟨y 1, y 2, ix3_unit y⟩
    show valY (iblk m c 0 t) (iblk m c 1 t) (iblk m c 2 t) (ix3 (0 : Fin 1) r l) = yG _ _ _ (((cfg0.win 3).blk t).view.emb (ix3 (0 : Fin 1) r l))
    rw [emb3]
    exact y_blk _ _ _ _ _ _ _ _ (in0 m c t) (in1 m c t) (in2 m c t) r l
  · obtain ⟨b, r, l, rfl⟩ : ∃ (b : Fin 8) (r : Fin 2048) (l : Fin 4096), i = (ix3 b r l : S8x2048x4096.Idx) := ⟨i 0, i 1, i 2, funext fun a => by match a with | ⟨0, _⟩ => rfl | ⟨1, _⟩ => rfl | ⟨2, _⟩ => rfl⟩
    refine ⟨pt b ⟨l.val / 512, by omega⟩, flush0_3 _, ?_⟩
    have h := emb3 (pt b ⟨l.val / 512, by omega⟩) r ⟨l.val % 512, by omega⟩
    rw [ptB_pt, ptP_pt] at h
    have e : wideQ ⟨l.val / 512, by omega⟩ ⟨l.val % 512, by omega⟩ = l := Fin.ext (by show l.val / 512 * 512 + l.val % 512 = l.val; omega)
    rw [e] at h
    rw [← h]
    exact View.emb_mem_set _ _

end Cert.KernelIdeal.Body
-- ==== Proof.RefQuant.lean ====
module

public import proofs.«01_k».proof.Proof.Gen.ReferenceIdeal.Value
public import proofs.«01_k».proof.Proof.Scale
public import Idealize.ShloMosaic.Lib.StableHlo.RunRead
public import Idealize.ShloMosaic.Lib.Pointwise

/-! The reference's quantiser, as functions of whole arrays, and what each holds at an index. -/

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.Tactic
open Cert.Scale

/-- The 254 powers of two of the normal numbers. -/
def pows : FVec Ideal S254 .f32 :=
  Host.powf (broadcastInDim S254 ![] bcast_S_S254 (constant S_ .f32 0x40000000#32))
    (sitofp .f32 (addi (broadcastInDim S254 ![] bcast_S_S254 (constantI S_ 32 4294967170#32)) (iotaInDim S254 32 0)))

theorem pows_apply (j : Fin 254) : pows (ix1 j) = (((2 : ℝ) ^ ((j.val : ℤ) - 126) : ℝ) : EReal) := by
  have h : (IntOp.addi 4294967170#32 (BitVec.ofNat 32 j.val)).toInt = (j.val : ℤ) - 126 := by
    revert j; decide +kernel
  unfold pows
  pointwise
  rw [two_f32, sitofp_eq, pow_two_coe, Real.rpow_intCast, h]

/-- A reduction over the fiber a family of indices runs through. -/
theorem reduce_fiber {s t u : Shape} {axes : List (Fin s.rank)} {α κ : Type} [Fintype κ] (op : α → α → α) [Std.Commutative op] [Std.Associative op]
    (x : s.Idx → α) (init : u.Idx → α) (h : s.ReducesTo axes t) (hu : 0 < u.numel) (j : t.Idx) (g : κ → s.Idx)
    (hg : Function.Injective g) (hp : ∀ i, h.drop i = j ↔ ∃ k, g k = i) :
    Host.reduce op x init h hu j = (Finset.univ : Finset κ).fold op (init (Shape.Idx.first hu)) (fun k => x (g k)) := by
  rw [Host.reduce_eq_fold]
  exact Finset.fold_filter_eq_fold_of_fiber op _ g hg hp _ _

theorem fold_count (s : Finset (Fin 254)) (y : EReal) :
    s.fold IntOp.addi 0#32 (fun k => BitVec.setWidth 32 (BitVec.ofBool (decide ((((2 : ℝ) ^ ((k.val : ℤ) - 126) : ℝ) : EReal) ≤ y))))
      = BitVec.ofNat 32 (s.filter fun j => (((2 : ℝ) ^ ((j.val : ℤ) - 126) : ℝ) : EReal) ≤ y).card := by
  induction s using Finset.cons_induction with
  | empty => rfl
  | cons a s ha ih =>
    rw [Finset.fold_cons, ih, Finset.filter_cons]
    split
    · next h =>
      rw [decide_eq_true h, Finset.card_cons, Nat.add_comm, BitVec.ofNat_add]
      rfl
    · next h =>
      rw [decide_eq_false h]
      exact BitVec.zero_add _

theorem fold_max_bot {κ : Type} (s : Finset κ) (f : κ → EReal) : s.fold max ⊥ f = s.sup f := rfl

theorem neg_inf : Ideal.ofBits .f32 0xFF800000#32 = ⊥ := by
  have e1 : ((0xFF800000#32).extractLsb' 31 1 == 1#1) = true := by decide
  have e2 : ((0xFF800000#32).extractLsb' 23 8).toNat = 255 := by decide
  have e3 : ((0xFF800000#32).extractLsb' 0 23).toNat = 0 := by decide
  simp only [Ideal.ofBits]
  unfold Ideal.ieee
  simp only [Nat.reduceAdd, e1, e2, e3]
  norm_num

/-- The size of a number. -/
abbrev mag (x : EReal) : EReal := max x (-x)

/-! ### Keys and values: 16 heads -/

/-- The greatest magnitude of each block of a head. -/
def amaxK (X : FVec Ideal S8x16x128x16x64 .f32) : FVec Ideal S8x16x1x16x1 .f32 :=
  broadcastInDim S8x16x1x16x1 ![0, 1, 3] bcast_S8x16x16_S8x16x1x16x1_0_1_3
    (Host.reduce FloatOps.maximumf (Host.absf X) (constant S_ .f32 0xFF800000#32) reducesTo_S8x16x128x16x64_S8x16x16_d2_4 h_S_)

/-- The count of powers at most each block's magnitude over 448. -/
def cntK (a : FVec Ideal S8x16x1x16x1 .f32) : IVec S8x16x1x16x1 32 :=
  Host.reduce IntOp.addi
    (extui 32 (cmpf .oge
      (broadcastInDim S8x16x1x16x1x254 ![0, 1, 2, 3, 4, 5] bcast_S8x16x1x16x1x1_S8x16x1x16x1x254_0_1_2_3_4_5
        (broadcastInDim S8x16x1x16x1x1 ![0, 1, 2, 3, 4] bcast_S8x16x1x16x1_S8x16x1x16x1x1_0_1_2_3_4
          (mulf a (broadcastInDim S8x16x1x16x1 ![] bcast_S_S8x16x1x16x1 (constant S_ .f32 0x3B124925#32)))))
      (broadcastInDim S8x16x1x16x1x254 ![0, 1, 2, 3, 4, 5] bcast_S1x1x1x1x1x254_S8x16x1x16x1x254_0_1_2_3_4_5
        (broadcastInDim S1x1x1x1x1x254 ![5] bcast_S254_S1x1x1x1x1x254_5 pows))) natLt_1_32)
    (constantI S_ 32 0#32) reducesTo_S8x16x1x16x1x254_S8x16x1x16x1_d5 h_S_

/-- The exponent of each block's scale. -/
def expK (a : FVec Ideal S8x16x1x16x1 .f32) : FVec Ideal S8x16x1x16x1 .f32 :=
  sitofp .f32 (select (cmpf .oeq a (broadcastInDim S8x16x1x16x1 ![] bcast_S_S8x16x1x16x1 (constant S_ .f32 0x00000000#32)))
    (broadcastInDim S8x16x1x16x1 ![] bcast_S_S8x16x1x16x1 (constantI S_ 32 0#32))
    (select (cmpi .eq (cntK a) (broadcastInDim S8x16x1x16x1 ![] bcast_S_S8x16x1x16x1 (constantI S_ 32 0#32)))
      (broadcastInDim S8x16x1x16x1 ![] bcast_S_S8x16x1x16x1 (constantI S_ 32 0#32))
      (subi (cntK a) (broadcastInDim S8x16x1x16x1 ![] bcast_S_S8x16x1x16x1 (constantI S_ 32 126#32)))))

def scaleK (a : FVec Ideal S8x16x1x16x1 .f32) : FVec Ideal S8x16x1x16x1 .f32 :=
  Host.powf (broadcastInDim S8x16x1x16x1 ![] bcast_S_S8x16x1x16x1 (constant S_ .f32 0x40000000#32)) (expK a)

def codesK (X : FVec Ideal S8x16x128x16x64 .f32) : FVec Ideal S8x16x128x16x64 .f32 :=
  minimumf (maximumf (mulf X (broadcastInDim S8x16x128x16x64 ![0, 1, 2, 3, 4] bcast_S8x16x1x16x1_S8x16x128x16x64_0_1_2_3_4
      (Host.powf (broadcastInDim S8x16x1x16x1 ![] bcast_S_S8x16x1x16x1 (constant S_ .f32 0x40000000#32)) (Host.negf (expK (amaxK X))))))
    (broadcastInDim S8x16x128x16x64 ![] bcast_S_S8x16x128x16x64 (constant S_ .f32 0xC3E00000#32)))
    (broadcastInDim S8x16x128x16x64 ![] bcast_S_S8x16x128x16x64 (constant S_ .f32 0x43E00000#32))

theorem amaxK_apply (X : FVec Ideal S8x16x128x16x64 .f32) (b : Fin 8) (n : Fin 16) (z : Fin 1) (h : Fin 16) (z' : Fin 1) :
    amaxK X (ix5 b n z h z') = Finset.univ.sup fun p : Fin 128 × Fin 64 => mag (X (ix5 b n p.1 h p.2)) := by
  unfold amaxK
  pointwise
  rw [Finset.fold_filter_eq_fold_of_fiber max _ (fun p : Fin 128 × Fin 64 => ix5 b n p.1 h p.2)
    (fun _ _ e => Prod.ext (congrFun e 2) (congrFun e 4)) (by
    intro i
    constructor
    · intro e
      refine ⟨(i 2, i 4), ?_⟩
      funext c
      match c with
      | ⟨0, _⟩ => exact Fin.ext (congrArg Fin.val (congrFun e ⟨0, by decide⟩)).symm
      | ⟨1, _⟩ => exact Fin.ext (congrArg Fin.val (congrFun e ⟨1, by decide⟩)).symm
      | ⟨2, _⟩ => rfl
      | ⟨3, _⟩ => exact Fin.ext (congrArg Fin.val (congrFun e ⟨2, by decide⟩)).symm
      | ⟨4, _⟩ => rfl
    · rintro ⟨k, rfl⟩
      funext c
      match c with
      | ⟨0, _⟩ => rfl
      | ⟨1, _⟩ => rfl
      | ⟨2, _⟩ => rfl), neg_inf, fold_max_bot]
  rfl

theorem cntK_apply (a : FVec Ideal S8x16x1x16x1 .f32) (b : Fin 8) (n : Fin 16) (z : Fin 1) (h : Fin 16) (z' : Fin 1) :
    cntK a (ix5 b n z h z') = BitVec.ofNat 32 (count (a (ix5 b n z h z') * Ideal.ofBits .f32 991054117#32)) := by
  obtain rfl := Subsingleton.elim z 0
  obtain rfl := Subsingleton.elim z' 0
  unfold cntK
  rw [reduce_fiber IntOp.addi _ _ _ _ _ (fun k : Fin 254 => ix6 b n (0 : Fin 1) h (0 : Fin 1) k) (fun _ _ e => congrFun e 5) (by
    intro i
    constructor
    · intro e
      refine ⟨i 5, ?_⟩
      funext c
      match c with
      | ⟨0, _⟩ => exact Fin.ext (congrArg Fin.val (congrFun e ⟨0, by decide⟩)).symm
      | ⟨1, _⟩ => exact Fin.ext (congrArg Fin.val (congrFun e ⟨1, by decide⟩)).symm
      | ⟨2, _⟩ => exact Fin.ext (congrArg Fin.val (congrFun e ⟨2, by decide⟩)).symm
      | ⟨3, _⟩ => exact Fin.ext (congrArg Fin.val (congrFun e ⟨3, by decide⟩)).symm
      | ⟨4, _⟩ => exact Fin.ext (congrArg Fin.val (congrFun e ⟨4, by decide⟩)).symm
      | ⟨5, _⟩ => rfl
    · rintro ⟨k, rfl⟩
      funext c
      match c with
      | ⟨0, _⟩ => rfl
      | ⟨1, _⟩ => rfl
      | ⟨2, _⟩ => rfl
      | ⟨3, _⟩ => rfl
      | ⟨4, _⟩ => rfl)]
  refine Eq.trans ?_ (fold_count _ _)
  show Finset.fold IntOp.addi 0#32 _ _ = _
  refine congrArg (fun f => Finset.fold IntOp.addi 0#32 f Finset.univ) (funext fun k => ?_)
  pointwise
  rw [pows_apply]

theorem expK_apply (a : FVec Ideal S8x16x1x16x1 .f32) (b : Fin 8) (n : Fin 16) (z : Fin 1) (h : Fin 16) (z' : Fin 1) :
    expK a (ix5 b n z h z') = FloatOps.sitofp (F := Ideal) .f32 (rexp (a (ix5 b n z h z')) (BitVec.ofNat 32 (count (a (ix5 b n z h z') * Ideal.ofBits .f32 991054117#32)))) := by
  rw [← cntK_apply]; rfl

theorem scaleK_apply (a : FVec Ideal S8x16x1x16x1 .f32) (b : Fin 8) (n : Fin 16) (z : Fin 1) (h : Fin 16) (z' : Fin 1) :
    scaleK a (ix5 b n z h z') = rscale (a (ix5 b n z h z')) := by
  unfold rscale; rw [← expK_apply]; rfl

theorem codesK_apply (X : FVec Ideal S8x16x128x16x64 .f32) (b : Fin 8) (n : Fin 16) (r : Fin 128) (h : Fin 16) (d : Fin 64) :
    codesK X (ix5 b n r h d) = min (max (X (ix5 b n r h d) * rinv (amaxK X (ix5 b n 0 h 0))) (Ideal.ofBits .f32 0xC3E00000#32)) (Ideal.ofBits .f32 0x43E00000#32) := by
  have e : rinv (amaxK X (ix5 b n 0 h 0)) = Ideal.pow (Ideal.ofBits .f32 0x40000000#32) (-(expK (amaxK X) (ix5 b n 0 h 0))) := by
    rw [expK_apply]; rfl
  rw [e]
  unfold codesK
  pointwise

/-! ### Queries: 64 heads -/

/-- The greatest magnitude of each block of a head. -/
def amaxQ (X : FVec Ideal S8x16x128x64x64 .f32) : FVec Ideal S8x16x1x64x1 .f32 :=
  broadcastInDim S8x16x1x64x1 ![0, 1, 3] bcast_S8x16x64_S8x16x1x64x1_0_1_3
    (Host.reduce FloatOps.maximumf (Host.absf X) (constant S_ .f32 0xFF800000#32) reducesTo_S8x16x128x64x64_S8x16x64_d2_4 h_S_)

/-- The count of powers at most each block's magnitude over 448. -/
def cntQ (a : FVec Ideal S8x16x1x64x1 .f32) : IVec S8x16x1x64x1 32 :=
  Host.reduce IntOp.addi
    (extui 32 (cmpf .oge
      (broadcastInDim S8x16x1x64x1x254 ![0, 1, 2, 3, 4, 5] bcast_S8x16x1x64x1x1_S8x16x1x64x1x254_0_1_2_3_4_5
        (broadcastInDim S8x16x1x64x1x1 ![0, 1, 2, 3, 4] bcast_S8x16x1x64x1_S8x16x1x64x1x1_0_1_2_3_4
          (mulf a (broadcastInDim S8x16x1x64x1 ![] bcast_S_S8x16x1x64x1 (constant S_ .f32 0x3B124925#32)))))
      (broadcastInDim S8x16x1x64x1x254 ![0, 1, 2, 3, 4, 5] bcast_S1x1x1x1x1x254_S8x16x1x64x1x254_0_1_2_3_4_5
        (broadcastInDim S1x1x1x1x1x254 ![5] bcast_S254_S1x1x1x1x1x254_5 pows))) natLt_1_32)
    (constantI S_ 32 0#32) reducesTo_S8x16x1x64x1x254_S8x16x1x64x1_d5 h_S_

/-- The exponent of each block's scale. -/
def expQ (a : FVec Ideal S8x16x1x64x1 .f32) : FVec Ideal S8x16x1x64x1 .f32 :=
  sitofp .f32 (select (cmpf .oeq a (broadcastInDim S8x16x1x64x1 ![] bcast_S_S8x16x1x64x1 (constant S_ .f32 0x00000000#32)))
    (broadcastInDim S8x16x1x64x1 ![] bcast_S_S8x16x1x64x1 (constantI S_ 32 0#32))
    (select (cmpi .eq (cntQ a) (broadcastInDim S8x16x1x64x1 ![] bcast_S_S8x16x1x64x1 (constantI S_ 32 0#32)))
      (broadcastInDim S8x16x1x64x1 ![] bcast_S_S8x16x1x64x1 (constantI S_ 32 0#32))
      (subi (cntQ a) (broadcastInDim S8x16x1x64x1 ![] bcast_S_S8x16x1x64x1 (constantI S_ 32 126#32)))))

def scaleQ (a : FVec Ideal S8x16x1x64x1 .f32) : FVec Ideal S8x16x1x64x1 .f32 :=
  Host.powf (broadcastInDim S8x16x1x64x1 ![] bcast_S_S8x16x1x64x1 (constant S_ .f32 0x40000000#32)) (expQ a)

def codesQ (X : FVec Ideal S8x16x128x64x64 .f32) : FVec Ideal S8x16x128x64x64 .f32 :=
  minimumf (maximumf (mulf X (broadcastInDim S8x16x128x64x64 ![0, 1, 2, 3, 4] bcast_S8x16x1x64x1_S8x16x128x64x64_0_1_2_3_4
      (Host.powf (broadcastInDim S8x16x1x64x1 ![] bcast_S_S8x16x1x64x1 (constant S_ .f32 0x40000000#32)) (Host.negf (expQ (amaxQ X))))))
    (broadcastInDim S8x16x128x64x64 ![] bcast_S_S8x16x128x64x64 (constant S_ .f32 0xC3E00000#32)))
    (broadcastInDim S8x16x128x64x64 ![] bcast_S_S8x16x128x64x64 (constant S_ .f32 0x43E00000#32))

theorem amaxQ_apply (X : FVec Ideal S8x16x128x64x64 .f32) (b : Fin 8) (n : Fin 16) (z : Fin 1) (h : Fin 64) (z' : Fin 1) :
    amaxQ X (ix5 b n z h z') = Finset.univ.sup fun p : Fin 128 × Fin 64 => mag (X (ix5 b n p.1 h p.2)) := by
  unfold amaxQ
  pointwise
  rw [Finset.fold_filter_eq_fold_of_fiber max _ (fun p : Fin 128 × Fin 64 => ix5 b n p.1 h p.2)
    (fun _ _ e => Prod.ext (congrFun e 2) (congrFun e 4)) (by
    intro i
    constructor
    · intro e
      refine ⟨(i 2, i 4), ?_⟩
      funext c
      match c with
      | ⟨0, _⟩ => exact Fin.ext (congrArg Fin.val (congrFun e ⟨0, by decide⟩)).symm
      | ⟨1, _⟩ => exact Fin.ext (congrArg Fin.val (congrFun e ⟨1, by decide⟩)).symm
      | ⟨2, _⟩ => rfl
      | ⟨3, _⟩ => exact Fin.ext (congrArg Fin.val (congrFun e ⟨2, by decide⟩)).symm
      | ⟨4, _⟩ => rfl
    · rintro ⟨k, rfl⟩
      funext c
      match c with
      | ⟨0, _⟩ => rfl
      | ⟨1, _⟩ => rfl
      | ⟨2, _⟩ => rfl), neg_inf, fold_max_bot]
  rfl

theorem cntQ_apply (a : FVec Ideal S8x16x1x64x1 .f32) (b : Fin 8) (n : Fin 16) (z : Fin 1) (h : Fin 64) (z' : Fin 1) :
    cntQ a (ix5 b n z h z') = BitVec.ofNat 32 (count (a (ix5 b n z h z') * Ideal.ofBits .f32 991054117#32)) := by
  obtain rfl := Subsingleton.elim z 0
  obtain rfl := Subsingleton.elim z' 0
  unfold cntQ
  rw [reduce_fiber IntOp.addi _ _ _ _ _ (fun k : Fin 254 => ix6 b n (0 : Fin 1) h (0 : Fin 1) k) (fun _ _ e => congrFun e 5) (by
    intro i
    constructor
    · intro e
      refine ⟨i 5, ?_⟩
      funext c
      match c with
      | ⟨0, _⟩ => exact Fin.ext (congrArg Fin.val (congrFun e ⟨0, by decide⟩)).symm
      | ⟨1, _⟩ => exact Fin.ext (congrArg Fin.val (congrFun e ⟨1, by decide⟩)).symm
      | ⟨2, _⟩ => exact Fin.ext (congrArg Fin.val (congrFun e ⟨2, by decide⟩)).symm
      | ⟨3, _⟩ => exact Fin.ext (congrArg Fin.val (congrFun e ⟨3, by decide⟩)).symm
      | ⟨4, _⟩ => exact Fin.ext (congrArg Fin.val (congrFun e ⟨4, by decide⟩)).symm
      | ⟨5, _⟩ => rfl
    · rintro ⟨k, rfl⟩
      funext c
      match c with
      | ⟨0, _⟩ => rfl
      | ⟨1, _⟩ => rfl
      | ⟨2, _⟩ => rfl
      | ⟨3, _⟩ => rfl
      | ⟨4, _⟩ => rfl)]
  refine Eq.trans ?_ (fold_count _ _)
  show Finset.fold IntOp.addi 0#32 _ _ = _
  refine congrArg (fun f => Finset.fold IntOp.addi 0#32 f Finset.univ) (funext fun k => ?_)
  pointwise
  rw [pows_apply]

theorem expQ_apply (a : FVec Ideal S8x16x1x64x1 .f32) (b : Fin 8) (n : Fin 16) (z : Fin 1) (h : Fin 64) (z' : Fin 1) :
    expQ a (ix5 b n z h z') = FloatOps.sitofp (F := Ideal) .f32 (rexp (a (ix5 b n z h z')) (BitVec.ofNat 32 (count (a (ix5 b n z h z') * Ideal.ofBits .f32 991054117#32)))) := by
  rw [← cntQ_apply]; rfl

theorem scaleQ_apply (a : FVec Ideal S8x16x1x64x1 .f32) (b : Fin 8) (n : Fin 16) (z : Fin 1) (h : Fin 64) (z' : Fin 1) :
    scaleQ a (ix5 b n z h z') = rscale (a (ix5 b n z h z')) := by
  unfold rscale; rw [← expQ_apply]; rfl

theorem codesQ_apply (X : FVec Ideal S8x16x128x64x64 .f32) (b : Fin 8) (n : Fin 16) (r : Fin 128) (h : Fin 64) (d : Fin 64) :
    codesQ X (ix5 b n r h d) = min (max (X (ix5 b n r h d) * rinv (amaxQ X (ix5 b n 0 h 0))) (Ideal.ofBits .f32 0xC3E00000#32)) (Ideal.ofBits .f32 0x43E00000#32) := by
  have e : rinv (amaxQ X (ix5 b n 0 h 0)) = Ideal.pow (Ideal.ofBits .f32 0x40000000#32) (-(expQ (amaxQ X) (ix5 b n 0 h 0))) := by
    rw [expQ_apply]; rfl
  rw [e]
  unfold codesQ
  pointwise

variable (m : (ℓ : Loc nD τ sig) → Buf (Elt Ideal) ℓ)

/-- The argument's blocks, by heads. -/
abbrev blkK (x : FVec Ideal S8x2048x1024 .bf16) : FVec Ideal S8x16x128x16x64 .f32 :=
  extf .f32 (shapeCast S8x16x128x16x64 x shapeCasts_S8x2048x1024_S8x16x128x16x64) bitsLt_bf16_f32

abbrev blkQ (x : FVec Ideal S8x2048x4096 .bf16) : FVec Ideal S8x16x128x64x64 .f32 :=
  extf .f32 (shapeCast S8x16x128x64x64 x shapeCasts_S8x2048x4096_S8x16x128x64x64) bitsLt_bf16_f32

theorem V_v218 (c : Dev nD) : V m c main_v218 = shapeCast S8x2048x1024 (codesK (blkK (m (c.tc.loc main_arg1)))) shapeCasts_S8x16x128x16x64_S8x2048x1024 := by
  unfold V
  after_reads_simp
  rfl

theorem V_v219 (c : Dev nD) : V m c main_v219 = shapeCast S8x2048x1024 (codesK (blkK (m (c.tc.loc main_arg2)))) shapeCasts_S8x16x128x16x64_S8x2048x1024 := by
  unfold V
  after_reads_simp
  rfl

theorem V_v217 (c : Dev nD) : V m c main_v217 = shapeCast S8x2048x4096 (codesQ (blkQ (m (c.tc.loc main_arg0)))) shapeCasts_S8x16x128x64x64_S8x2048x4096 := by
  unfold V
  after_reads_simp
  rfl

/-- The scales of the blocks of a head, along the lanes of its pair. -/
def lanesK (y : FVec Ideal S8x16x1x16x1 .f32) : FVec Ideal S8x8x16x128 .f32 :=
  shapeCast S8x8x16x128 (broadcastInDim S8x8x16x2x64 ![0, 1, 2, 3] bcast_S8x8x16x2_S8x8x16x2x64_0_1_2_3
    (transpose S8x8x16x2 [0, 2, 1, 3] (shapeCast S8x16x8x2 (shapeCast S8x16x16 y shapeCasts_S8x16x1x16x1_S8x16x16)
      shapeCasts_S8x16x16_S8x16x8x2) transposes_S8x16x8x2_S8x8x16x2_0_2_1_3)) shapeCasts_S8x8x16x2x64_S8x8x16x128

def lanesQ (y : FVec Ideal S8x16x1x64x1 .f32) : FVec Ideal S8x8x16x1024 .f32 :=
  shapeCast S8x8x16x1024 (broadcastInDim S8x8x16x8x128 ![0, 1, 2, 3] bcast_S8x8x16x8_S8x8x16x8x128_0_1_2_3
    (transpose S8x8x16x8 [0, 2, 1, 3] (shapeCast S8x16x8x8 (shapeCast S8x16x64 y shapeCasts_S8x16x1x64x1_S8x16x64)
      shapeCasts_S8x16x64_S8x16x8x8) transposes_S8x16x8x8_S8x8x16x8_0_2_1_3)) shapeCasts_S8x8x16x8x128_S8x8x16x1024

theorem lanesK_apply (y : FVec Ideal S8x16x1x16x1 .f32) (b p : Fin 8) (n : Fin 16) (l : Fin 128) :
    lanesK y (ix4 b p n l) = y (ix5 b n 0 ⟨p.val * 2 + l.val / 64, by omega⟩ 0) := by
  unfold lanesK
  pointwise

theorem lanesQ_apply (y : FVec Ideal S8x16x1x64x1 .f32) (b p : Fin 8) (n : Fin 16) (l : Fin 1024) :
    lanesQ y (ix4 b p n l) = y (ix5 b n 0 ⟨p.val * 8 + l.val / 128, by omega⟩ 0) := by
  unfold lanesQ
  pointwise

theorem V_v212 (c : Dev nD) : V m c main_v212 = lanesK (scaleK (amaxK (blkK (m (c.tc.loc main_arg1))))) := by
  unfold V
  after_reads_simp
  rfl

theorem V_v216 (c : Dev nD) : V m c main_v216 = lanesK (scaleK (amaxK (blkK (m (c.tc.loc main_arg2))))) := by
  unfold V
  after_reads_simp
  rfl

theorem V_v208 (c : Dev nD) : V m c main_v208 = lanesQ (scaleQ (amaxQ (blkQ (m (c.tc.loc main_arg0))))) := by
  unfold V
  after_reads_simp
  rfl

end Cert.ReferenceIdeal.Value
-- ==== Proof.RefVals.lean ====
module

public import proofs.«01_k».proof.Proof.RefQuant

/-! The reference's results, as functions of the argument arrays at an index. -/

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.Tactic
open Cert.Scale

theorem at0 : ∀ t : Fin grid0.N, ∀ a : Fin 3, win0_0.index t a = 0 ∧ win0_1.index t a = 0 ∧ win0_2.index t a = 0
    ∧ win0_3.index t a = 0 ∧ win0_4.index t a = 0 ∧ win0_5.index t a = 0 := by decide +kernel

theorem emb0 (t : Fin cfg0.N) (y : S8x2048x4096.Idx) : ((cfg0.win 0).blk t).view.emb y = y :=
  funext fun a => Fin.ext ((Pipeline.Window.rect_emb_val win0_0 t y a).trans (by rw [(at0 t a).1]; omega))
theorem emb1 (t : Fin cfg0.N) (y : S8x2048x1024.Idx) : ((cfg0.win 1).blk t).view.emb y = y :=
  funext fun a => Fin.ext ((Pipeline.Window.rect_emb_val win0_1 t y a).trans (by rw [(at0 t a).2.1]; omega))
theorem emb2 (t : Fin cfg0.N) (y : S8x2048x1024.Idx) : ((cfg0.win 2).blk t).view.emb y = y :=
  funext fun a => Fin.ext ((Pipeline.Window.rect_emb_val win0_2 t y a).trans (by rw [(at0 t a).2.2.1]; omega))
theorem emb3 (t : Fin cfg0.N) (y : S8x2048x4096.Idx) : ((cfg0.win 3).blk t).view.emb y = y :=
  funext fun a => Fin.ext ((Pipeline.Window.rect_emb_val win0_3 t y a).trans (by rw [(at0 t a).2.2.2.1]; omega))
theorem emb4 (t : Fin cfg0.N) (y : S8x2048x1024.Idx) : ((cfg0.win 4).blk t).view.emb y = y :=
  funext fun a => Fin.ext ((Pipeline.Window.rect_emb_val win0_4 t y a).trans (by rw [(at0 t a).2.2.2.2.1]; omega))
theorem emb5 (t : Fin cfg0.N) (y : S8x2048x1024.Idx) : ((cfg0.win 5).blk t).view.emb y = y :=
  funext fun a => Fin.ext ((Pipeline.Window.rect_emb_val win0_5 t y a).trans (by rw [(at0 t a).2.2.2.2.2]; omega))

variable (m : (ℓ : Loc nD τ sig) → Buf (Elt Ideal) ℓ)

/-- The one point of the call. -/
def t0 : Fin cfg0.N := ⟨0, by decide +kernel⟩

theorem final3 (c : Dev nD) : (dats m 0 c).arrAt 3 cfg0.N = (V m c main_v217 : S8x2048x4096.Idx → EReal) := by
  refine (dats m 0 c).arrAt_eq_of_cover 3 (V m c main_v217 : S8x2048x4096.Idx → EReal) (fun t _ => ?_) fun i => ?_
  · rw [flushed3]
    funext y
    show View.canon [⟨r0_0, k0_pay1 (View.ld (iblk m c 0 t) r0_0)⟩] y = (V m c main_v217 : S8x2048x4096.Idx → EReal) (((cfg0.win 3).blk t).view.emb y)
    refine (canon3_eq _ y).trans (Eq.trans ?_ (congrArg _ (emb3 t y).symm))
    show (V m c main_v217 : S8x2048x4096.Idx → EReal) (((cfg0.win 0).blk t).view.emb (r0_0.idx (ix3_0 y))) = _
    refine (congrArg _ (emb0 t _)).trans ?_
    refine congrArg (V m c main_v217 : S8x2048x4096.Idx → EReal) (funext fun a => Fin.ext ?_)
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  · have h : ((cfg0.win 3).blk t0).view.emb i ∈ ((cfg0.win 3).blk t0).view.set := View.emb_mem_set _ _
    rw [emb3 t0 i] at h
    exact ⟨t0, by decide +kernel, h⟩

theorem final4 (c : Dev nD) : (dats m 0 c).arrAt 4 cfg0.N = (V m c main_v218 : S8x2048x1024.Idx → EReal) := by
  refine (dats m 0 c).arrAt_eq_of_cover 4 (V m c main_v218 : S8x2048x1024.Idx → EReal) (fun t _ => ?_) fun i => ?_
  · rw [flushed4]
    funext y
    show View.canon [⟨r0_1, k0_pay2 (View.ld (iblk m c 1 t) r0_1)⟩] y = (V m c main_v218 : S8x2048x1024.Idx → EReal) (((cfg0.win 4).blk t).view.emb y)
    refine (canon4_eq _ y).trans (Eq.trans ?_ (congrArg _ (emb4 t y).symm))
    show (V m c main_v218 : S8x2048x1024.Idx → EReal) (((cfg0.win 1).blk t).view.emb (r0_1.idx (ix4_0 y))) = _
    refine (congrArg _ (emb1 t _)).trans ?_
    refine congrArg (V m c main_v218 : S8x2048x1024.Idx → EReal) (funext fun a => Fin.ext ?_)
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  · have h : ((cfg0.win 4).blk t0).view.emb i ∈ ((cfg0.win 4).blk t0).view.set := View.emb_mem_set _ _
    rw [emb4 t0 i] at h
    exact ⟨t0, by decide +kernel, h⟩

theorem final5 (c : Dev nD) : (dats m 0 c).arrAt 5 cfg0.N = (V m c main_v219 : S8x2048x1024.Idx → EReal) := by
  refine (dats m 0 c).arrAt_eq_of_cover 5 (V m c main_v219 : S8x2048x1024.Idx → EReal) (fun t _ => ?_) fun i => ?_
  · rw [flushed5]
    funext y
    show View.canon [⟨r0_1, k0_pay3 (View.ld (iblk m c 2 t) r0_1)⟩] y = (V m c main_v219 : S8x2048x1024.Idx → EReal) (((cfg0.win 5).blk t).view.emb y)
    refine (canon5_eq _ y).trans (Eq.trans ?_ (congrArg _ (emb5 t y).symm))
    show (V m c main_v219 : S8x2048x1024.Idx → EReal) (((cfg0.win 2).blk t).view.emb (r0_1.idx (ix5_0 y))) = _
    refine (congrArg _ (emb2 t _)).trans ?_
    refine congrArg (V m c main_v219 : S8x2048x1024.Idx → EReal) (funext fun a => Fin.ext ?_)
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  · have h : ((cfg0.win 5).blk t0).view.emb i ∈ ((cfg0.win 5).blk t0).view.set := View.emb_mem_set _ _
    rw [emb5 t0 i] at h
    exact ⟨t0, by decide +kernel, h⟩

theorem code_at {X : FVec Ideal S8x16x128x16x64 .f32} (b : Fin 8) (r : Fin 2048) (l : Fin 1024) :
    shapeCast S8x2048x1024 X shapeCasts_S8x16x128x16x64_S8x2048x1024 (ix3 b r l)
      = X (ix5 b (⟨r.val / 128, by omega⟩ : Fin 16) (⟨r.val % 128, by omega⟩ : Fin 128) (⟨l.val / 64, by omega⟩ : Fin 16) (⟨l.val % 64, by omega⟩ : Fin 64)) := by
  pointwise

theorem blkK_apply (x : FVec Ideal S8x2048x1024 .bf16) (b : Fin 8) (n : Fin 16) (r : Fin 128) (h : Fin 16) (d : Fin 64) :
    blkK x (ix5 b n r h d) = x (ix3 b (⟨n.val * 128 + r.val, by omega⟩ : Fin 2048) (⟨h.val * 64 + d.val, by omega⟩ : Fin 1024)) := by
  unfold blkK
  pointwise

theorem codeQ_at {X : FVec Ideal S8x16x128x64x64 .f32} (b : Fin 8) (r : Fin 2048) (l : Fin 4096) :
    shapeCast S8x2048x4096 X shapeCasts_S8x16x128x64x64_S8x2048x4096 (ix3 b r l)
      = X (ix5 b (⟨r.val / 128, by omega⟩ : Fin 16) (⟨r.val % 128, by omega⟩ : Fin 128) (⟨l.val / 64, by omega⟩ : Fin 64) (⟨l.val % 64, by omega⟩ : Fin 64)) := by
  pointwise

theorem blkQ_apply (x : FVec Ideal S8x2048x4096 .bf16) (b : Fin 8) (n : Fin 16) (r : Fin 128) (h : Fin 64) (d : Fin 64) :
    blkQ x (ix5 b n r h d) = x (ix3 b (⟨n.val * 128 + r.val, by omega⟩ : Fin 2048) (⟨h.val * 64 + d.val, by omega⟩ : Fin 4096)) := by
  unfold blkQ
  pointwise

end Cert.ReferenceIdeal.Value
-- ==== Proof.RefAttn.lean ====
module

public import proofs.«01_k».proof.Proof.RefQuant

/-! The reference's attention, as functions of whole arrays, and what each holds at an index. -/

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.Tactic
open Cert.Scale

/-- A sum over the fiber a family of indices runs through. -/
theorem sum_fiber {s t u : Shape} {axes : List (Fin s.rank)} {κ : Type} [Fintype κ]
    (x : FVec Ideal s .f32) (init : u.Idx → Ideal .f32) (h : s.ReducesTo axes t) (hu : 0 < u.numel) (j : t.Idx) (g : κ → s.Idx)
    (hg : Function.Injective g) (hp : ∀ i, h.drop i = j ↔ ∃ k, g k = i) :
    Host.reduceAdd x init h hu j = (init (Shape.Idx.first hu) + ∑ k, x (g k) : EReal) := by
  classical
  rw [Host.reduceAdd_apply, Ideal.hostReduceAdd_def]
  unfold Ideal.hostReduceAdd
  have e : (Finset.univ.filter fun i => h.drop i = j) = Finset.univ.image g := by
    ext i
    simp [hp]
  rw [e, Finset.sum_image fun a _ b _ he => hg he]

/-- The score scales: a query block's scale, an eighth, and a key block's scale. -/
noncomputable def csR (sq : FVec Ideal S8x16x1x64x1 .f32) (sk : FVec Ideal S8x16x1x16x1 .f32) : FVec Ideal S8x16x4x16x1x16x1 .f32 :=
  mulf (broadcastInDim S8x16x4x16x1x16x1 ![0, 1, 2, 3, 4, 5, 6] bcast_S8x16x4x16x1x1x1_S8x16x4x16x1x16x1_0_1_2_3_4_5_6
      (mulf (broadcastInDim S8x16x4x16x1x1x1 ![0, 1, 2, 3] bcast_S8x16x4x16_S8x16x4x16x1x1x1_0_1_2_3
          (transpose S8x16x4x16 [0, 2, 3, 1] (shapeCast S8x16x16x4 (shapeCast S8x16x64 sq shapeCasts_S8x16x1x64x1_S8x16x64)
            shapeCasts_S8x16x64_S8x16x16x4) transposes_S8x16x16x4_S8x16x4x16_0_2_3_1))
        (broadcastInDim S8x16x4x16x1x1x1 ![] bcast_S_S8x16x4x16x1x1x1 (constant S_ .f32 0x3E000000#32))))
    (broadcastInDim S8x16x4x16x1x16x1 ![0, 1, 2, 3, 4, 5, 6] bcast_S8x16x1x1x1x16x1_S8x16x4x16x1x16x1_0_1_2_3_4_5_6
      (broadcastInDim S8x16x1x1x1x16x1 ![0, 1, 5] bcast_S8x16x16_S8x16x1x1x1x16x1_0_1_5
        (transpose S8x16x16 [0, 2, 1] (shapeCast S8x16x16 sk shapeCasts_S8x16x1x16x1_S8x16x16) transposes_S8x16x16_S8x16x16_0_2_1)))

theorem csR_apply (sq : FVec Ideal S8x16x1x64x1 .f32) (sk : FVec Ideal S8x16x1x16x1 .f32) (b : Fin 8) (k : Fin 16) (g : Fin 4) (i n : Fin 16) :
    csR sq sk (ix7 b k g i (0 : Fin 1) n (0 : Fin 1)) = sq (ix5 b i 0 ⟨k.val * 4 + g.val, by omega⟩ 0) * Ideal.ofBits .f32 1040187392#32 * sk (ix5 b n 0 k 0) := by
  unfold csR
  pointwise

/-- The products of keys and queries. -/
noncomputable def dotR (ck : FVec Ideal S8x16x128x16x64 .f32) (cq : FVec Ideal S8x16x128x64x64 .f32) : FVec Ideal S8x16x4x16x128x16x128 .f32 :=
  transpose S8x16x4x16x128x16x128 [0, 1, 6, 4, 5, 2, 3]
    (Host.dotGeneral dot_S8x16x128x16x64_S8x16x128x16x4x64_S8x16x16x128x16x128x4_4_5_12_124_03_03 none ck
      (shapeCast S8x16x128x16x4x64 cq shapeCasts_S8x16x128x64x64_S8x16x128x16x4x64))
    transposes_S8x16x16x128x16x128x4_S8x16x4x16x128x16x128_0_1_6_4_5_2_3

theorem dotR_apply (ck : FVec Ideal S8x16x128x16x64 .f32) (cq : FVec Ideal S8x16x128x64x64 .f32) (b : Fin 8) (k : Fin 16) (g : Fin 4) (i : Fin 16) (q : Fin 128) (n : Fin 16) (s : Fin 128) :
    dotR ck cq (ix7 b k g i q n s) = ∑ d : Fin 64, ck (ix5 b n s k d) * cq (ix5 b i q ⟨k.val * 4 + g.val, by omega⟩ d) := by
  unfold dotR
  pointwise

/-- The scaled scores. -/
noncomputable def sR (a : FVec Ideal S8x16x4x16x128x16x128 .f32) (cs : FVec Ideal S8x16x4x16x1x16x1 .f32) : FVec Ideal S8x16x4x16x128x16x128 .f32 :=
  mulf a (broadcastInDim S8x16x4x16x128x16x128 ![0, 1, 2, 3, 4, 5, 6] bcast_S8x16x4x16x1x16x1_S8x16x4x16x128x16x128_0_1_2_3_4_5_6 cs)

theorem sR_apply (a : FVec Ideal S8x16x4x16x128x16x128 .f32) (cs : FVec Ideal S8x16x4x16x1x16x1 .f32) (b : Fin 8) (k : Fin 16) (g : Fin 4) (i : Fin 16) (q : Fin 128) (n : Fin 16) (s : Fin 128) :
    sR a cs (ix7 b k g i q n s) = a (ix7 b k g i q n s) * cs (ix7 b k g i (0 : Fin 1) n (0 : Fin 1)) := by
  unfold sR
  pointwise

/-- The greatest score of a row. -/
noncomputable def topR (s : FVec Ideal S8x16x4x16x128x16x128 .f32) : FVec Ideal S8x16x4x16x128 .f32 :=
  Host.reduce FloatOps.maximumf s (constant S_ .f32 0xFF800000#32) reducesTo_S8x16x4x16x128x16x128_S8x16x4x16x128_d5_6 h_S_

theorem topR_apply (x : FVec Ideal S8x16x4x16x128x16x128 .f32) (b : Fin 8) (k : Fin 16) (g : Fin 4) (i : Fin 16) (q : Fin 128) :
    topR x (ix5 b k g i q) = Finset.univ.sup fun p : Fin 16 × Fin 128 => x (ix7 b k g i q p.1 p.2) := by
  unfold topR
  rw [reduce_fiber FloatOps.maximumf _ _ _ _ _ (fun p : Fin 16 × Fin 128 => ix7 b k g i q p.1 p.2)
    (fun _ _ e => Prod.ext (congrFun e 5) (congrFun e 6)) (by
    intro i
    constructor
    · intro e
      refine ⟨(i 5, i 6), ?_⟩
      funext c
      match c with
      | ⟨0, _⟩ => exact Fin.ext (congrArg Fin.val (congrFun e ⟨0, by decide⟩)).symm
      | ⟨1, _⟩ => exact Fin.ext (congrArg Fin.val (congrFun e ⟨1, by decide⟩)).symm
      | ⟨2, _⟩ => exact Fin.ext (congrArg Fin.val (congrFun e ⟨2, by decide⟩)).symm
      | ⟨3, _⟩ => exact Fin.ext (congrArg Fin.val (congrFun e ⟨3, by decide⟩)).symm
      | ⟨4, _⟩ => exact Fin.ext (congrArg Fin.val (congrFun e ⟨4, by decide⟩)).symm
      | ⟨5, _⟩ => rfl
      | ⟨6, _⟩ => rfl
    · rintro ⟨k, rfl⟩
      funext c
      match c with
      | ⟨0, _⟩ => rfl
      | ⟨1, _⟩ => rfl
      | ⟨2, _⟩ => rfl
      | ⟨3, _⟩ => rfl
      | ⟨4, _⟩ => rfl)]
  refine Eq.trans ?_ (fold_max_bot _ _)
  show Finset.fold max (Ideal.ofBits .f32 0xFF800000#32) _ _ = _
  rw [neg_inf]

/-- The weights. -/
noncomputable def pR (s : FVec Ideal S8x16x4x16x128x16x128 .f32) : FVec Ideal S8x16x4x16x128x16x128 .f32 :=
  Host.exp (subf s (broadcastInDim S8x16x4x16x128x16x128 ![0, 1, 2, 3, 4, 5, 6] bcast_S8x16x4x16x128x1x1_S8x16x4x16x128x16x128_0_1_2_3_4_5_6
    (broadcastInDim S8x16x4x16x128x1x1 ![0, 1, 2, 3, 4] bcast_S8x16x4x16x128_S8x16x4x16x128x1x1_0_1_2_3_4 (topR s))))

theorem pR_apply (x : FVec Ideal S8x16x4x16x128x16x128 .f32) (b : Fin 8) (k : Fin 16) (g : Fin 4) (i : Fin 16) (q : Fin 128) (n : Fin 16) (s : Fin 128) :
    pR x (ix7 b k g i q n s) = Ideal.exp (x (ix7 b k g i q n s) - topR x (ix5 b k g i q)) := by
  unfold pR
  generalize topR x = w
  pointwise

/-- The sum of the weights of a row. -/
noncomputable def lR (p : FVec Ideal S8x16x4x16x128x16x128 .f32) : FVec Ideal S8x16x4x16x128 .f32 :=
  Host.reduceAdd p (constant S_ .f32 0x00000000#32) reducesTo_S8x16x4x16x128x16x128_S8x16x4x16x128_d5_6 h_S_

theorem lR_apply (x : FVec Ideal S8x16x4x16x128x16x128 .f32) (b : Fin 8) (k : Fin 16) (g : Fin 4) (i : Fin 16) (q : Fin 128) :
    lR x (ix5 b k g i q) = ∑ p : Fin 16 × Fin 128, x (ix7 b k g i q p.1 p.2) := by
  unfold lR
  rw [sum_fiber _ _ _ _ _ (fun p : Fin 16 × Fin 128 => ix7 b k g i q p.1 p.2)
    (fun _ _ e => Prod.ext (congrFun e 5) (congrFun e 6)) (by
    intro i
    constructor
    · intro e
      refine ⟨(i 5, i 6), ?_⟩
      funext c
      match c with
      | ⟨0, _⟩ => exact Fin.ext (congrArg Fin.val (congrFun e ⟨0, by decide⟩)).symm
      | ⟨1, _⟩ => exact Fin.ext (congrArg Fin.val (congrFun e ⟨1, by decide⟩)).symm
      | ⟨2, _⟩ => exact Fin.ext (congrArg Fin.val (congrFun e ⟨2, by decide⟩)).symm
      | ⟨3, _⟩ => exact Fin.ext (congrArg Fin.val (congrFun e ⟨3, by decide⟩)).symm
      | ⟨4, _⟩ => exact Fin.ext (congrArg Fin.val (congrFun e ⟨4, by decide⟩)).symm
      | ⟨5, _⟩ => rfl
      | ⟨6, _⟩ => rfl
    · rintro ⟨k, rfl⟩
      funext c
      match c with
      | ⟨0, _⟩ => rfl
      | ⟨1, _⟩ => rfl
      | ⟨2, _⟩ => rfl
      | ⟨3, _⟩ => rfl
      | ⟨4, _⟩ => rfl)]
  show Ideal.ofBits .f32 0x00000000#32 + _ = _
  rw [Ideal.ofBits_zero_f32, zero_add]

/-- The largest weight of each block. -/
noncomputable def amR (p : FVec Ideal S8x16x4x16x128x16x128 .f32) : FVec Ideal S8x16x4x16x128x16x1 .f32 :=
  broadcastInDim S8x16x4x16x128x16x1 ![0, 1, 2, 3, 4, 5] bcast_S8x16x4x16x128x16_S8x16x4x16x128x16x1_0_1_2_3_4_5
    (Host.reduce FloatOps.maximumf (Host.absf p) (constant S_ .f32 0xFF800000#32) reducesTo_S8x16x4x16x128x16x128_S8x16x4x16x128x16_d6 h_S_)

theorem red_apply (x : FVec Ideal S8x16x4x16x128x16x128 .f32) (b : Fin 8) (k : Fin 16) (g : Fin 4) (i : Fin 16) (q : Fin 128) (n : Fin 16) :
    Host.reduce FloatOps.maximumf x (constant S_ .f32 0xFF800000#32) reducesTo_S8x16x4x16x128x16x128_S8x16x4x16x128x16_d6 h_S_ (ix6 b k g i q n)
      = Finset.univ.sup fun s : Fin 128 => x (ix7 b k g i q n s) := by
  rw [reduce_fiber FloatOps.maximumf _ _ _ _ _ (fun s : Fin 128 => ix7 b k g i q n s) (fun _ _ e => congrFun e 6) (by
    intro i
    constructor
    · intro e
      refine ⟨i 6, ?_⟩
      funext c
      match c with
      | ⟨0, _⟩ => exact Fin.ext (congrArg Fin.val (congrFun e ⟨0, by decide⟩)).symm
      | ⟨1, _⟩ => exact Fin.ext (congrArg Fin.val (congrFun e ⟨1, by decide⟩)).symm
      | ⟨2, _⟩ => exact Fin.ext (congrArg Fin.val (congrFun e ⟨2, by decide⟩)).symm
      | ⟨3, _⟩ => exact Fin.ext (congrArg Fin.val (congrFun e ⟨3, by decide⟩)).symm
      | ⟨4, _⟩ => exact Fin.ext (congrArg Fin.val (congrFun e ⟨4, by decide⟩)).symm
      | ⟨5, _⟩ => exact Fin.ext (congrArg Fin.val (congrFun e ⟨5, by decide⟩)).symm
      | ⟨6, _⟩ => rfl
    · rintro ⟨k, rfl⟩
      funext c
      match c with
      | ⟨0, _⟩ => rfl
      | ⟨1, _⟩ => rfl
      | ⟨2, _⟩ => rfl
      | ⟨3, _⟩ => rfl
      | ⟨4, _⟩ => rfl
      | ⟨5, _⟩ => rfl)]
  refine Eq.trans ?_ (fold_max_bot _ _)
  show Finset.fold max (Ideal.ofBits .f32 0xFF800000#32) _ _ = _
  rw [neg_inf]

theorem amR_apply (x : FVec Ideal S8x16x4x16x128x16x128 .f32) (b : Fin 8) (k : Fin 16) (g : Fin 4) (i : Fin 16) (q : Fin 128) (n : Fin 16) :
    amR x (ix7 b k g i q n (0 : Fin 1)) = Finset.univ.sup fun s : Fin 128 => mag (x (ix7 b k g i q n s)) := by
  refine Eq.trans ?_ (red_apply (Host.absf x) b k g i q n)
  unfold amR
  generalize Host.reduce FloatOps.maximumf (Host.absf x) (constant S_ .f32 0xFF800000#32) reducesTo_S8x16x4x16x128x16x128_S8x16x4x16x128x16_d6 h_S_ = w
  pointwise

/-- The count of powers at most each block's largest weight over 448. -/
noncomputable def cntP (a : FVec Ideal S8x16x4x16x128x16x1 .f32) : IVec S8x16x4x16x128x16x1 32 :=
  Host.reduce IntOp.addi
    (extui 32 (cmpf .oge
      (broadcastInDim S8x16x4x16x128x16x1x254 ![0, 1, 2, 3, 4, 5, 6, 7] bcast_S8x16x4x16x128x16x1x1_S8x16x4x16x128x16x1x254_0_1_2_3_4_5_6_7
        (broadcastInDim S8x16x4x16x128x16x1x1 ![0, 1, 2, 3, 4, 5, 6] bcast_S8x16x4x16x128x16x1_S8x16x4x16x128x16x1x1_0_1_2_3_4_5_6
          (mulf a (broadcastInDim S8x16x4x16x128x16x1 ![] bcast_S_S8x16x4x16x128x16x1 (constant S_ .f32 0x3B124925#32)))))
      (broadcastInDim S8x16x4x16x128x16x1x254 ![0, 1, 2, 3, 4, 5, 6, 7] bcast_S1x1x1x1x1x1x1x254_S8x16x4x16x128x16x1x254_0_1_2_3_4_5_6_7
        (broadcastInDim S1x1x1x1x1x1x1x254 ![7] bcast_S254_S1x1x1x1x1x1x1x254_7 pows))) natLt_1_32)
    (constantI S_ 32 0#32) reducesTo_S8x16x4x16x128x16x1x254_S8x16x4x16x128x16x1_d7 h_S_

theorem cntP_apply (a : FVec Ideal S8x16x4x16x128x16x1 .f32) (b : Fin 8) (k : Fin 16) (g : Fin 4) (i : Fin 16) (q : Fin 128) (n : Fin 16) :
    cntP a (ix7 b k g i q n (0 : Fin 1)) = BitVec.ofNat 32 (count (a (ix7 b k g i q n (0 : Fin 1)) * Ideal.ofBits .f32 991054117#32)) := by
  unfold cntP
  rw [reduce_fiber IntOp.addi _ _ _ _ _ (fun j : Fin 254 => ix8 b k g i q n (0 : Fin 1) j) (fun _ _ e => congrFun e 7) (by
    intro i
    constructor
    · intro e
      refine ⟨i 7, ?_⟩
      funext c
      match c with
      | ⟨0, _⟩ => exact Fin.ext (congrArg Fin.val (congrFun e ⟨0, by decide⟩)).symm
      | ⟨1, _⟩ => exact Fin.ext (congrArg Fin.val (congrFun e ⟨1, by decide⟩)).symm
      | ⟨2, _⟩ => exact Fin.ext (congrArg Fin.val (congrFun e ⟨2, by decide⟩)).symm
      | ⟨3, _⟩ => exact Fin.ext (congrArg Fin.val (congrFun e ⟨3, by decide⟩)).symm
      | ⟨4, _⟩ => exact Fin.ext (congrArg Fin.val (congrFun e ⟨4, by decide⟩)).symm
      | ⟨5, _⟩ => exact Fin.ext (congrArg Fin.val (congrFun e ⟨5, by decide⟩)).symm
      | ⟨6, _⟩ => exact Fin.ext (congrArg Fin.val (congrFun e ⟨6, by decide⟩)).symm
      | ⟨7, _⟩ => rfl
    · rintro ⟨k, rfl⟩
      funext c
      match c with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl)]
  refine Eq.trans ?_ (fold_count _ _)
  show Finset.fold IntOp.addi 0#32 _ _ = _
  refine congrArg (fun f => Finset.fold IntOp.addi 0#32 f Finset.univ) (funext fun j => ?_)
  pointwise
  rw [pows_apply]

/-- The exponent of each block's scale. -/
noncomputable def expP (a : FVec Ideal S8x16x4x16x128x16x1 .f32) : FVec Ideal S8x16x4x16x128x16x1 .f32 :=
  sitofp .f32 (select (cmpf .oeq a (broadcastInDim S8x16x4x16x128x16x1 ![] bcast_S_S8x16x4x16x128x16x1 (constant S_ .f32 0x00000000#32)))
    (broadcastInDim S8x16x4x16x128x16x1 ![] bcast_S_S8x16x4x16x128x16x1 (constantI S_ 32 0#32))
    (select (cmpi .eq (cntP a) (broadcastInDim S8x16x4x16x128x16x1 ![] bcast_S_S8x16x4x16x128x16x1 (constantI S_ 32 0#32)))
      (broadcastInDim S8x16x4x16x128x16x1 ![] bcast_S_S8x16x4x16x128x16x1 (constantI S_ 32 0#32))
      (subi (cntP a) (broadcastInDim S8x16x4x16x128x16x1 ![] bcast_S_S8x16x4x16x128x16x1 (constantI S_ 32 126#32)))))

theorem expP_apply (a : FVec Ideal S8x16x4x16x128x16x1 .f32) (b : Fin 8) (k : Fin 16) (g : Fin 4) (i : Fin 16) (q : Fin 128) (n : Fin 16) :
    expP a (ix7 b k g i q n (0 : Fin 1)) = FloatOps.sitofp (F := Ideal) .f32 (rexp (a (ix7 b k g i q n (0 : Fin 1))) (BitVec.ofNat 32 (count (a (ix7 b k g i q n (0 : Fin 1)) * Ideal.ofBits .f32 991054117#32)))) := by
  rw [← cntP_apply]; rfl

noncomputable def scaleP (a : FVec Ideal S8x16x4x16x128x16x1 .f32) : FVec Ideal S8x16x4x16x128x16x1 .f32 :=
  Host.powf (broadcastInDim S8x16x4x16x128x16x1 ![] bcast_S_S8x16x4x16x128x16x1 (constant S_ .f32 0x40000000#32)) (expP a)

theorem scaleP_apply (a : FVec Ideal S8x16x4x16x128x16x1 .f32) (b : Fin 8) (k : Fin 16) (g : Fin 4) (i : Fin 16) (q : Fin 128) (n : Fin 16) :
    scaleP a (ix7 b k g i q n (0 : Fin 1)) = rscale (a (ix7 b k g i q n (0 : Fin 1))) := by
  unfold rscale; rw [← expP_apply]; rfl

noncomputable def invP (a : FVec Ideal S8x16x4x16x128x16x1 .f32) : FVec Ideal S8x16x4x16x128x16x1 .f32 :=
  Host.powf (broadcastInDim S8x16x4x16x128x16x1 ![] bcast_S_S8x16x4x16x128x16x1 (constant S_ .f32 0x40000000#32)) (Host.negf (expP a))

theorem invP_apply (a : FVec Ideal S8x16x4x16x128x16x1 .f32) (b : Fin 8) (k : Fin 16) (g : Fin 4) (i : Fin 16) (q : Fin 128) (n : Fin 16) :
    invP a (ix7 b k g i q n (0 : Fin 1)) = rinv (a (ix7 b k g i q n (0 : Fin 1))) := by
  unfold rinv; rw [← expP_apply]; rfl

/-- The weights' codes. -/
noncomputable def codesP (p : FVec Ideal S8x16x4x16x128x16x128 .f32) : FVec Ideal S8x16x4x16x128x16x128 .f32 :=
  minimumf (maximumf (mulf p (broadcastInDim S8x16x4x16x128x16x128 ![0, 1, 2, 3, 4, 5, 6] bcast_S8x16x4x16x128x16x1_S8x16x4x16x128x16x128_0_1_2_3_4_5_6 (invP (amR p))))
    (broadcastInDim S8x16x4x16x128x16x128 ![] bcast_S_S8x16x4x16x128x16x128 (constant S_ .f32 0xC3E00000#32)))
    (broadcastInDim S8x16x4x16x128x16x128 ![] bcast_S_S8x16x4x16x128x16x128 (constant S_ .f32 0x43E00000#32))

theorem codesP_apply (p : FVec Ideal S8x16x4x16x128x16x128 .f32) (b : Fin 8) (k : Fin 16) (g : Fin 4) (i : Fin 16) (q : Fin 128) (n : Fin 16) (s : Fin 128) :
    codesP p (ix7 b k g i q n s) = min (max (p (ix7 b k g i q n s) * rinv (amR p (ix7 b k g i q n (0 : Fin 1)))) (Ideal.ofBits .f32 0xC3E00000#32)) (Ideal.ofBits .f32 0x43E00000#32) := by
  rw [← invP_apply]
  unfold codesP
  generalize invP (amR p) = w
  pointwise

/-- The values weighted by the codes of a block. -/
noncomputable def pvR (cv : FVec Ideal S8x16x128x16x64 .f32) (cp : FVec Ideal S8x16x4x16x128x16x128 .f32) : FVec Ideal S8x16x4x16x128x16x64 .f32 :=
  transpose S8x16x4x16x128x16x64 [0, 1, 4, 5, 6, 2, 3]
    (Host.dotGeneral dot_S8x16x128x16x64_S8x16x4x16x128x16x128_S8x16x16x64x4x16x128_2_6_4_234_031_015 none cv cp)
    transposes_S8x16x16x64x4x16x128_S8x16x4x16x128x16x64_0_1_4_5_6_2_3

theorem pvR_apply (cv : FVec Ideal S8x16x128x16x64 .f32) (cp : FVec Ideal S8x16x4x16x128x16x128 .f32) (b : Fin 8) (k : Fin 16) (g : Fin 4) (i : Fin 16) (q : Fin 128) (n : Fin 16) (d : Fin 64) :
    pvR cv cp (ix7 b k g i q n d) = ∑ s : Fin 128, cv (ix5 b n s k d) * cp (ix7 b k g i q n s) := by
  unfold pvR
  pointwise

/-- The weighted sum of the blocks. -/
noncomputable def oR (pv : FVec Ideal S8x16x4x16x128x16x64 .f32) (sp : FVec Ideal S8x16x4x16x128x16x1 .f32) (sv : FVec Ideal S8x16x1x16x1 .f32) : FVec Ideal S8x16x4x16x128x64 .f32 :=
  Host.reduceAdd (mulf pv (broadcastInDim S8x16x4x16x128x16x64 ![0, 1, 2, 3, 4, 5, 6] bcast_S8x16x4x16x128x16x1_S8x16x4x16x128x16x64_0_1_2_3_4_5_6
      (mulf sp (broadcastInDim S8x16x4x16x128x16x1 ![0, 1, 2, 3, 4, 5, 6] bcast_S8x16x1x1x1x16x1_S8x16x4x16x128x16x1_0_1_2_3_4_5_6
        (broadcastInDim S8x16x1x1x1x16x1 ![0, 1, 5] bcast_S8x16x16_S8x16x1x1x1x16x1_0_1_5
          (transpose S8x16x16 [0, 2, 1] (shapeCast S8x16x16 sv shapeCasts_S8x16x1x16x1_S8x16x16) transposes_S8x16x16_S8x16x16_0_2_1))))))
    (constant S_ .f32 0x00000000#32) reducesTo_S8x16x4x16x128x16x64_S8x16x4x16x128x64_d5 h_S_

theorem oR_apply (pv : FVec Ideal S8x16x4x16x128x16x64 .f32) (sp : FVec Ideal S8x16x4x16x128x16x1 .f32) (sv : FVec Ideal S8x16x1x16x1 .f32) (b : Fin 8) (k : Fin 16) (g : Fin 4) (i : Fin 16) (q : Fin 128) (d : Fin 64) :
    oR pv sp sv (ix6 b k g i q d) = ∑ n : Fin 16, pv (ix7 b k g i q n d) * (sp (ix7 b k g i q n (0 : Fin 1)) * sv (ix5 b n 0 k 0)) := by
  unfold oR
  rw [sum_fiber _ _ _ _ _ (fun n : Fin 16 => ix7 b k g i q n d) (fun _ _ e => congrFun e 5) (by
    intro i
    constructor
    · intro e
      refine ⟨i 5, ?_⟩
      funext c
      match c with
      | ⟨0, _⟩ => exact Fin.ext (congrArg Fin.val (congrFun e ⟨0, by decide⟩)).symm
      | ⟨1, _⟩ => exact Fin.ext (congrArg Fin.val (congrFun e ⟨1, by decide⟩)).symm
      | ⟨2, _⟩ => exact Fin.ext (congrArg Fin.val (congrFun e ⟨2, by decide⟩)).symm
      | ⟨3, _⟩ => exact Fin.ext (congrArg Fin.val (congrFun e ⟨3, by decide⟩)).symm
      | ⟨4, _⟩ => exact Fin.ext (congrArg Fin.val (congrFun e ⟨4, by decide⟩)).symm
      | ⟨5, _⟩ => rfl
      | ⟨6, _⟩ => exact Fin.ext (congrArg Fin.val (congrFun e ⟨5, by decide⟩)).symm
    · rintro ⟨k, rfl⟩
      funext c
      match c with
      | ⟨0, _⟩ => rfl
      | ⟨1, _⟩ => rfl
      | ⟨2, _⟩ => rfl
      | ⟨3, _⟩ => rfl
      | ⟨4, _⟩ => rfl
      | ⟨5, _⟩ => rfl)]
  show Ideal.ofBits .f32 0x00000000#32 + _ = _
  rw [Ideal.ofBits_zero_f32, zero_add]
  refine Finset.sum_congr rfl fun n _ => ?_
  pointwise

/-- The rows of the result. -/
noncomputable def yR (o : FVec Ideal S8x16x4x16x128x64 .f32) (l : FVec Ideal S8x16x4x16x128 .f32) : FVec Ideal S8x2048x4096 .bf16 :=
  truncf .bf16 (shapeCast S8x2048x4096 (transpose S8x16x128x16x4x64 [0, 3, 4, 1, 2, 5]
    (Host.divf o (broadcastInDim S8x16x4x16x128x64 ![0, 1, 2, 3, 4, 5] bcast_S8x16x4x16x128x1_S8x16x4x16x128x64_0_1_2_3_4_5
      (broadcastInDim S8x16x4x16x128x1 ![0, 1, 2, 3, 4] bcast_S8x16x4x16x128_S8x16x4x16x128x1_0_1_2_3_4 l)))
    transposes_S8x16x4x16x128x64_S8x16x128x16x4x64_0_3_4_1_2_5) shapeCasts_S8x16x128x16x4x64_S8x2048x4096) bitsLt_bf16_f32

theorem yR_apply (o : FVec Ideal S8x16x4x16x128x64 .f32) (l : FVec Ideal S8x16x4x16x128 .f32) (b : Fin 8) (r : Fin 2048) (c : Fin 4096) :
    yR o l (ix3 b r c) = Ideal.div (o (ix6 b ⟨c.val / 256, by omega⟩ ⟨c.val / 64 % 4, by omega⟩ ⟨r.val / 128, by omega⟩ ⟨r.val % 128, by omega⟩ ⟨c.val % 64, by omega⟩))
      (l (ix5 b ⟨c.val / 256, by omega⟩ ⟨c.val / 64 % 4, by omega⟩ ⟨r.val / 128, by omega⟩ ⟨r.val % 128, by omega⟩)) := by
  unfold yR
  pointwise

/-- Scores to result. -/
noncomputable def fromS (s : FVec Ideal S8x16x4x16x128x16x128 .f32) (cv : FVec Ideal S8x16x128x16x64 .f32) (sv : FVec Ideal S8x16x1x16x1 .f32) : FVec Ideal S8x2048x4096 .bf16 :=
  yR (oR (pvR cv (codesP (pR s))) (scaleP (amR (pR s))) sv) (lR (pR s))

variable (m : (ℓ : Loc nD τ sig) → Buf (Elt Ideal) ℓ)

theorem V_v204 (c : Dev nD) : V m c main_v204 =
    fromS (sR (dotR (codesK (blkK (m (c.tc.loc main_arg1)))) (codesQ (blkQ (m (c.tc.loc main_arg0)))))
        (csR (scaleQ (amaxQ (blkQ (m (c.tc.loc main_arg0))))) (scaleK (amaxK (blkK (m (c.tc.loc main_arg1)))))))
      (codesK (blkK (m (c.tc.loc main_arg2)))) (scaleK (amaxK (blkK (m (c.tc.loc main_arg2))))) := by
  unfold V
  after_reads_simp
  rfl

end Cert.ReferenceIdeal.Value
-- ==== Proof.AttnEq.lean ====
module

public import proofs.«01_k».proof.Proof.TileVal
public import proofs.«01_k».proof.Proof.RefAttn

/-! A tile's arithmetic and plain attention give the same number, where the scores and their scales are real. -/

@[expose] public section

set_option maxRecDepth 16384

noncomputable section

namespace Cert.AttnEq

open Idealize.ShloMosaic Idealize.ShloMosaic.TcCoe
open Cert.Scale
open Cert.KernelIdeal.Tile (topOf amOf pqOf tileVal log2e)

/-- The greatest score, a weight, and the largest weight of a block, as plain attention has them. -/
def topP (a : Fin 16 → Fin 128 → EReal) (cs : Fin 16 → EReal) : EReal := Finset.univ.sup fun p : Fin 16 × Fin 128 => a p.1 p.2 * cs p.1
def wP (a : Fin 16 → Fin 128 → EReal) (cs : Fin 16 → EReal) (n : Fin 16) (s : Fin 128) : EReal := Ideal.exp (a n s * cs n - topP a cs)
def amP (a : Fin 16 → Fin 128 → EReal) (cs : Fin 16 → EReal) (n : Fin 16) : EReal := Finset.univ.sup fun s : Fin 128 => Cert.ReferenceIdeal.Value.mag (wP a cs n s)

/-- An entry of the reference's attention. -/
def plainVal (a : Fin 16 → Fin 128 → EReal) (cs vs : Fin 16 → EReal) (v : Fin 16 → Fin 128 → EReal) : EReal :=
  Ideal.div
    (∑ n : Fin 16, (∑ s : Fin 128, v n s * min (max (wP a cs n s * rinv (amP a cs n)) (Ideal.ofBits .f32 0xC3E00000#32)) (Ideal.ofBits .f32 0x43E00000#32)) * (rscale (amP a cs n) * vs n))
    (∑ p : Fin 16 × Fin 128, wP a cs p.1 p.2)

open Cert.ReferenceIdeal Cert.ReferenceIdeal.Value in
theorem fromS_apply (a : FVec Ideal S8x16x4x16x128x16x128 .f32) (cs : FVec Ideal S8x16x4x16x1x16x1 .f32) (cv : FVec Ideal S8x16x128x16x64 .f32) (sv : FVec Ideal S8x16x1x16x1 .f32)
    (b : Fin 8) (r : Fin 2048) (c : Fin 4096) :
    fromS (sR a cs) cv sv (ix3 b r c)
      = plainVal (fun n s => a (ix7 b (⟨c.val / 256, by omega⟩ : Fin 16) (⟨c.val / 64 % 4, by omega⟩ : Fin 4) (⟨r.val / 128, by omega⟩ : Fin 16) (⟨r.val % 128, by omega⟩ : Fin 128) n s))
        (fun n => cs (ix7 b (⟨c.val / 256, by omega⟩ : Fin 16) (⟨c.val / 64 % 4, by omega⟩ : Fin 4) (⟨r.val / 128, by omega⟩ : Fin 16) (0 : Fin 1) n (0 : Fin 1)))
        (fun n => sv (ix5 b n (0 : Fin 1) (⟨c.val / 256, by omega⟩ : Fin 16) (0 : Fin 1)))
        (fun n s => cv (ix5 b n s (⟨c.val / 256, by omega⟩ : Fin 16) (⟨c.val % 64, by omega⟩ : Fin 64))) := by
  unfold fromS
  rw [yR_apply, oR_apply, lR_apply]
  simp only [pvR_apply, codesP_apply, scaleP_apply, amR_apply, pR_apply, topR_apply, sR_apply]
  rfl

theorem coe_sum {ι : Type} (s : Finset ι) (f : ι → ℝ) : ∑ i ∈ s, (f i : EReal) = ((∑ i ∈ s, f i : ℝ) : EReal) := by
  induction s using Finset.cons_induction with
  | empty => rfl
  | cons a s ha ih => rw [Finset.sum_cons, Finset.sum_cons, ih, EReal.coe_add]

theorem sup_at {ι : Type} [Fintype ι] (f : ι → EReal) (i : ι) (h : ∀ j, f j ≤ f i) : Finset.univ.sup f = f i :=
  le_antisymm (Finset.sup_le fun j _ => h j) (Finset.le_sup (Finset.mem_univ i))

theorem exists_max {ι : Type} [Fintype ι] [Nonempty ι] (f : ι → ℝ) : ∃ i, ∀ j, f j ≤ f i := by
  obtain ⟨i, -, h⟩ := Finset.exists_max_image Finset.univ f Finset.univ_nonempty
  exact ⟨i, fun j => h j (Finset.mem_univ j)⟩

theorem exp_shift (x t : ℝ) (y : ℝ) (e : ℤ) :
    Real.rpow 2 (x * (y * (Real.log 2)⁻¹) - (t * (Real.log 2)⁻¹ + e)) = Real.exp (x * y - t) * 2 ^ (-e) := by
  have hl : Real.log 2 ≠ 0 := (Real.log_pos (by norm_num)).ne'
  rw [Real.rpow_eq_pow, Real.rpow_def_of_pos (by norm_num), show Real.log 2 * (x * (y * (Real.log 2)⁻¹) - (t * (Real.log 2)⁻¹ + e)) = (x * y - t) + Real.log 2 * (-(e : ℝ)) by field_simp; ring,
    Real.exp_add, ← Real.rpow_def_of_pos (by norm_num), ← Int.cast_neg, Real.rpow_intCast]

/-- The rows of a block, eight apart, are all its rows. -/
theorem sum_rows (f : Fin 16 → Fin 128 → ℝ) :
    ∑ r : Fin 8, ∑ n : Fin 16, ∑ g : Fin 16, f n ⟨g.val * 8 + r.val, by omega⟩ = ∑ p : Fin 16 × Fin 128, f p.1 p.2 := by
  rw [Finset.sum_comm, Fintype.sum_prod_type]
  refine Finset.sum_congr rfl fun n _ => ?_
  rw [Finset.sum_comm, ← Fintype.sum_prod_type (fun p : Fin 16 × Fin 8 => f n ⟨p.1.val * 8 + p.2.val, by omega⟩)]
  refine Fintype.sum_bijective (fun p : Fin 16 × Fin 8 => (⟨p.1.val * 8 + p.2.val, by omega⟩ : Fin 128)) ⟨fun a b e => ?_, fun s => ?_⟩ _ _ fun _ => rfl
  · have := congrArg Fin.val e
    dsimp only at this
    exact Prod.ext (Fin.ext (by omega)) (Fin.ext (by omega))
  · exact ⟨(⟨s.val / 8, by omega⟩, ⟨s.val % 8, by omega⟩), Fin.ext (by dsimp only; omega)⟩

theorem tile_eq (A : Fin 16 → Fin 128 → ℝ) (C : Fin 16 → ℝ) (hC : ∀ n, 0 ≤ C n) (vs : Fin 16 → EReal) (v : Fin 16 → Fin 128 → EReal) :
    tileVal (fun n s => (A n s : EReal)) (fun n => (C n : EReal)) vs v = plainVal (fun n s => (A n s : EReal)) (fun n => (C n : EReal)) vs v := by
  have hs : ∀ n, ∃ i, ∀ j, A n j ≤ A n i := fun n => exists_max (A n)
  choose s0 h0 using hs
  obtain ⟨n0, h1⟩ := exists_max fun n => A n (s0 n) * C n
  have hle : ∀ n s, A n s * C n ≤ A n0 (s0 n0) * C n0 := fun n s => (mul_le_mul_of_nonneg_right (h0 n s) (hC n)).trans (h1 n)
  have hsup : ∀ n, (Finset.univ.sup fun s => (A n s : EReal)) = (A n (s0 n) : EReal) := fun n => sup_at _ (s0 n) fun j => EReal.coe_le_coe_iff.2 (h0 n j)
  generalize hT : A n0 (s0 n0) * C n0 = T at hle
  have htop : topOf (fun n s => (A n s : EReal)) (fun n => (C n : EReal)) = (T : EReal) := by
    unfold topOf
    simp only [hsup, ← EReal.coe_mul]
    rw [sup_at _ n0 fun j => EReal.coe_le_coe_iff.2 (h1 j), hT]
  have htopP : topP (fun n s => (A n s : EReal)) (fun n => (C n : EReal)) = (T : EReal) := by
    unfold topP
    simp only [← EReal.coe_mul]
    rw [sup_at _ (n0, s0 n0) fun j => EReal.coe_le_coe_iff.2 (by dsimp only; rw [hT]; exact hle j.1 j.2)]
    dsimp only
    rw [hT]
  have hw : ∀ n s, wP (fun n s => (A n s : EReal)) (fun n => (C n : EReal)) n s = (Real.exp (A n s * C n - T) : EReal) := by
    intro n s
    unfold wP
    rw [htopP, ← EReal.coe_mul, ← EReal.coe_sub, Ideal.exp_coe]
  have ham : ∀ n, amOf (fun n s => (A n s : EReal)) (fun n => (C n : EReal)) n = (Real.exp (A n (s0 n) * C n - T) : EReal) := by
    intro n
    unfold amOf
    rw [htop, hsup, ← EReal.coe_mul, ← EReal.coe_sub, Ideal.exp_coe]
  have hamP : ∀ n, amP (fun n s => (A n s : EReal)) (fun n => (C n : EReal)) n = (Real.exp (A n (s0 n) * C n - T) : EReal) := by
    intro n
    have hm : ∀ s, Cert.ReferenceIdeal.Value.mag (Real.exp (A n s * C n - T) : EReal) = (Real.exp (A n s * C n - T) : EReal) := by
      intro s
      refine max_eq_left ?_
      rw [← EReal.coe_neg, EReal.coe_le_coe_iff]
      have := Real.exp_pos (A n s * C n - T)
      linarith
    unfold amP
    simp only [hw, hm]
    exact sup_at _ (s0 n) fun j => EReal.coe_le_coe_iff.2 (Real.exp_le_exp.2 (sub_le_sub_right (mul_le_mul_of_nonneg_right (h0 n j) (hC n)) T))
  have hfine : ∀ n, Fine (Real.exp (A n (s0 n) * C n - T) : EReal) := by
    intro n
    refine ⟨_, rfl, (Real.exp_pos _).le, lt_of_le_of_lt (Real.exp_le_one_iff.2 (sub_nonpos.2 (hle n (s0 n)))) (by norm_num)⟩
  have hk : ∀ n, kscale (Real.exp (A n (s0 n) * C n - T) : EReal) = (((2 : ℝ) ^ ex (Real.exp (A n (s0 n) * C n - T) : EReal) : ℝ) : EReal) := fun n =>
    (kscale_eq_rscale (hfine n)).trans (rscale_eq _)
  have hpq : ∀ n s, pqOf (fun n s => (A n s : EReal)) (fun n => (C n : EReal)) n s
      = ((Real.exp (A n s * C n - T) * (2 : ℝ) ^ (-ex (Real.exp (A n (s0 n) * C n - T) : EReal)) : ℝ) : EReal) := by
    intro n s
    unfold pqOf
    rw [htop, ham, kexp_eq _ (hfine n).lt_top, sitofp_eq, show log2e = (((Real.log 2)⁻¹ : ℝ) : EReal) from rfl]
    rw [← EReal.coe_mul, ← EReal.coe_mul, ← EReal.coe_mul, ← EReal.coe_add, ← EReal.coe_sub, Ideal.exp2_coe, exp_shift]
    rfl
  have hden : (∑ r : Fin 8, ∑ n : Fin 16, (∑ g : Fin 16, pqOf (fun n s => (A n s : EReal)) (fun n => (C n : EReal)) n ⟨g.val * 8 + r.val, by omega⟩) * kscale (amOf (fun n s => (A n s : EReal)) (fun n => (C n : EReal)) n))
      = ∑ p : Fin 16 × Fin 128, wP (fun n s => (A n s : EReal)) (fun n => (C n : EReal)) p.1 p.2 := by
    simp only [hpq, ham, hk, hw, coe_sum, ← EReal.coe_mul]
    rw [← sum_rows fun n s => Real.exp (A n s * C n - T)]
    refine congrArg _ (Finset.sum_congr rfl fun r _ => Finset.sum_congr rfl fun n _ => ?_)
    rw [← Finset.sum_mul, mul_assoc, ← zpow_add₀ (by norm_num), neg_add_cancel, zpow_zero, mul_one]
  unfold tileVal plainVal
  rw [hden]
  refine congrArg (fun x => Ideal.div x _) (Finset.sum_congr rfl fun n _ => ?_)
  rw [ham, hamP, kscale_eq_rscale (hfine n)]
  refine congrArg (· * _) (Finset.sum_congr rfl fun s _ => ?_)
  rw [hpq, hw, rinv_eq, ← EReal.coe_mul, min_comm, max_comm]

end Cert.AttnEq
-- ==== Proof.Equal.lean ====
module

public import proofs.«01_k».proof.Defs
public import proofs.«01_k».proof.Proof.Kept
public import proofs.«01_k».proof.Proof.RefVals
public import proofs.«01_k».proof.Proof.AttnEq
public import proofs.«01_k».proof.Proof.Gen.Pre_in_range

/-! The results of the kernel and of the reference are equal, at inputs in range. -/

@[expose] public section

set_option maxRecDepth 16384

noncomputable section

namespace Cert.Equal

open Idealize.ShloMosaic Idealize.ShloMosaic.TcCoe Idealize.SL.Sem
open Cert.Scale
open Cert.KernelIdeal.Body (mag qmaxG kmaxG clipG qcG kcG qsG ksG scoreG cscaleG yV yG)
open Cert.KernelIdeal (S8x2048x4096 S8x2048x1024 S8x8x16x1024 S8x8x16x128)

/-- bfloat16's greatest finite number. -/
theorem top_bf16 : Ideal.ofBits .f32 0x7F7F0000#32 = ((255 * 2 ^ 120 : ℝ) : EReal) := by
  have e1 : ((0x7F7F0000#32).extractLsb' (8 + 23) 1 == 1#1) = false := by decide
  have e2 : ((0x7F7F0000#32).extractLsb' 23 8).toNat = 254 := by decide
  have e3 : ((0x7F7F0000#32).extractLsb' 0 23).toNat = 8323072 := by decide
  simp only [Ideal.ofBits]
  unfold Ideal.ieee
  rw [e1, e2, e3]
  norm_num

theorem fine_mag {x : EReal} (h : mag x ≤ Ideal.ofBits .f32 0x7F7F0000#32) : Fine (mag x) := by
  rw [top_bf16] at h
  have h0 := Cert.KernelIdeal.Body.mag_nonneg x
  have ht : mag x ≠ ⊤ := ne_of_lt (lt_of_le_of_lt h (EReal.coe_lt_top _))
  have hb : mag x ≠ ⊥ := ne_of_gt (lt_of_lt_of_le EReal.bot_lt_zero h0)
  lift mag x to ℝ using ⟨ht, hb⟩ with r hr
  refine ⟨r, rfl, EReal.coe_nonneg.1 h0, lt_of_le_of_lt (EReal.coe_le_coe_iff.1 h) ?_⟩
  norm_num

/-- An array in range. -/
def InRange {S : Shape} (x : S.Idx → EReal) : Prop := ∀ i, mag (x i) ≤ Ideal.ofBits .f32 0x7F7F0000#32

theorem fine_sup {ι : Type} [Fintype ι] [Nonempty ι] (f : ι → EReal) (h : ∀ i, Fine (f i)) : Fine (Finset.univ.sup f) := by
  obtain ⟨i, -, e⟩ := Finset.exists_mem_eq_sup Finset.univ Finset.univ_nonempty f
  rw [e]; exact h i

theorem fine_q {x : S8x2048x4096.Idx → EReal} (h : InRange x) (b : Fin 8) (n : Fin 16) (j : Fin 64) : Fine (qmaxG x b n j) :=
  fine_sup _ fun d => fine_sup _ fun r => fine_mag (h _)

theorem fine_k {x : S8x2048x1024.Idx → EReal} (h : InRange x) (b : Fin 8) (n : Fin 16) (j : Fin 16) : Fine (kmaxG x b n j) :=
  fine_sup _ fun d => fine_sup _ fun r => fine_mag (h _)

theorem sup_pair (f : Fin 128 → Fin 64 → EReal) :
    (Finset.univ.sup fun p : Fin 128 × Fin 64 => f p.1 p.2) = Finset.univ.sup fun d : Fin 64 => Finset.univ.sup fun r : Fin 128 => f r d := by
  rw [← Finset.univ_product_univ, Finset.sup_product_right]

theorem amaxQ_eq (x : S8x2048x4096.Idx → EReal) (b : Fin 8) (n : Fin 16) (z z' : Fin 1) (j : Fin 64) :
    Cert.ReferenceIdeal.Value.amaxQ (Cert.ReferenceIdeal.Value.blkQ x) (ix5 b n z j z') = qmaxG x b n j := by
  rw [Cert.ReferenceIdeal.Value.amaxQ_apply, sup_pair (fun r d => mag (Cert.ReferenceIdeal.Value.blkQ x (ix5 b n r j d)))]
  simp only [Cert.ReferenceIdeal.Value.blkQ_apply]
  rfl

theorem amaxK_eq (x : S8x2048x1024.Idx → EReal) (b : Fin 8) (n : Fin 16) (z z' : Fin 1) (j : Fin 16) :
    Cert.ReferenceIdeal.Value.amaxK (Cert.ReferenceIdeal.Value.blkK x) (ix5 b n z j z') = kmaxG x b n j := by
  rw [Cert.ReferenceIdeal.Value.amaxK_apply, sup_pair (fun r d => mag (Cert.ReferenceIdeal.Value.blkK x (ix5 b n r j d)))]
  simp only [Cert.ReferenceIdeal.Value.blkK_apply]
  rfl

theorem scalesQ (x : S8x2048x4096.Idx → EReal) (h : InRange x) :
    Cert.ReferenceIdeal.Value.lanesQ (Cert.ReferenceIdeal.Value.scaleQ (Cert.ReferenceIdeal.Value.amaxQ (Cert.ReferenceIdeal.Value.blkQ x))) = qsG x := by
  funext y
  obtain ⟨b, p, n, l, rfl⟩ : ∃ (b p : Fin 8) (n : Fin 16) (l : Fin 1024), y = (ix4 b p n l : S8x8x16x1024.Idx) :=
    ⟨y 0, y 1, y 2, y 3, funext fun a => by match a with | ⟨0, _⟩ => rfl | ⟨1, _⟩ => rfl | ⟨2, _⟩ => rfl | ⟨3, _⟩ => rfl⟩
  rw [Cert.ReferenceIdeal.Value.lanesQ_apply, Cert.ReferenceIdeal.Value.scaleQ_apply, amaxQ_eq]
  exact (kscale_eq_rscale (fine_q h _ _ _)).symm

theorem scalesK (x : S8x2048x1024.Idx → EReal) (h : InRange x) :
    Cert.ReferenceIdeal.Value.lanesK (Cert.ReferenceIdeal.Value.scaleK (Cert.ReferenceIdeal.Value.amaxK (Cert.ReferenceIdeal.Value.blkK x))) = ksG x := by
  funext y
  obtain ⟨b, p, n, l, rfl⟩ : ∃ (b p : Fin 8) (n : Fin 16) (l : Fin 128), y = (ix4 b p n l : S8x8x16x128.Idx) :=
    ⟨y 0, y 1, y 2, y 3, funext fun a => by match a with | ⟨0, _⟩ => rfl | ⟨1, _⟩ => rfl | ⟨2, _⟩ => rfl | ⟨3, _⟩ => rfl⟩
  rw [Cert.ReferenceIdeal.Value.lanesK_apply, Cert.ReferenceIdeal.Value.scaleK_apply, amaxK_eq]
  exact (kscale_eq_rscale (fine_k h _ _ _)).symm

theorem clip_comm (x s : EReal) : min (max (x * s) (Ideal.ofBits .f32 0xC3E00000#32)) (Ideal.ofBits .f32 0x43E00000#32) = clipG x s := by
  unfold clipG
  rw [min_comm, max_comm]

theorem codesQ (x : S8x2048x4096.Idx → EReal) (h : InRange x) :
    shapeCast S8x2048x4096 (Cert.ReferenceIdeal.Value.codesQ (Cert.ReferenceIdeal.Value.blkQ x)) Cert.ReferenceIdeal.Gen.shapeCasts_S8x16x128x64x64_S8x2048x4096 = qcG x := by
  funext y
  obtain ⟨b, r, l, rfl⟩ : ∃ (b : Fin 8) (r : Fin 2048) (l : Fin 4096), y = (ix3 b r l : S8x2048x4096.Idx) :=
    ⟨y 0, y 1, y 2, funext fun a => by match a with | ⟨0, _⟩ => rfl | ⟨1, _⟩ => rfl | ⟨2, _⟩ => rfl⟩
  refine (Cert.ReferenceIdeal.Value.codeQ_at b r l).trans ?_
  rw [Cert.ReferenceIdeal.Value.codesQ_apply, amaxQ_eq, clip_comm, Cert.ReferenceIdeal.Value.blkQ_apply, ← kinv_eq_rinv (fine_q h _ _ _)]
  unfold qcG
  have e1 : (⟨(⟨r.val / 128, by omega⟩ : Fin 16).val * 128 + (⟨r.val % 128, by omega⟩ : Fin 128).val, by simp only; omega⟩ : Fin 2048) = r := Fin.ext (by simp only; omega)
  have e2 : (⟨(⟨l.val / 64, by omega⟩ : Fin 64).val * 64 + (⟨l.val % 64, by omega⟩ : Fin 64).val, by simp only; omega⟩ : Fin 4096) = l := Fin.ext (by simp only; omega)
  rw [e1, e2]
  rfl

theorem codesK (x : S8x2048x1024.Idx → EReal) (h : InRange x) :
    shapeCast S8x2048x1024 (Cert.ReferenceIdeal.Value.codesK (Cert.ReferenceIdeal.Value.blkK x)) Cert.ReferenceIdeal.Gen.shapeCasts_S8x16x128x16x64_S8x2048x1024 = kcG x := by
  funext y
  obtain ⟨b, r, l, rfl⟩ : ∃ (b : Fin 8) (r : Fin 2048) (l : Fin 1024), y = (ix3 b r l : S8x2048x1024.Idx) :=
    ⟨y 0, y 1, y 2, funext fun a => by match a with | ⟨0, _⟩ => rfl | ⟨1, _⟩ => rfl | ⟨2, _⟩ => rfl⟩
  refine (Cert.ReferenceIdeal.Value.code_at b r l).trans ?_
  rw [Cert.ReferenceIdeal.Value.codesK_apply, amaxK_eq, clip_comm, Cert.ReferenceIdeal.Value.blkK_apply, ← kinv_eq_rinv (fine_k h _ _ _)]
  unfold kcG
  have e1 : (⟨(⟨r.val / 128, by omega⟩ : Fin 16).val * 128 + (⟨r.val % 128, by omega⟩ : Fin 128).val, by simp only; omega⟩ : Fin 2048) = r := Fin.ext (by simp only; omega)
  have e2 : (⟨(⟨l.val / 64, by omega⟩ : Fin 16).val * 64 + (⟨l.val % 64, by omega⟩ : Fin 64).val, by simp only; omega⟩ : Fin 1024) = l := Fin.ext (by simp only; omega)
  rw [e1, e2]
  rfl

/-! ### The attention result -/

theorem hi_f32 : Ideal.ofBits .f32 1138753536#32 = ((448 : ℝ) : EReal) := by
  have e1 : ((1138753536#32).extractLsb' (8 + 23) 1 == 1#1) = false := by decide
  have e2 : ((1138753536#32).extractLsb' 23 8).toNat = 135 := by decide
  have e3 : ((1138753536#32).extractLsb' 0 23).toNat = 6291456 := by decide
  simp only [Ideal.ofBits]
  unfold Ideal.ieee
  rw [e1, e2, e3]
  norm_num

theorem lo_f32 : Ideal.ofBits .f32 3286237184#32 = ((-448 : ℝ) : EReal) := by
  have e1 : ((3286237184#32).extractLsb' (8 + 23) 1 == 1#1) = true := by decide
  have e2 : ((3286237184#32).extractLsb' 23 8).toNat = 135 := by decide
  have e3 : ((3286237184#32).extractLsb' 0 23).toNat = 6291456 := by decide
  simp only [Ideal.ofBits]
  unfold Ideal.ieee
  rw [e1, e2, e3]
  norm_num

theorem eighth_f32 : Ideal.ofBits .f32 1040187392#32 = ((1 / 8 : ℝ) : EReal) := by
  have e1 : ((1040187392#32).extractLsb' (8 + 23) 1 == 1#1) = false := by decide
  have e2 : ((1040187392#32).extractLsb' 23 8).toNat = 124 := by decide
  have e3 : ((1040187392#32).extractLsb' 0 23).toNat = 0 := by decide
  simp only [Ideal.ofBits]
  unfold Ideal.ieee
  rw [e1, e2, e3]
  norm_num

theorem clip_real (x s : EReal) : ∃ r : ℝ, clipG x s = (r : EReal) := by
  have h1 : clipG x s ≤ ((448 : ℝ) : EReal) := by rw [← hi_f32]; exact min_le_left _ _
  have h2 : ((-448 : ℝ) : EReal) ≤ clipG x s := by
    refine le_min ?_ ?_
    · rw [hi_f32]; exact EReal.coe_le_coe_iff.2 (by norm_num)
    · rw [lo_f32]; exact le_max_left _ _
  have ht : clipG x s ≠ ⊤ := ne_of_lt (lt_of_le_of_lt h1 (EReal.coe_lt_top _))
  have hb : clipG x s ≠ ⊥ := ne_of_gt (lt_of_lt_of_le (EReal.bot_lt_coe _) h2)
  exact ⟨(clipG x s).toReal, (EReal.coe_toReal ht hb).symm⟩

theorem score_real (x0 : S8x2048x4096.Idx → EReal) (x1 : S8x2048x1024.Idx → EReal) (b : Fin 8) (r : Fin 2048) (c : Fin 4096) (n : Fin 16) (s : Fin 128) :
    ∃ a : ℝ, scoreG x0 x1 b r c n s = (a : EReal) := by
  have h : ∀ (k : S8x2048x1024.Idx) (q : S8x2048x4096.Idx), ∃ a : ℝ, kcG x1 k * qcG x0 q = (a : EReal) := by
    intro k q
    obtain ⟨u, hu⟩ : ∃ u : ℝ, kcG x1 k = (u : EReal) := clip_real _ _
    obtain ⟨w, hw⟩ : ∃ w : ℝ, qcG x0 q = (w : EReal) := clip_real _ _
    exact ⟨u * w, by rw [hu, hw, EReal.coe_mul]⟩
  choose a ha using h
  unfold scoreG
  simp only [ha, Cert.AttnEq.coe_sum]
  exact ⟨_, rfl⟩

theorem cscale_real {x0 : S8x2048x4096.Idx → EReal} {x1 : S8x2048x1024.Idx → EReal} (h0 : InRange x0) (h1 : InRange x1) (b : Fin 8) (r : Fin 2048) (c : Fin 4096) (n : Fin 16) :
    ∃ a : ℝ, cscaleG x0 x1 b r c n = (a : EReal) ∧ 0 ≤ a := by
  unfold cscaleG
  rw [kscale_eq_rscale (fine_q h0 _ _ _), kscale_eq_rscale (fine_k h1 _ _ _), rscale_eq, rscale_eq, eighth_f32, ← EReal.coe_mul, ← EReal.coe_mul]
  exact ⟨_, rfl, by positivity⟩

theorem plain_congr {a a' : Fin 16 → Fin 128 → EReal} {cs cs' vs vs' : Fin 16 → EReal} {v v' : Fin 16 → Fin 128 → EReal} (h1 : ∀ n s, a n s = a' n s) (h2 : ∀ n, cs n = cs' n)
    (h3 : ∀ n, vs n = vs' n) (h4 : ∀ n s, v n s = v' n s) : Cert.AttnEq.plainVal a cs vs v = Cert.AttnEq.plainVal a' cs' vs' v' := by
  rw [funext fun n => funext (h1 n), funext h2, funext h3, funext fun n => funext (h4 n)]

theorem codeK_at (x : S8x2048x1024.Idx → EReal) (h : InRange x) (b : Fin 8) (n : Fin 16) (s : Fin 128) (k : Fin 16) (d : Fin 64) (r : Fin 2048) (l : Fin 1024)
    (hr : r.val = 128 * n.val + s.val) (hl : l.val = 64 * k.val + d.val) :
    Cert.ReferenceIdeal.Value.codesK (Cert.ReferenceIdeal.Value.blkK x) (ix5 b n s k d) = kcG x (ix3 b r l) := by
  rw [← codesK x h, Cert.ReferenceIdeal.Value.code_at]
  rw [show (⟨r.val / 128, by omega⟩ : Fin 16) = n from Fin.ext (by dsimp only; omega), show (⟨r.val % 128, by omega⟩ : Fin 128) = s from Fin.ext (by dsimp only; omega),
    show (⟨l.val / 64, by omega⟩ : Fin 16) = k from Fin.ext (by dsimp only; omega), show (⟨l.val % 64, by omega⟩ : Fin 64) = d from Fin.ext (by dsimp only; omega)]

theorem codeQ_at (x : S8x2048x4096.Idx → EReal) (h : InRange x) (b : Fin 8) (n : Fin 16) (s : Fin 128) (k : Fin 64) (d : Fin 64) (r : Fin 2048) (l : Fin 4096)
    (hr : r.val = 128 * n.val + s.val) (hl : l.val = 64 * k.val + d.val) :
    Cert.ReferenceIdeal.Value.codesQ (Cert.ReferenceIdeal.Value.blkQ x) (ix5 b n s k d) = qcG x (ix3 b r l) := by
  rw [← codesQ x h, Cert.ReferenceIdeal.Value.codeQ_at]
  rw [show (⟨r.val / 128, by omega⟩ : Fin 16) = n from Fin.ext (by dsimp only; omega), show (⟨r.val % 128, by omega⟩ : Fin 128) = s from Fin.ext (by dsimp only; omega),
    show (⟨l.val / 64, by omega⟩ : Fin 64) = k from Fin.ext (by dsimp only; omega), show (⟨l.val % 64, by omega⟩ : Fin 64) = d from Fin.ext (by dsimp only; omega)]

theorem scaleK_at (x : S8x2048x1024.Idx → EReal) (h : InRange x) (b : Fin 8) (n : Fin 16) (k : Fin 16) :
    Cert.ReferenceIdeal.Value.scaleK (Cert.ReferenceIdeal.Value.amaxK (Cert.ReferenceIdeal.Value.blkK x)) (ix5 b n (0 : Fin 1) k (0 : Fin 1)) = kscale (kmaxG x b n k) := by
  rw [Cert.ReferenceIdeal.Value.scaleK_apply, amaxK_eq]
  exact (kscale_eq_rscale (fine_k h _ _ _)).symm

theorem scaleQ_at (x : S8x2048x4096.Idx → EReal) (h : InRange x) (b : Fin 8) (n : Fin 16) (k : Fin 64) :
    Cert.ReferenceIdeal.Value.scaleQ (Cert.ReferenceIdeal.Value.amaxQ (Cert.ReferenceIdeal.Value.blkQ x)) (ix5 b n (0 : Fin 1) k (0 : Fin 1)) = kscale (qmaxG x b n k) := by
  rw [Cert.ReferenceIdeal.Value.scaleQ_apply, amaxQ_eq]
  exact (kscale_eq_rscale (fine_q h _ _ _)).symm

open Cert.ReferenceIdeal.Value (fromS sR dotR csR blkQ blkK amaxQ amaxK scaleQ scaleK dotR_apply csR_apply) in
theorem attention (x0 : S8x2048x4096.Idx → EReal) (x1 x2 : S8x2048x1024.Idx → EReal) (h0 : InRange x0) (h1 : InRange x1) (h2 : InRange x2) :
    fromS (sR (dotR (Cert.ReferenceIdeal.Value.codesK (blkK x1)) (Cert.ReferenceIdeal.Value.codesQ (blkQ x0))) (csR (scaleQ (amaxQ (blkQ x0))) (scaleK (amaxK (blkK x1)))))
      (Cert.ReferenceIdeal.Value.codesK (blkK x2)) (scaleK (amaxK (blkK x2))) = yG x0 x1 x2 := by
  funext y
  obtain ⟨b, r, c, rfl⟩ : ∃ (b : Fin 8) (r : Fin 2048) (c : Fin 4096), y = (ix3 b r c : S8x2048x4096.Idx) :=
    ⟨y 0, y 1, y 2, funext fun a => by match a with | ⟨0, _⟩ => rfl | ⟨1, _⟩ => rfl | ⟨2, _⟩ => rfl⟩
  refine (Cert.AttnEq.fromS_apply _ _ _ _ b r c).trans ?_
  show _ = yV x0 x1 x2 b r c
  have hA := score_real x0 x1 b r c
  have hC := cscale_real h0 h1 b r c
  choose A hA using hA
  choose C hC hp using hC
  unfold yV
  rw [show scoreG x0 x1 b r c = fun n s => (A n s : EReal) from funext fun n => funext (hA n), show cscaleG x0 x1 b r c = fun n => (C n : EReal) from funext hC,
    Cert.AttnEq.tile_eq A C hp]
  refine plain_congr (fun n s => ?_) (fun n => ?_) (fun n => scaleK_at x2 h2 _ _ _) fun n s => ?_
  · rw [← hA, dotR_apply]
    refine Finset.sum_congr rfl fun d _ => congrArg₂ (· * ·) (codeK_at x1 h1 _ _ _ _ _ _ _ rfl rfl) (codeQ_at x0 h0 _ _ _ _ _ _ _ ?_ ?_)
    · dsimp only; omega
    · dsimp only; omega
  · rw [← hC, csR_apply, scaleQ_at x0 h0, scaleK_at x1 h1]
    refine congrArg (fun u => kscale (qmaxG x0 b _ u) * Ideal.ofBits .f32 1040187392#32 * _) (Fin.ext ?_)
    dsimp only
    omega
  · exact codeK_at x2 h2 _ _ _ _ _ _ _ rfl rfl

theorem of_ole {a b : EReal} (h : FloatOps.cmpf (F := Ideal) (φ := .f32) .ole a b = 1#1) : a ≤ b := by
  by_contra hn
  have : FloatOps.cmpf (F := Ideal) (φ := .f32) .ole a b = BitVec.ofBool (decide (a ≤ b)) := rfl
  rw [this, decide_eq_false hn] at h
  exact absurd h (by decide)

theorem inRange_of {m : (ℓ : Loc Cert.KernelIdeal.nD Cert.KernelIdeal.τ Cert.KernelIdeal.sig) → Buf (Elt Ideal) ℓ} (h : Cert.Pre_KernelIdeal_in_range m) (c : Dev Cert.KernelIdeal.nD) :
    InRange (m ((c.tc : Thread Cert.KernelIdeal.nD Cert.KernelIdeal.τ).loc Cert.KernelIdeal.main_arg0) : S8x2048x4096.Idx → EReal)
    ∧ InRange (m ((c.tc : Thread Cert.KernelIdeal.nD Cert.KernelIdeal.τ).loc Cert.KernelIdeal.main_arg1) : S8x2048x1024.Idx → EReal)
    ∧ InRange (m ((c.tc : Thread Cert.KernelIdeal.nD Cert.KernelIdeal.τ).loc Cert.KernelIdeal.main_arg2) : S8x2048x1024.Idx → EReal) := by
  obtain ⟨h0, h1, h2⟩ := h c
  exact ⟨fun i => of_ole (congrFun h0 i), fun i => of_ole (congrFun h1 i), fun i => of_ole (congrFun h2 i)⟩

theorem algebraic : Cert.algebraic_KernelIdeal_ReferenceIdeal_pre_in_range := by
  intro m g m' g' hpre hargs
  refine ⟨fun c => yG (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => qcG (m ((c.tc : Thread Cert.KernelIdeal.nD Cert.KernelIdeal.τ).loc Cert.KernelIdeal.main_arg0)),
    fun c => qsG (m ((c.tc : Thread Cert.KernelIdeal.nD Cert.KernelIdeal.τ).loc Cert.KernelIdeal.main_arg0)),
    fun c => kcG (m ((c.tc : Thread Cert.KernelIdeal.nD Cert.KernelIdeal.τ).loc Cert.KernelIdeal.main_arg1)),
    fun c => ksG (m ((c.tc : Thread Cert.KernelIdeal.nD Cert.KernelIdeal.τ).loc Cert.KernelIdeal.main_arg1)),
    fun c => kcG (m ((c.tc : Thread Cert.KernelIdeal.nD Cert.KernelIdeal.τ).loc Cert.KernelIdeal.main_arg2)),
    fun c => ksG (m ((c.tc : Thread Cert.KernelIdeal.nD Cert.KernelIdeal.τ).loc Cert.KernelIdeal.main_arg2)), ?_, ?_⟩
  · refine (θ_run _ _ _).mono (fun r h c => ?_) (Cert.KernelIdeal.Body.run_kept m g)
    have H := h.1 c
    refine ⟨?_, ?_, ?_, ?_, ?_, ?_, ?_, ?_, ?_, ?_⟩
    · exact ((Pipeline.Dat.toRForget_arrAt_iff _ (fgt := Cert.KernelIdeal.Body.fgt) (w := 3) rfl _ _).1 (H.1 3)).trans (Cert.KernelIdeal.Body.final3 m c)
    · exact ((Pipeline.Dat.toRForget_arrAt_iff _ (fgt := Cert.KernelIdeal.Body.fgt) (w := 4) rfl _ _).1 (H.1 4)).trans (Cert.KernelIdeal.Body.final4 m c)
    · exact ((Pipeline.Dat.toRForget_arrAt_iff _ (fgt := Cert.KernelIdeal.Body.fgt) (w := 5) rfl _ _).1 (H.1 5)).trans (Cert.KernelIdeal.Body.final5 m c)
    · exact ((Pipeline.Dat.toRForget_arrAt_iff _ (fgt := Cert.KernelIdeal.Body.fgt) (w := 6) rfl _ _).1 (H.1 6)).trans (Cert.KernelIdeal.Body.final6 m c)
    · exact ((Pipeline.Dat.toRForget_arrAt_iff _ (fgt := Cert.KernelIdeal.Body.fgt) (w := 7) rfl _ _).1 (H.1 7)).trans (Cert.KernelIdeal.Body.final7 m c)
    · exact ((Pipeline.Dat.toRForget_arrAt_iff _ (fgt := Cert.KernelIdeal.Body.fgt) (w := 8) rfl _ _).1 (H.1 8)).trans (Cert.KernelIdeal.Body.final8 m c)
    · exact ((Pipeline.Dat.toRForget_arrAt_iff _ (fgt := Cert.KernelIdeal.Body.fgt) (w := 9) rfl _ _).1 (H.1 9)).trans (Cert.KernelIdeal.Body.final9 m c)
    · exact (h.1.arr_in c 0 rfl).trans (Cert.KernelIdeal.Gen.V_main_arg0 m c)
    · exact (h.1.arr_in c 1 rfl).trans (Cert.KernelIdeal.Gen.V_main_arg1 m c)
    · exact (h.1.arr_in c 2 rfl).trans (Cert.KernelIdeal.Gen.V_main_arg2 m c)
  · refine (θ_run _ _ _).mono (fun r h c => ?_) (Cert.ReferenceIdeal.Gen.run_main m' g')
    obtain ⟨a0, a1, a2⟩ := hargs c
    obtain ⟨r0, r1, r2⟩ := inRange_of hpre c
    dsimp only
    rw [← a0] at r0 ⊢
    rw [← a1] at r1 ⊢
    rw [← a2] at r2 ⊢
    refine ⟨?_, ?_, ?_, ?_, ?_, ?_, ?_, ?_, ?_, ?_⟩
    · exact ((h c).2 Cert.ReferenceIdeal.main_v204 (Pipeline.mem_restRefs_of Cert.ReferenceIdeal.main_v204 (by decide) (by decide))).trans ((Cert.ReferenceIdeal.Value.V_v204 m' c).trans (attention _ _ _ r0 r1 r2))
    · exact (Cert.ReferenceIdeal.Value.post3 m' r h c).trans ((Cert.ReferenceIdeal.Value.final3 m' c).trans ((Cert.ReferenceIdeal.Value.V_v217 m' c).trans (codesQ _ r0)))
    · exact ((h c).2 Cert.ReferenceIdeal.main_v208 (Pipeline.mem_restRefs_of Cert.ReferenceIdeal.main_v208 (by decide) (by decide))).trans ((Cert.ReferenceIdeal.Value.V_v208 m' c).trans (scalesQ _ r0))
    · exact (Cert.ReferenceIdeal.Value.post4 m' r h c).trans ((Cert.ReferenceIdeal.Value.final4 m' c).trans ((Cert.ReferenceIdeal.Value.V_v218 m' c).trans (codesK _ r1)))
    · exact ((h c).2 Cert.ReferenceIdeal.main_v212 (Pipeline.mem_restRefs_of Cert.ReferenceIdeal.main_v212 (by decide) (by decide))).trans ((Cert.ReferenceIdeal.Value.V_v212 m' c).trans (scalesK _ r1))
    · exact (Cert.ReferenceIdeal.Value.post5 m' r h c).trans ((Cert.ReferenceIdeal.Value.final5 m' c).trans ((Cert.ReferenceIdeal.Value.V_v219 m' c).trans (codesK _ r2)))
    · exact ((h c).2 Cert.ReferenceIdeal.main_v216 (Pipeline.mem_restRefs_of Cert.ReferenceIdeal.main_v216 (by decide) (by decide))).trans ((Cert.ReferenceIdeal.Value.V_v216 m' c).trans (scalesK _ r2))
    · exact Cert.ReferenceIdeal.Value.kept_main_arg0 m' r h c
    · exact Cert.ReferenceIdeal.Value.kept_main_arg1 m' r h c
    · exact Cert.ReferenceIdeal.Value.kept_main_arg2 m' r h c

end Cert.Equal
-- ==== Proof.lean ====
module

public import proofs.«01_k».proof.Defs
public import proofs.«01_k».proof.Proof.FrameKernel
public import proofs.«01_k».proof.Proof.FrameIdeal
public import proofs.«01_k».proof.Proof.Equal
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_in_range
public import Idealize.ShloMosaic.Adequacy
public import Idealize.ShloMosaic.Init

@[expose] public section

noncomputable section

namespace Cert.Proof

open Idealize.ShloMosaic Idealize.SL.Sem

/-- The named constant is the literal's reading. -/
theorem preserves : Cert.preserves_Kernel_KernelIdeal :=
  IdealRules.named_const.statement Cert.KernelIdeal.κ "log2_e" .f32 0x3FB8AA3B#32 _ rfl

theorem claim : Cert.Claim := ⟨Cert.Kernel.Gen.facts, Cert.KernelIdeal.Gen.facts, Cert.ReferenceIdeal.Gen.facts, Cert.Pre_in_range.Gen.facts,
  fun m g _ => Cert.Kernel.Body.frame_claim m g, fun m g _ => Cert.KernelIdeal.Body.frame_claim m g, fun m g _ => Cert.KernelIdeal.Body.frame_claim m g,
  fun m g _ => Cert.ReferenceIdeal.Gen.frame m g, fun m g _ => Cert.ReferenceIdeal.Gen.frame m g, preserves, Cert.Equal.algebraic⟩

end Cert.Proof

end
